-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_symbols_named_scores_finite [hPre_symbols_named_scores_finite : Cert.Pre_symbols_named_scores_finite.Facts] (m : (ℓ : Loc Cert.KernelIdeal.nD Cert.KernelIdeal.τ Cert.KernelIdeal.sig) → Buf (Elt Ideal) ℓ) : Prop :=
  ∀ c : Dev Cert.KernelIdeal.nD,
    (Cert.Pre_symbols_named_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_symbols_named_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_symbols_named_scores_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_symbols_named_scores_finite [hPre_symbols_named_scores_finite : Cert.Pre_symbols_named_scores_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_symbols_named_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_symbols_named_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_symbols_named_scores_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_symbols_named_scores_finite [hKernelIdeal : Cert.KernelIdeal.Facts] [hPre_symbols_named_scores_finite : Cert.Pre_symbols_named_scores_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_symbols_named_scores_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_symbols_named_scores_finite [hReferenceIdeal : Cert.ReferenceIdeal.Facts] [hPre_symbols_named_scores_finite : Cert.Pre_symbols_named_scores_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_symbols_named_scores_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_symbols_named_scores_finite [hKernelIdeal : Cert.KernelIdeal.Facts] [hReferenceIdeal : Cert.ReferenceIdeal.Facts] [hPre_symbols_named_scores_finite : Cert.Pre_symbols_named_scores_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_symbols_named_scores_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_symbols_named_scores_finite : Cert.Pre_symbols_named_scores_finite.Facts),
    quiescent_Kernel (hKernel := hKernel)
    ∧ quiescent_KernelIdeal (hKernelIdeal := hKernelIdeal)
    ∧ quiescent_KernelIdeal_pre_symbols_named_scores_finite (hKernelIdeal := hKernelIdeal) (hPre_symbols_named_scores_finite := hPre_symbols_named_scores_finite)
    ∧ quiescent_ReferenceIdeal (hReferenceIdeal := hReferenceIdeal)
    ∧ quiescent_ReferenceIdeal_pre_symbols_named_scores_finite (hReferenceIdeal := hReferenceIdeal) (hPre_symbols_named_scores_finite := hPre_symbols_named_scores_finite)
    ∧ preserves_Kernel_KernelIdeal
    ∧ algebraic_KernelIdeal_ReferenceIdeal_pre_symbols_named_scores_finite (hKernelIdeal := hKernelIdeal) (hReferenceIdeal := hReferenceIdeal) (hPre_symbols_named_scores_finite := hPre_symbols_named_scores_finite)
-- ==== Pre_symbols_named_scores_finite.lean ====
abbrev S64x512 : Shape := ⟨2, ![64, 512]⟩
abbrev S512 : Shape := ⟨1, ![512]⟩
abbrev S512x512 : Shape := ⟨2, ![512, 512]⟩
abbrev S512x2048 : Shape := ⟨2, ![512, 2048]⟩
abbrev S_ : Shape := ⟨0, ![]⟩

class Facts : Prop where
  bcast_S_S64x512 : S_.BroadcastsInDim S64x512 (![] : Fin 0 → Fin S64x512.rank)
  bcast_S_S512x512 : S_.BroadcastsInDim S512x512 (![] : Fin 0 → Fin S512x512.rank)
  bcast_S_S512x2048 : S_.BroadcastsInDim S512x2048 (![] : Fin 0 → Fin S512x2048.rank)

variable [Facts]

def fn {F : FTy → Type} [FloatOps F] (main_arg0 : IVec S64x512 32) (main_arg1 : FVec F S512 .f32) (main_arg2 : FVec F S512x512 .f32) (main_arg3 : FVec F S512x2048 .f32) : IVec S64x512 1 × IVec S512x512 1 × IVec S512x2048 1 :=
  let main_c : IVec S_ 32 := constantI S_ 32 0#32
  let main_v0 : IVec S64x512 32 := broadcastInDim S64x512 ![] bcast_S_S64x512 main_c
  let main_v1 : IVec S64x512 1 := cmpi .sge main_arg0 main_v0
  let main_c_0 : IVec S_ 32 := constantI S_ 32 2048#32
  let main_v2 : IVec S64x512 32 := broadcastInDim S64x512 ![] bcast_S_S64x512 main_c_0
  let main_v3 : IVec S64x512 1 := cmpi .slt main_arg0 main_v2
  let main_v4 : IVec S64x512 1 := andi main_v1 main_v3
  let main_v5 : FVec F S512x512 .f32 := Host.absf main_arg2
  let main_cst : FVec F S_ .f32 := constant S_ .f32 0x7F800000#32
  let main_v6 : FVec F S512x512 .f32 := broadcastInDim S512x512 ![] bcast_S_S512x512 main_cst
  let main_v7 : IVec S512x512 1 := cmpf .olt main_v5 main_v6
  let main_v8 : FVec F S512x2048 .f32 := Host.absf main_arg3
  let main_cst_1 : FVec F S_ .f32 := constant S_ .f32 0x7F800000#32
  let main_v9 : FVec F S512x2048 .f32 := broadcastInDim S512x2048 ![] bcast_S_S512x2048 main_cst_1
  let main_v10 : IVec S512x2048 1 := cmpf .olt main_v8 main_v9
  (main_v4, main_v7, main_v10)
-- ==== Kernel.lean ====
abbrev S64x512 : Shape := ⟨2, ![64, 512]⟩
abbrev S512 : Shape := ⟨1, ![512]⟩
abbrev S512x512 : Shape := ⟨2, ![512, 512]⟩
abbrev S512x2048 : Shape := ⟨2, ![512, 2048]⟩
abbrev S512x64 : Shape := ⟨2, ![512, 64]⟩
abbrev S512x1x64 : Shape := ⟨3, ![512, 1, 64]⟩
abbrev S1x512 : Shape := ⟨2, ![1, 512]⟩
abbrev S2048x512 : Shape := ⟨2, ![2048, 512]⟩
abbrev S512x64x512 : Shape := ⟨3, ![512, 64, 512]⟩
abbrev S4x1x64 : Shape := ⟨3, ![4, 1, 64]⟩
abbrev S4x64x512 : Shape := ⟨3, ![4, 64, 512]⟩
abbrev S1x1x64 : Shape := ⟨3, ![1, 1, 64]⟩
abbrev S1x64 : Shape := ⟨2, ![1, 64]⟩
abbrev S64x1 : Shape := ⟨2, ![64, 1]⟩
abbrev S64x2048 : Shape := ⟨2, ![64, 2048]⟩
abbrev S1x64x512 : Shape := ⟨3, ![1, 64, 512]⟩
abbrev S16x64x512 : Shape := ⟨3, ![16, 64, 512]⟩
abbrev S16x1x64 : Shape := ⟨3, ![16, 1, 64]⟩
abbrev S64 : Shape := ⟨1, ![64]⟩

abbrev nBuf : Space → Nat
  | .hbm => 31
  | .vmem => 18
  | .smem => 0
  | _ => 0

abbrev bufTy : (tb : Table) → Fin (tcTables nBuf tb) → BufTy
  | .hbm, ⟨0, _⟩ => ⟨S64x512, .i32⟩
  | .hbm, ⟨1, _⟩ => ⟨S512, .f32⟩
  | .hbm, ⟨2, _⟩ => ⟨S512x512, .f32⟩
  | .hbm, ⟨3, _⟩ => ⟨S512x2048, .f32⟩
  | .hbm, ⟨4, _⟩ => ⟨S512x64, .i32⟩
  | .hbm, ⟨5, _⟩ => ⟨S512x1x64, .i32⟩
  | .hbm, ⟨6, _⟩ => ⟨S1x512, .f32⟩
  | .hbm, ⟨7, _⟩ => ⟨S2048x512, .f32⟩
  | .hbm, ⟨8, _⟩ => ⟨S512x512, .f32⟩
  | .hbm, ⟨9, _⟩ => ⟨S2048x512, .bf16⟩
  | .hbm, ⟨10, _⟩ => ⟨S2048x512, .f32⟩
  | .hbm, ⟨11, _⟩ => ⟨S2048x512, .f32⟩
  | .hbm, ⟨12, _⟩ => ⟨S2048x512, .bf16⟩
  | .hbm, ⟨13, _⟩ => ⟨S2048x512, .f32⟩
  | .hbm, ⟨14, _⟩ => ⟨S2048x512, .f32⟩
  | .hbm, ⟨15, _⟩ => ⟨S2048x512, .bf16⟩
  | .hbm, ⟨16, _⟩ => ⟨S2048x512, .bf16⟩
  | .hbm, ⟨17, _⟩ => ⟨S2048x512, .bf16⟩
  | .hbm, ⟨18, _⟩ => ⟨S512x512, .bf16⟩
  | .hbm, ⟨19, _⟩ => ⟨S512x512, .f32⟩
  | .hbm, ⟨20, _⟩ => ⟨S512x512, .f32⟩
  | .hbm, ⟨21, _⟩ => ⟨S512x512, .bf16⟩
  | .hbm, ⟨22, _⟩ => ⟨S512x512, .f32⟩
  | .hbm, ⟨23, _⟩ => ⟨S512x512, .f32⟩
  | .hbm, ⟨24, _⟩ => ⟨S512x512, .bf16⟩
  | .hbm, ⟨25, _⟩ => ⟨S512x512, .bf16⟩
  | .hbm, ⟨26, _⟩ => ⟨S512x512, .bf16⟩
  | .hbm, ⟨27, _⟩ => ⟨S512x64x512, .f32⟩
  | .hbm, ⟨28, _⟩ => ⟨S512x1x64, .i32⟩
  | .hbm, ⟨29, _⟩ => ⟨S512x64, .i32⟩
  | .hbm, ⟨30, _⟩ => ⟨S64x512, .i32⟩
  | .local _ .vmem, ⟨0, _⟩ => ⟨S4x1x64, .i32⟩
  | .local _ .vmem, ⟨1, _⟩ => ⟨S4x1x64, .i32⟩
  | .local _ .vmem, ⟨2, _⟩ => ⟨S1x512, .f32⟩
  | .local _ .vmem, ⟨3, _⟩ => ⟨S512x512, .f32⟩
  | .local _ .vmem, ⟨4, _⟩ => ⟨S2048x512, .bf16⟩
  | .local _ .vmem, ⟨5, _⟩ => ⟨S2048x512, .bf16⟩
  | .local _ .vmem, ⟨6, _⟩ => ⟨S2048x512, .bf16⟩
  | .local _ .vmem, ⟨7, _⟩ => ⟨S4x64x512, .f32⟩
  | .local _ .vmem, ⟨8, _⟩ => ⟨S4x64x512, .f32⟩
  | .local _ .vmem, ⟨9, _⟩ => ⟨S64x512, .f32⟩
  | .local _ .vmem, ⟨10, _⟩ => ⟨S16x64x512, .f32⟩
  | .local _ .vmem, ⟨11, _⟩ => ⟨S16x64x512, .f32⟩
  | .local _ .vmem, ⟨12, _⟩ => ⟨S512x512, .bf16⟩
  | .local _ .vmem, ⟨13, _⟩ => ⟨S512x512, .bf16⟩
  | .local _ .vmem, ⟨14, _⟩ => ⟨S512x512, .bf16⟩
  | .local _ .vmem, ⟨15, _⟩ => ⟨S16x1x64, .i32⟩
  | .local _ .vmem, ⟨16, _⟩ => ⟨S16x1x64, .i32⟩
  | .local _ .vmem, ⟨17, _⟩ => ⟨S64x1, .i32⟩
  | _, _ => ⟨S64x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg4_1 : Ref sig .tc := ⟨.vmem, 16, rfl⟩
abbrev cc1_scratch0 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc1_sem0_0 : DmaSem sig := 9
abbrev cc1_sem0_1 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem4_1 : DmaSem sig := 15

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x1x64 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2048x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S4x64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let c31_i32 : BitVec 32 := 31#32
  let v0 : BitVec 32 := Scalar.subi c31_i32 arg0
  let c0_i32 : BitVec 32 := 0#32
  let c0_i32_0 : BitVec 32 := 0#32
  let c0_i32_1 : BitVec 32 := 0#32
  ![v0.toNat, c0_i32.toNat, c0_i32_0.toNat]

abbrev stage1_0 : Fin 2 → Memref sig .tc .vmem S16x64x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S512x512 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S512x512 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S512x512 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S16x1x64 .i32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]
-- ==== ReferenceIdeal.lean ====
abbrev S64x512 : Shape := ⟨2, ![64, 512]⟩
abbrev S512 : Shape := ⟨1, ![512]⟩
abbrev S512x512 : Shape := ⟨2, ![512, 512]⟩
abbrev S512x2048 : Shape := ⟨2, ![512, 2048]⟩
abbrev S2048x512 : Shape := ⟨2, ![2048, 512]⟩
abbrev S_ : Shape := ⟨0, ![]⟩
abbrev S64x512x1 : Shape := ⟨3, ![64, 512, 1]⟩
abbrev S1 : Shape := ⟨1, ![1]⟩
abbrev S1x1x1 : Shape := ⟨3, ![1, 1, 1]⟩
abbrev S64x512x512 : Shape := ⟨3, ![64, 512, 512]⟩
abbrev S1x512 : Shape := ⟨2, ![1, 512]⟩
abbrev S64x1x512 : Shape := ⟨3, ![64, 1, 512]⟩
abbrev S64x511x512 : Shape := ⟨3, ![64, 511, 512]⟩
abbrev S511x64x512 : Shape := ⟨3, ![511, 64, 512]⟩
abbrev S1x64x512 : Shape := ⟨3, ![1, 64, 512]⟩
abbrev S1x512x512 : Shape := ⟨3, ![1, 512, 512]⟩
abbrev S64 : Shape := ⟨1, ![64]⟩
abbrev S511x64 : Shape := ⟨2, ![511, 64]⟩
abbrev S64x1 : Shape := ⟨2, ![64, 1]⟩
abbrev S64x1x1 : Shape := ⟨3, ![64, 1, 1]⟩
abbrev S1x64 : Shape := ⟨2, ![1, 64]⟩
abbrev S64x511 : Shape := ⟨2, ![64, 511]⟩

abbrev nBuf : Space → Nat
  | .hbm => 122
  | .vmem => 0
  | .smem => 0
  | _ => 0

abbrev bufTy : (tb : Table) → Fin (tcTables nBuf tb) → BufTy
  | .hbm, ⟨0, _⟩ => ⟨S64x512, .i32⟩
  | .hbm, ⟨1, _⟩ => ⟨S512, .f32⟩
  | .hbm, ⟨2, _⟩ => ⟨S512x512, .f32⟩
  | .hbm, ⟨3, _⟩ => ⟨S512x2048, .f32⟩
  | .hbm, ⟨4, _⟩ => ⟨S2048x512, .f32⟩
  | .hbm, ⟨5, _⟩ => ⟨S_, .i32⟩
  | .hbm, ⟨6, _⟩ => ⟨S64x512, .i32⟩
  | .hbm, ⟨7, _⟩ => ⟨S64x512, .i1⟩
  | .hbm, ⟨8, _⟩ => ⟨S_, .i32⟩
  | .hbm, ⟨9, _⟩ => ⟨S64x512, .i32⟩
  | .hbm, ⟨10, _⟩ => ⟨S64x512, .i32⟩
  | .hbm, ⟨11, _⟩ => ⟨S64x512, .i32⟩
  | .hbm, ⟨12, _⟩ => ⟨S64x512x1, .i32⟩
  | .hbm, ⟨13, _⟩ => ⟨S1, .i32⟩
  | .hbm, ⟨14, _⟩ => ⟨S_, .i32⟩
  | .hbm, ⟨15, _⟩ => ⟨S64x512x1, .i32⟩
  | .hbm, ⟨16, _⟩ => ⟨S64x512x1, .i1⟩
  | .hbm, ⟨17, _⟩ => ⟨S1x1x1, .i32⟩
  | .hbm, ⟨18, _⟩ => ⟨S64x512x1, .i32⟩
  | .hbm, ⟨19, _⟩ => ⟨S64x512x1, .i1⟩
  | .hbm, ⟨20, _⟩ => ⟨S64x512x1, .i1⟩
  | .hbm, ⟨21, _⟩ => ⟨S_, .i1⟩
  | .hbm, ⟨22, _⟩ => ⟨S64x512, .i1⟩
  | .hbm, ⟨23, _⟩ => ⟨S64x512x512, .f32⟩
  | .hbm, ⟨24, _⟩ => ⟨S64x512x512, .i1⟩
  | .hbm, ⟨25, _⟩ => ⟨S_, .f32⟩
  | .hbm, ⟨26, _⟩ => ⟨S64x512x512, .f32⟩
  | .hbm, ⟨27, _⟩ => ⟨S64x512x512, .f32⟩
  | .hbm, ⟨28, _⟩ => ⟨S1x512, .f32⟩
  | .hbm, ⟨29, _⟩ => ⟨S64x1x512, .f32⟩
  | .hbm, ⟨30, _⟩ => ⟨S64x512, .f32⟩
  | .hbm, ⟨31, _⟩ => ⟨S64x512, .f32⟩
  | .hbm, ⟨32, _⟩ => ⟨S64x512, .f32⟩
  | .hbm, ⟨33, _⟩ => ⟨S64x511x512, .f32⟩
  | .hbm, ⟨34, _⟩ => ⟨S511x64x512, .f32⟩
  | .hbm, ⟨35, _⟩ => ⟨S_, .i32⟩
  | .hbm, ⟨36, _⟩ => ⟨S511x64x512, .i32⟩
  | .hbm, ⟨37, _⟩ => ⟨S_, .i32⟩
  | .hbm, ⟨38, _⟩ => ⟨S511x64x512, .f32⟩
  | .hbm, ⟨39, _⟩ => ⟨S512x512, .f32⟩
  | .hbm, ⟨40, _⟩ => ⟨S_, .i32⟩
  | .hbm, ⟨41, _⟩ => ⟨S64x512, .f32⟩
  | .hbm, ⟨42, _⟩ => ⟨S511x64x512, .i32⟩
  | .hbm, ⟨43, _⟩ => ⟨S_, .i32⟩
  | .hbm, ⟨44, _⟩ => ⟨S_, .i1⟩
  | .hbm, ⟨45, _⟩ => ⟨S_, .i32⟩
  | .hbm, ⟨46, _⟩ => ⟨S_, .i32⟩
  | .hbm, ⟨47, _⟩ => ⟨S1x64x512, .f32⟩
  | .hbm, ⟨48, _⟩ => ⟨S64x512, .f32⟩
  | .hbm, ⟨49, _⟩ => ⟨S64x512x1, .f32⟩
  | .hbm, ⟨50, _⟩ => ⟨S1x512x512, .f32⟩
  | .hbm, ⟨51, _⟩ => ⟨S64x512x512, .f32⟩
  | .hbm, ⟨52, _⟩ => ⟨S64x512x512, .f32⟩
  | .hbm, ⟨53, _⟩ => ⟨S64x512x512, .f32⟩
  | .hbm, ⟨54, _⟩ => ⟨S64x512x512, .i32⟩
  | .hbm, ⟨55, _⟩ => ⟨S_, .f32⟩
  | .hbm, ⟨56, _⟩ => ⟨S_, .i32⟩
  | .hbm, ⟨57, _⟩ => ⟨S64x512, .f32⟩
  | .hbm, ⟨58, _⟩ => ⟨S64x512, .i32⟩
  | .hbm, ⟨59, _⟩ => ⟨S_, .f32⟩
  | .hbm, ⟨60, _⟩ => ⟨S64x512, .f32⟩
  | .hbm, ⟨61, _⟩ => ⟨S64x512, .f32⟩
  | .hbm, ⟨62, _⟩ => ⟨S1x64x512, .i32⟩
  | .hbm, ⟨63, _⟩ => ⟨S_, .i32⟩
  | .hbm, ⟨64, _⟩ => ⟨S_, .i32⟩
  | .hbm, ⟨65, _⟩ => ⟨S511x64x512, .i32⟩
  | .hbm, ⟨66, _⟩ => ⟨S_, .i32⟩
  | .hbm, ⟨67, _⟩ => ⟨S_, .i32⟩
  | .hbm, ⟨68, _⟩ => ⟨S64x512, .i32⟩
  | .hbm, ⟨69, _⟩ => ⟨S_, .f32⟩
  | .hbm, ⟨70, _⟩ => ⟨S_, .i32⟩
  | .hbm, ⟨71, _⟩ => ⟨S64, .f32⟩
  | .hbm, ⟨72, _⟩ => ⟨S64, .i32⟩
  | .hbm, ⟨73, _⟩ => ⟨S_, .i32⟩
  | .hbm, ⟨74, _⟩ => ⟨S511x64, .i32⟩
  | .hbm, ⟨75, _⟩ => ⟨S_, .i32⟩
  | .hbm, ⟨76, _⟩ => ⟨S511x64x512, .i32⟩
  | .hbm, ⟨77, _⟩ => ⟨S_, .i32⟩
  | .hbm, ⟨78, _⟩ => ⟨S64, .i32⟩
  | .hbm, ⟨79, _⟩ => ⟨S511x64, .i32⟩
  | .hbm, ⟨80, _⟩ => ⟨S_, .i32⟩
  | .hbm, ⟨81, _⟩ => ⟨S_, .i1⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S_, .i32⟩
  | .hbm, ⟨87, _⟩ => ⟨S_, .i32⟩
  | .hbm, ⟨88, _⟩ => ⟨S1x64x512, .i32⟩
  | .hbm, ⟨89, _⟩ => ⟨S64x512, .i32⟩
  | .hbm, ⟨90, _⟩ => ⟨S64x1, .i32⟩
  | .hbm, ⟨91, _⟩ => ⟨S_, .i32⟩
  | .hbm, ⟨92, _⟩ => ⟨S64x1, .i32⟩
  | .hbm, ⟨93, _⟩ => ⟨S64x1, .i1⟩
  | .hbm, ⟨94, _⟩ => ⟨S_, .i32⟩
  | .hbm, ⟨95, _⟩ => ⟨S64x1, .i32⟩
  | .hbm, ⟨96, _⟩ => ⟨S64x1, .i32⟩
  | .hbm, ⟨97, _⟩ => ⟨S64x1, .i32⟩
  | .hbm, ⟨98, _⟩ => ⟨S64x1x1, .i32⟩
  | .hbm, ⟨99, _⟩ => ⟨S1, .i32⟩
  | .hbm, ⟨100, _⟩ => ⟨S_, .i32⟩
  | .hbm, ⟨101, _⟩ => ⟨S64x1x1, .i32⟩
  | .hbm, ⟨102, _⟩ => ⟨S64x1x1, .i1⟩
  | .hbm, ⟨103, _⟩ => ⟨S1x1x1, .i32⟩
  | .hbm, ⟨104, _⟩ => ⟨S64x1x1, .i32⟩
  | .hbm, ⟨105, _⟩ => ⟨S64x1x1, .i1⟩
  | .hbm, ⟨106, _⟩ => ⟨S64x1x1, .i1⟩
  | .hbm, ⟨107, _⟩ => ⟨S_, .i1⟩
  | .hbm, ⟨108, _⟩ => ⟨S64x1, .i1⟩
  | .hbm, ⟨109, _⟩ => ⟨S64x1, .i32⟩
  | .hbm, ⟨110, _⟩ => ⟨S_, .i32⟩
  | .hbm, ⟨111, _⟩ => ⟨S64x1, .i32⟩
  | .hbm, ⟨112, _⟩ => ⟨S64x1, .i32⟩
  | .hbm, ⟨113, _⟩ => ⟨S64, .i32⟩
  | .hbm, ⟨114, _⟩ => ⟨S1x64, .i32⟩
  | .hbm, ⟨115, _⟩ => ⟨S_, .i32⟩
  | .hbm, ⟨116, _⟩ => ⟨S511x64, .i32⟩
  | .hbm, ⟨117, _⟩ => ⟨S_, .i32⟩
  | .hbm, ⟨118, _⟩ => ⟨S_, .i32⟩
  | .hbm, ⟨119, _⟩ => ⟨S64x511, .i32⟩
  | .hbm, ⟨120, _⟩ => ⟨S64x1, .i32⟩
  | .hbm, ⟨121, _⟩ => ⟨S64x512, .i32⟩
  | _, _ => ⟨S64x512, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v1 : Ref sig .tc := ⟨.hbm, 27, rfl⟩
abbrev main_v2 : Ref sig .tc := ⟨.hbm, 28, rfl⟩
abbrev main_v3 : Ref sig .tc := ⟨.hbm, 29, rfl⟩
abbrev main_v4 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_c : Ref sig .tc := ⟨.hbm, 35, rfl⟩
abbrev main_v9 : Ref sig .tc := ⟨.hbm, 36, rfl⟩
abbrev main_c_0 : Ref sig .tc := ⟨.hbm, 37, rfl⟩
abbrev main_v10_0 : Ref sig .tc := ⟨.hbm, 38, rfl⟩
abbrev main_v10_1 : Ref sig .tc := ⟨.hbm, 39, rfl⟩
abbrev main_v10_2 : Ref sig .tc := ⟨.hbm, 40, rfl⟩
abbrev main_v10_3 : Ref sig .tc := ⟨.hbm, 41, rfl⟩
abbrev main_v10_4 : Ref sig .tc := ⟨.hbm, 42, rfl⟩
abbrev main_while0c_c_7 : Ref sig .tc := ⟨.hbm, 43, rfl⟩
abbrev main_while0c_v17 : Ref sig .tc := ⟨.hbm, 44, rfl⟩
abbrev main_while0b_call1_c : Ref sig .tc := ⟨.hbm, 45, rfl⟩
abbrev main_while0b_call1_c_0 : Ref sig .tc := ⟨.hbm, 46, rfl⟩
abbrev main_while0b_call1_v0 : Ref sig .tc := ⟨.hbm, 47, rfl⟩
abbrev main_while0b_v17 : Ref sig .tc := ⟨.hbm, 48, rfl⟩
abbrev main_while0b_v18 : Ref sig .tc := ⟨.hbm, 49, rfl⟩
abbrev main_while0b_v19 : Ref sig .tc := ⟨.hbm, 50, rfl⟩
abbrev main_while0b_v20 : Ref sig .tc := ⟨.hbm, 51, rfl⟩
abbrev main_while0b_v21 : Ref sig .tc := ⟨.hbm, 52, rfl⟩
abbrev main_while0b_v22 : Ref sig .tc := ⟨.hbm, 53, rfl⟩
abbrev main_while0b_call2_v0 : Ref sig .tc := ⟨.hbm, 54, rfl⟩
abbrev main_while0b_call2_cst : Ref sig .tc := ⟨.hbm, 55, rfl⟩
abbrev main_while0b_call2_c : Ref sig .tc := ⟨.hbm, 56, rfl⟩
abbrev main_while0b_call2_v1_0 : Ref sig .tc := ⟨.hbm, 57, rfl⟩
abbrev main_while0b_v23 : Ref sig .tc := ⟨.hbm, 58, rfl⟩
abbrev main_while0b_cst : Ref sig .tc := ⟨.hbm, 59, rfl⟩
abbrev main_while0b_v24 : Ref sig .tc := ⟨.hbm, 60, rfl⟩
abbrev main_while0b_v25 : Ref sig .tc := ⟨.hbm, 61, rfl⟩
abbrev main_while0b_call3_v0 : Ref sig .tc := ⟨.hbm, 62, rfl⟩
abbrev main_while0b_call3_c : Ref sig .tc := ⟨.hbm, 63, rfl⟩
abbrev main_while0b_call3_c_0 : Ref sig .tc := ⟨.hbm, 64, rfl⟩
abbrev main_while0b_v26 : Ref sig .tc := ⟨.hbm, 65, rfl⟩
abbrev main_while0b_c_7 : Ref sig .tc := ⟨.hbm, 66, rfl⟩
abbrev main_while0b_v27 : Ref sig .tc := ⟨.hbm, 67, rfl⟩
abbrev main_call4_v0 : Ref sig .tc := ⟨.hbm, 68, rfl⟩
abbrev main_call4_cst : Ref sig .tc := ⟨.hbm, 69, rfl⟩
abbrev main_call4_c : Ref sig .tc := ⟨.hbm, 70, rfl⟩
abbrev main_call4_v1_0 : Ref sig .tc := ⟨.hbm, 71, rfl⟩
abbrev main_v11 : Ref sig .tc := ⟨.hbm, 72, rfl⟩
abbrev main_c_1 : Ref sig .tc := ⟨.hbm, 73, rfl⟩
abbrev main_v12 : Ref sig .tc := ⟨.hbm, 74, rfl⟩
abbrev main_c_2 : Ref sig .tc := ⟨.hbm, 75, rfl⟩
abbrev main_v13_0 : Ref sig .tc := ⟨.hbm, 76, rfl⟩
abbrev main_v13_1 : Ref sig .tc := ⟨.hbm, 77, rfl⟩
abbrev main_v13_2 : Ref sig .tc := ⟨.hbm, 78, rfl⟩
abbrev main_v13_3 : Ref sig .tc := ⟨.hbm, 79, rfl⟩
abbrev main_while1c_c_6 : Ref sig .tc := ⟨.hbm, 80, rfl⟩
abbrev main_while1c_v17 : Ref sig .tc := ⟨.hbm, 81, rfl⟩
abbrev main_while1b_c_6 : Ref sig .tc := ⟨.hbm, 82, rfl⟩
abbrev main_while1b_v17 : Ref sig .tc := ⟨.hbm, 83, rfl⟩
abbrev main_while1b_c_7 : Ref sig .tc := ⟨.hbm, 84, rfl⟩
abbrev main_while1b_v18 : Ref sig .tc := ⟨.hbm, 85, rfl⟩
abbrev main_while1b_call5_c : Ref sig .tc := ⟨.hbm, 86, rfl⟩
abbrev main_while1b_call5_c_0 : Ref sig .tc := ⟨.hbm, 87, rfl⟩
abbrev main_while1b_call5_v0 : Ref sig .tc := ⟨.hbm, 88, rfl⟩
abbrev main_while1b_v19 : Ref sig .tc := ⟨.hbm, 89, rfl⟩
abbrev main_while1b_v20 : Ref sig .tc := ⟨.hbm, 90, rfl⟩
abbrev main_while1b_call6_c : Ref sig .tc := ⟨.hbm, 91, rfl⟩
abbrev main_while1b_call6_v0 : Ref sig .tc := ⟨.hbm, 92, rfl⟩
abbrev main_while1b_call6_v1 : Ref sig .tc := ⟨.hbm, 93, rfl⟩
abbrev main_while1b_call6_c_0 : Ref sig .tc := ⟨.hbm, 94, rfl⟩
abbrev main_while1b_call6_v2 : Ref sig .tc := ⟨.hbm, 95, rfl⟩
abbrev main_while1b_call6_v3 : Ref sig .tc := ⟨.hbm, 96, rfl⟩
abbrev main_while1b_call6_v4 : Ref sig .tc := ⟨.hbm, 97, rfl⟩
abbrev main_while1b_call6_v5 : Ref sig .tc := ⟨.hbm, 98, rfl⟩
abbrev main_while1b_call6_c_1 : Ref sig .tc := ⟨.hbm, 99, rfl⟩
abbrev main_while1b_call6_c_2 : Ref sig .tc := ⟨.hbm, 100, rfl⟩
abbrev main_while1b_call6_v6 : Ref sig .tc := ⟨.hbm, 101, rfl⟩
abbrev main_while1b_call6_v7 : Ref sig .tc := ⟨.hbm, 102, rfl⟩
abbrev main_while1b_call6_v8 : Ref sig .tc := ⟨.hbm, 103, rfl⟩
abbrev main_while1b_call6_v9 : Ref sig .tc := ⟨.hbm, 104, rfl⟩
abbrev main_while1b_call6_v10 : Ref sig .tc := ⟨.hbm, 105, rfl⟩
abbrev main_while1b_call6_v11 : Ref sig .tc := ⟨.hbm, 106, rfl⟩
abbrev main_while1b_call6_c_3 : Ref sig .tc := ⟨.hbm, 107, rfl⟩
abbrev main_while1b_call6_v12 : Ref sig .tc := ⟨.hbm, 108, rfl⟩
abbrev main_while1b_call6_v13 : Ref sig .tc := ⟨.hbm, 109, rfl⟩
abbrev main_while1b_call6_c_4 : Ref sig .tc := ⟨.hbm, 110, rfl⟩
abbrev main_while1b_call6_v14 : Ref sig .tc := ⟨.hbm, 111, rfl⟩
abbrev main_while1b_v21 : Ref sig .tc := ⟨.hbm, 112, rfl⟩
abbrev main_while1b_v22 : Ref sig .tc := ⟨.hbm, 113, rfl⟩
abbrev main_while1b_call7_v0 : Ref sig .tc := ⟨.hbm, 114, rfl⟩
abbrev main_while1b_call7_c : Ref sig .tc := ⟨.hbm, 115, rfl⟩
abbrev main_while1b_v23 : Ref sig .tc := ⟨.hbm, 116, rfl⟩
abbrev main_while1b_c_8 : Ref sig .tc := ⟨.hbm, 117, rfl⟩
abbrev main_while1b_v24 : Ref sig .tc := ⟨.hbm, 118, rfl⟩
abbrev main_v14 : Ref sig .tc := ⟨.hbm, 119, rfl⟩
abbrev main_v15 : Ref sig .tc := ⟨.hbm, 120, rfl⟩
abbrev main_v16 : Ref sig .tc := ⟨.hbm, 121, rfl⟩

abbrev nD : Nat := 1
abbrev τ : Topo := Topo.v7x

variable {F : FTy → Type} [FloatOps F]

abbrev main_while0_count : Scf.Loop 32 := ⟨0#32, 511#32, 1#32⟩

abbrev main_while1_count : Scf.Loop 32 := ⟨0#32, 511#32, 1#32⟩
-- ==== Proof.Ideal.BwdBody.lean ====
/- The backward call's body, row by row.

One point of the second call walks sixteen rows of the score block from the last to the first. At the first
point of all the last row starts the walk: the state is the first best column of that row. Every other row
takes the state one step back: the state's row of the transposed transitions, gathered by a one-hot product,
is added to the scores and the first best column of the sum is the new state. Each row's state is stored in
the row of the path block it belongs to. -/
module

public import proofs.«01_k».proof.Proof.Gen.KernelIdeal

@[expose] public section

noncomputable section

namespace Cert.KernelIdeal.Hand

open Idealize.ShloMosaic Idealize.SL.Sem Cert.KernelIdeal.Gen

variable {F : FTy → Type} [FloatOps F]

/-- The first best column of each row: the least column number whose score equals the row's maximum. -/
def bestOf (x : FVec F S64x512 .f32) : IVec S64x1 32 :=
  fptosi 32 (shapeCast S64x1 (multiReduction .minimumf [1] S64
    (select (cmpf .oeq x (broadcastTo S64x512 (shapeCast S64x1 (multiReduction .maximumf [1] S64 x 0xFF800000#32 reduces_S64x512_S64 (.inl rfl) rfl) shapeCasts_S64_S64x1) broadcasts_S64x1_S64x512))
      (sitofp .f32 (iota .tc S64x512 32 [1] iota_S64x512_d1_w32)) (broadcast S64x512 (Scalar.ofBits (F := F) .f32 0x44000000#32)))
    0x7F800000#32 reduces_S64x512_S64 (.inl rfl) rfl) shapeCasts_S64_S64x1)

/-- One state per sequence as one-hot rows. -/
def oneHotS (st : IVec S64x1 32) : FVec F S64x512 .bf16 :=
  truncf .bf16 (sitofp .f32 (extui 32 (cmpi .eq (iota .tc S64x512 32 [1] iota_S64x512_d1_w32) (broadcastTo S64x512 st broadcasts_S64x1_S64x512)) natLt_1_32)) bitsLt_bf16_f32

/-- The state's row of a table given by its three parts. -/
def gatherOf (st : IVec S64x1 32) (hi mid lo : FVec F S512x512 .bf16) : FVec F S64x512 .f32 :=
  addf (addf (matmul dot_S64x512_S512x512_S64x512_1_0_0_1_n_n none (oneHotS st) (shapeCast S512x512 hi shapeCasts_S512x512_S512x512) (constant S64x512 .f32 0x00000000#32))
      (matmul dot_S64x512_S512x512_S64x512_1_0_0_1_n_n none (oneHotS st) (shapeCast S512x512 mid shapeCasts_S512x512_S512x512) (constant S64x512 .f32 0x00000000#32)))
    (matmul dot_S64x512_S512x512_S64x512_1_0_0_1_n_n none (oneHotS st) (shapeCast S512x512 lo shapeCasts_S512x512_S512x512) (constant S64x512 .f32 0x00000000#32))

/-- A row of the score block as a matrix. -/
def rowOf (v : FVec F S1x64x512 .f32) : FVec F S64x512 .f32 := shapeCast S64x512 v shapeCasts_S1x64x512_S64x512

/-- The state the walk starts with, from the last row's scores. -/
def lastOf (v : FVec F S1x64x512 .f32) : IVec S64x1 32 := shapeCast S64x1 (bestOf (rowOf v)) shapeCasts_S64x1_S64x1

/-- One step back: the state before, from a row's scores and the state after. -/
def backOf (v : FVec F S1x64x512 .f32) (st : IVec S64x1 32) (hi mid lo : FVec F S512x512 .bf16) : IVec S64x1 32 :=
  shapeCast S64x1 (bestOf (addf (rowOf v) (gatherOf st hi mid lo))) shapeCasts_S64x1_S64x1

/-- A state column as a row of the path block. -/
def pathRow (st : IVec S64x1 32) : IVec S1x1x64 32 :=
  shapeCast S1x1x64 (transpose S1x64 [1, 0] st transposes_S64x1_p1_0_S1x64) shapeCasts_S1x64_S1x1x64

section

variable (i : grid1.Coords) (arg1 : Memref sig .tc .vmem S16x64x512 .f32) (arg2 : Memref sig .tc .vmem S512x512 .bf16) (arg3 : Memref sig .tc .vmem S512x512 .bf16) (arg4 : Memref sig .tc .vmem S512x512 .bf16) (arg5 : Memref sig .tc .vmem S16x1x64 .i32) (arg6 : Memref sig .tc .vmem S64x1 .i32)

/-- The load of row `n` of the score block. -/
def loadRow (n : Nat) (hn : ∀ a, (![n, 0, 0] : Fin 3 → Nat) a + S1x64x512.size a ≤ S16x64x512.size a) : Prog (TpuEff nD τ sig (Elt F) Λ₀ .tc) (Vec F S1x64x512 .f32) :=
  Prog.lift (.load arg1 (Rect.unit (s := S16x64x512) ![n, 0, 0] S1x64x512.size hn).toLoadRect (View.loadsAt_vmem h_S1x64x512))

/-- The point is the first of all. -/
abbrev isFirst : Prop := Scalar.cmpi .ne (Scalar.extui (Scalar.cmpi .eq (BitVec.ofNat 32 (i 0).val) 0#32)) 0#32 = 1#1

/-- The point is a later one. -/
abbrev isLater : Prop := Scalar.cmpi .ne (Scalar.extui (Scalar.cmpi .sgt (BitVec.ofNat 32 (i 0).val) 0#32)) 0#32 = 1#1

/-- The walk starts: the state is the first best column of the last row. -/
def startProg (v : Vec F S1x64x512 .f32) : Prog (TpuEff nD τ sig (Elt F) Λ₀ .tc) PUnit := do
  let _ : Vec F S64x1 .i32 ← Prog.lift (.load arg6 (Rect.unit (s := S64x1) ![0, 0] S64x1.size inb_S64x1_S64x1_0_0).toLoadRect (View.loadsAt_vmem h_S64x1))
  Prog.lift (.store arg6 (Rect.unit (s := S64x1) ![0, 0] S64x1.size inb_S64x1_S64x1_0_0) (lastOf v) Finset.univ (View.stores_vmem_bits_univ h_S64x1 rfl) (.inl rfl))

/-- At the first point of all, the walk starts. -/
def initProg (v : Vec F S1x64x512 .f32) : Prog (TpuEff nD τ sig (Elt F) Λ₀ .tc) PUnit :=
  if isFirst i then startProg arg6 v else pure ⟨⟩

/-- The state moves one step back. -/
def moveProg (v : Vec F S1x64x512 .f32) : Prog (TpuEff nD τ sig (Elt F) Λ₀ .tc) PUnit := do
  let st : Vec F S64x1 .i32 ← Prog.lift (.load arg6 (Rect.unit (s := S64x1) ![0, 0] S64x1.size inb_S64x1_S64x1_0_0).toLoadRect (View.loadsAt_vmem h_S64x1))
  let hi : Vec F S512x512 .bf16 ← Prog.lift (.load arg2 (Rect.unit (s := S512x512) ![0, 0] S512x512.size inb_S512x512_S512x512_0_0).toLoadRect (View.loadsAt_vmem h_S512x512))
  let mid : Vec F S512x512 .bf16 ← Prog.lift (.load arg3 (Rect.unit (s := S512x512) ![0, 0] S512x512.size inb_S512x512_S512x512_0_0).toLoadRect (View.loadsAt_vmem h_S512x512))
  let lo : Vec F S512x512 .bf16 ← Prog.lift (.load arg4 (Rect.unit (s := S512x512) ![0, 0] S512x512.size inb_S512x512_S512x512_0_0).toLoadRect (View.loadsAt_vmem h_S512x512))
  let _ : Vec F S64x1 .i32 ← Prog.lift (.load arg6 (Rect.unit (s := S64x1) ![0, 0] S64x1.size inb_S64x1_S64x1_0_0).toLoadRect (View.loadsAt_vmem h_S64x1))
  Prog.lift (.store arg6 (Rect.unit (s := S64x1) ![0, 0] S64x1.size inb_S64x1_S64x1_0_0) (backOf v st hi mid lo) Finset.univ (View.stores_vmem_bits_univ h_S64x1 rfl) (.inl rfl))
  pure ⟨⟩

/-- At every later point the last row's state follows from the point before's. -/
def contProg (v : Vec F S1x64x512 .f32) : Prog (TpuEff nD τ sig (Elt F) Λ₀ .tc) PUnit :=
  if isLater i then moveProg arg2 arg3 arg4 arg6 v else pure ⟨⟩

/-- The state goes to row `n` of the path block. -/
def writeRow (n : Nat) (hn : ∀ a, (![n, 0, 0] : Fin 3 → Nat) a + S1x1x64.size a ≤ S16x1x64.size a) : Prog (TpuEff nD τ sig (Elt F) Λ₀ .tc) PUnit := do
  let st : Vec F S64x1 .i32 ← Prog.lift (.load arg6 (Rect.unit (s := S64x1) ![0, 0] S64x1.size inb_S64x1_S64x1_0_0).toLoadRect (View.loadsAt_vmem h_S64x1))
  let _ : Vec F S1x1x64 .i32 ← Prog.lift (.load arg5 (Rect.unit (s := S16x1x64) ![n, 0, 0] S1x1x64.size hn).toLoadRect (View.loadsAt_vmem h_S1x1x64))
  Prog.lift (.store arg5 (Rect.unit (s := S16x1x64) ![n, 0, 0] S1x1x64.size hn) (pathRow st) Finset.univ (View.stores_vmem_bits_univ h_S1x1x64 rfl) (.inl rfl))
  pure ⟨⟩

/-- Row `n`: the state moves one step back over its scores and goes to its row of the path block. -/
def backProg (n : Nat) (hv : ∀ a, (![n, 0, 0] : Fin 3 → Nat) a + S1x64x512.size a ≤ S16x64x512.size a) (hn : ∀ a, (![n, 0, 0] : Fin 3 → Nat) a + S1x1x64.size a ≤ S16x1x64.size a) : Prog (TpuEff nD τ sig (Elt F) Λ₀ .tc) PUnit := do
  let v ← loadRow arg1 n hv
  moveProg arg2 arg3 arg4 arg6 v
  writeRow arg5 arg6 n hn

/-- Row `n` of the score block lies in it. -/
theorem inb_row (n : Nat) (h : n < 16) (a : Fin 3) : (![n, 0, 0] : Fin 3 → Nat) a + S1x64x512.size a ≤ S16x64x512.size a := by
  fin_cases a
  · simp; omega
  · simp
  · simp

/-- Row `n` of the path block lies in it. -/
theorem inb_path (n : Nat) (h : n < 16) (a : Fin 3) : (![n, 0, 0] : Fin 3 → Nat) a + S1x1x64.size a ≤ S16x1x64.size a := by
  fin_cases a
  · simp; omega
  · simp
  · simp

/-- The rows `n - 1, …, 0`, in that order. -/
def backProgs : (n : Nat) → n ≤ 16 → Prog (TpuEff nD τ sig (Elt F) Λ₀ .tc) PUnit
  | 0, _ => pure ⟨⟩
  | n + 1, h => do
    backProg arg1 arg2 arg3 arg4 arg5 arg6 n (inb_row n h) (inb_path n h)
    backProgs n (Nat.le_of_succ_le h)

/-- The backward body: the last row, then the fifteen others. -/
def bwdProg : Prog (TpuEff nD τ sig (Elt F) Λ₀ .tc) PUnit := do
  let v ← loadRow arg1 15 inb_S16x64x512_S1x64x512_15_0_0
  initProg i arg6 v
  contProg i arg2 arg3 arg4 arg6 v
  writeRow arg5 arg6 15 inb_S16x1x64_S1x1x64_15_0_0
  backProgs arg1 arg2 arg3 arg4 arg5 arg6 15 (by decide)

/-- What the first window does after the last row: it loads what row 14 takes. -/
def tail1 : Prog (TpuEff nD τ sig (Elt F) Λ₀ .tc) (Σ' (_ : FVec F S64x512 .f32) (_ : FVec F S64x512 .bf16) (_ : FVec F S64x512 .f32), FVec F S512x512 .bf16) := do
  writeRow arg5 arg6 15 inb_S16x1x64_S1x1x64_15_0_0
  let v ← loadRow arg1 14 inb_S16x64x512_S1x64x512_14_0_0
  let st : Vec F S64x1 .i32 ← Prog.lift (.load arg6 (Rect.unit (s := S64x1) ![0, 0] S64x1.size inb_S64x1_S64x1_0_0).toLoadRect (View.loadsAt_vmem h_S64x1))
  let hi : Vec F S512x512 .bf16 ← Prog.lift (.load arg2 (Rect.unit (s := S512x512) ![0, 0] S512x512.size inb_S512x512_S512x512_0_0).toLoadRect (View.loadsAt_vmem h_S512x512))
  let mid : Vec F S512x512 .bf16 ← Prog.lift (.load arg3 (Rect.unit (s := S512x512) ![0, 0] S512x512.size inb_S512x512_S512x512_0_0).toLoadRect (View.loadsAt_vmem h_S512x512))
  let lo : Vec F S512x512 .bf16 ← Prog.lift (.load arg4 (Rect.unit (s := S512x512) ![0, 0] S512x512.size inb_S512x512_S512x512_0_0).toLoadRect (View.loadsAt_vmem h_S512x512))
  pure ⟨rowOf v, oneHotS st, addf (matmul dot_S64x512_S512x512_S64x512_1_0_0_1_n_n none (oneHotS st) (shapeCast S512x512 hi shapeCasts_S512x512_S512x512) (constant S64x512 .f32 0x00000000#32))
      (matmul dot_S64x512_S512x512_S64x512_1_0_0_1_n_n none (oneHotS st) (shapeCast S512x512 mid shapeCasts_S512x512_S512x512) (constant S64x512 .f32 0x00000000#32)), shapeCast S512x512 lo shapeCasts_S512x512_S512x512⟩

/-- The body's first window, what follows each condition written in both its branches. -/
def firstProg : Prog (TpuEff nD τ sig (Elt F) Λ₀ .tc) (Σ' (_ : FVec F S64x512 .f32) (_ : FVec F S64x512 .bf16) (_ : FVec F S64x512 .f32), FVec F S512x512 .bf16) :=
  loadRow arg1 15 inb_S16x64x512_S1x64x512_15_0_0 >>= fun v =>
    dite (isFirst i)
      (fun _ => startProg arg6 v >>= fun _ => dite (isLater i) (fun _ => moveProg arg2 arg3 arg4 arg6 v >>= fun _ => tail1 arg1 arg2 arg3 arg4 arg5 arg6) (fun _ => tail1 arg1 arg2 arg3 arg4 arg5 arg6))
      (fun _ => dite (isLater i) (fun _ => moveProg arg2 arg3 arg4 arg6 v >>= fun _ => tail1 arg1 arg2 arg3 arg4 arg5 arg6) (fun _ => tail1 arg1 arg2 arg3 arg4 arg5 arg6))

/-- The same, what follows each condition written once after it. -/
theorem firstProg_eq : firstProg (F := F) i arg1 arg2 arg3 arg4 arg5 arg6
    = loadRow arg1 15 inb_S16x64x512_S1x64x512_15_0_0 >>= fun v => initProg i arg6 v >>= fun _ =>
        contProg i arg2 arg3 arg4 arg6 v >>= fun _ => tail1 arg1 arg2 arg3 arg4 arg5 arg6 := by
  unfold firstProg
  congr 1
  funext v
  unfold initProg contProg
  split <;> split <;> simp only [pure_bind]

end

/-- A program whose first part is a sequence of four, flattened. -/
theorem bind_flat {E : Type → Type} {α β : Type} {γ δ : Type} {P : Prog E β} {A : Prog E α} {B C : α → Prog E PUnit} {T : Prog E β}
    (h : P = A >>= fun v => B v >>= fun _ => C v >>= fun _ => T) (g : β → Prog E γ) (f : γ → Prog E δ) :
    ((P >>= g) >>= f) = A >>= fun v => B v >>= fun _ => C v >>= fun _ => T >>= fun x => g x >>= f := by
  subst h; simp only [bind_assoc]

set_option maxRecDepth 1000000 in
set_option maxHeartbeats 0 in
/-- The first window of the printed body. -/
theorem k1_part1_eq (i : grid1.Coords) (arg1 : Memref sig .tc .vmem S16x64x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S16x1x64 .i32) (harg5 : arg5.IsWhole) (arg6 : Memref sig .tc .vmem S64x1 .i32) (harg6 : arg6.IsWhole) :
    k1_part1 (F := F) i arg1 harg1 arg2 harg2 arg3 harg3 arg4 harg4 arg5 harg5 arg6 harg6
      = firstProg i arg1 arg2 arg3 arg4 arg5 arg6 := rfl

set_option maxRecDepth 1000000 in
set_option maxHeartbeats 0 in
/-- The printed backward body is the sixteen rows. -/
theorem cc1__bwd_body_eq (i : grid1.Coords) (arg1 : Memref sig .tc .vmem S16x64x512 .f32) (harg1 : arg1.IsWhole) (arg2 : Memref sig .tc .vmem S512x512 .bf16) (harg2 : arg2.IsWhole) (arg3 : Memref sig .tc .vmem S512x512 .bf16) (harg3 : arg3.IsWhole) (arg4 : Memref sig .tc .vmem S512x512 .bf16) (harg4 : arg4.IsWhole) (arg5 : Memref sig .tc .vmem S16x1x64 .i32) (harg5 : arg5.IsWhole) (arg6 : Memref sig .tc .vmem S64x1 .i32) (harg6 : arg6.IsWhole) :
    cc1__bwd_body (F := F) i arg1 harg1 arg2 harg2 arg3 harg3 arg4 harg4 arg5 harg5 arg6 harg6
      = bwdProg i arg1 arg2 arg3 arg4 arg5 arg6 := by
  unfold cc1__bwd_body k1_part17
  exact (bind_flat ((k1_part1_eq i arg1 harg1 arg2 harg2 arg3 harg3 arg4 harg4 arg5 harg5 arg6 harg6).trans (firstProg_eq i arg1 arg2 arg3 arg4 arg5 arg6)) _ _).trans rfl

end Cert.KernelIdeal.Hand

end
-- ==== Proof.Ideal.FwdBody.lean ====
/- The forward call's body, written as four steps of the recursion.

   The printed body unrolls the maximum over the 512 source states into one long sequence. Here it is a recursion over the source
   state (`accTo`), and one step of the recursion is `stepProg`. `cc0__fwd_body_eq` says the printed body is that program. -/
module

public import proofs.«01_k».proof.Proof.Gen.KernelIdeal

@[expose] public section

noncomputable section

namespace Cert.KernelIdeal.Hand

open Idealize.ShloMosaic Idealize.SL.Sem Cert.KernelIdeal.Gen

variable {F : FTy → Type} [FloatOps F]

/-- Column `i` of the scores is a slice. -/
theorem slices_col (i : Nat) (hi : i < 512) : S64x512.Slices ![0, i] S64x1 := by
  refine ⟨rfl, fun d => ?_⟩
  fin_cases d
  · simp
  · simp; omega

/-- Row `i` of the transitions is a slice. -/
theorem slices_row (i : Nat) (hi : i < 512) : S512x512.Slices ![i, 0] S1x512 := by
  refine ⟨rfl, fun d => ?_⟩
  fin_cases d
  · simp; omega
  · simp

/-- The scores of arriving from state `i`: column `i` of the scores plus row `i` of the transitions. -/
def cand (v : FVec F S64x512 .f32) (t : FVec F S512x512 .f32) (i : Nat) (hi : i < 512) : FVec F S64x512 .f32 :=
  addf (broadcastTo S64x512 (extractStridedSlice S64x1 ![0, i] v (slices_col i hi)) broadcasts_S64x1_S64x512)
    (broadcastTo S64x512 (extractStridedSlice S1x512 ![i, 0] t (slices_row i hi)) broadcasts_S1x512_S64x512)

/-- The best score of arriving from one of the states `0 … n`. -/
def accTo (v : FVec F S64x512 .f32) (t : FVec F S512x512 .f32) : (n : Nat) → n < 512 → FVec F S64x512 .f32
  | 0, h => cand v t 0 h
  | n + 1, h => maximumf (accTo v t n (Nat.lt_of_succ_lt h)) (cand v t (n + 1) h)

/-- One symbol per sequence as one-hot rows. -/
def oneHotE (o : IVec S64x1 32) : FVec F S64x2048 .bf16 :=
  truncf .bf16 (sitofp .f32 (extui 32 (cmpi .eq (iota .tc S64x2048 32 [1] iota_S64x2048_d1_w32) (broadcastTo S64x2048 o broadcasts_S64x1_S64x2048)) natLt_1_32)) bitsLt_bf16_f32

/-- The emission scores of one symbol per sequence, gathered from the three parts of the table. -/
def emitOf (o : IVec S1x64 32) (hi mid lo : FVec F S2048x512 .bf16) : FVec F S64x512 .f32 :=
  let oh : FVec F S64x2048 .bf16 := oneHotE (transpose S64x1 [1, 0] o transposes_S1x64_p1_0_S64x1)
  addf (addf (matmul dot_S64x2048_S2048x512_S64x512_1_0_0_1_n_n none oh (shapeCast S2048x512 hi shapeCasts_S2048x512_S2048x512) (constant S64x512 .f32 0x00000000#32))
      (matmul dot_S64x2048_S2048x512_S64x512_1_0_0_1_n_n none oh (shapeCast S2048x512 mid shapeCasts_S2048x512_S2048x512) (constant S64x512 .f32 0x00000000#32)))
    (matmul dot_S64x2048_S2048x512_S64x512_1_0_0_1_n_n none oh (shapeCast S2048x512 lo shapeCasts_S2048x512_S2048x512) (constant S64x512 .f32 0x00000000#32))

/-- One step's scores from the last step's, the transitions and the emission scores. -/
def stepOf (v : FVec F S64x512 .f32) (t : FVec F S512x512 .f32) (e : FVec F S64x512 .f32) : FVec F S64x512 .f32 :=
  shapeCast S64x512 (addf (accTo v t 511 (by decide)) e) shapeCasts_S64x512_S64x512

/-- The first step's scores from the start scores and the emission scores. -/
def startOf (s : FVec F S1x512 .f32) (e : FVec F S64x512 .f32) : FVec F S64x512 .f32 :=
  shapeCast S64x512 (addf (broadcastTo S64x512 (shapeCast S1x512 s shapeCasts_S1x512_S1x512) broadcasts_S1x512_S64x512) e) shapeCasts_S64x512_S64x512

section

variable (i : grid0.Coords) (arg1 : Memref sig .tc .vmem S4x1x64 .i32) (arg2 : Memref sig .tc .vmem S1x512 .f32) (arg3 : Memref sig .tc .vmem S512x512 .f32) (arg4 : Memref sig .tc .vmem S2048x512 .bf16) (arg5 : Memref sig .tc .vmem S2048x512 .bf16) (arg6 : Memref sig .tc .vmem S2048x512 .bf16) (arg7 : Memref sig .tc .vmem S4x64x512 .f32) (arg8 : Memref sig .tc .vmem S64x512 .f32)

/-- The first of a point's four steps, up to the load of the second step's symbols. At the first point the scores start. -/
def step0Prog : Prog (TpuEff nD τ sig (Elt F) Λ₀ .tc) (IVec S1x64 32) := do
  let o : Vec F S1x1x64 .i32 ← Prog.lift (.load arg1 (Rect.unit (s := S4x1x64) ![0, 0, 0] S1x1x64.size inb_S4x1x64_S1x1x64_0_0_0).toLoadRect (View.loadsAt_vmem h_S1x1x64))
  let hi : Vec F S2048x512 .bf16 ← Prog.lift (.load arg4 (Rect.unit (s := S2048x512) ![0, 0] S2048x512.size inb_S2048x512_S2048x512_0_0).toLoadRect (View.loadsAt_vmem h_S2048x512))
  let mid : Vec F S2048x512 .bf16 ← Prog.lift (.load arg5 (Rect.unit (s := S2048x512) ![0, 0] S2048x512.size inb_S2048x512_S2048x512_0_0).toLoadRect (View.loadsAt_vmem h_S2048x512))
  let lo : Vec F S2048x512 .bf16 ← Prog.lift (.load arg6 (Rect.unit (s := S2048x512) ![0, 0] S2048x512.size inb_S2048x512_S2048x512_0_0).toLoadRect (View.loadsAt_vmem h_S2048x512))
  if h1 : Scalar.cmpi .ne (Scalar.extui (Scalar.cmpi .eq (BitVec.ofNat 32 (i 0).val) 0#32)) 0#32 = 1#1 then do
    let s : Vec F S1x512 .f32 ← Prog.lift (.load arg2 (Rect.unit (s := S1x512) ![0, 0] S1x512.size inb_S1x512_S1x512_0_0).toLoadRect (View.loadsAt_vmem h_S1x512))
    let _ : Vec F S64x512 .f32 ← Prog.lift (.load arg8 (Rect.unit (s := S64x512) ![0, 0] S64x512.size inb_S64x512_S64x512_0_0).toLoadRect (View.loadsAt_vmem h_S64x512))
    Prog.lift (.store arg8 (Rect.unit (s := S64x512) ![0, 0] S64x512.size inb_S64x512_S64x512_0_0) (startOf s (emitOf (shapeCast S1x64 o shapeCasts_S1x1x64_S1x64) hi mid lo)) Finset.univ (View.stores_vmem_bits_univ h_S64x512 rfl) (.inl rfl))
    pure ⟨⟩
  else do
    pure ⟨⟩
  if h2 : Scalar.cmpi .ne (Scalar.extui (Scalar.cmpi .sgt (BitVec.ofNat 32 (i 0).val) 0#32)) 0#32 = 1#1 then do
    let v : Vec F S64x512 .f32 ← Prog.lift (.load arg8 (Rect.unit (s := S64x512) ![0, 0] S64x512.size inb_S64x512_S64x512_0_0).toLoadRect (View.loadsAt_vmem h_S64x512))
    let t : Vec F S512x512 .f32 ← Prog.lift (.load arg3 (Rect.unit (s := S512x512) ![0, 0] S512x512.size inb_S512x512_S512x512_0_0).toLoadRect (View.loadsAt_vmem h_S512x512))
    let _ : Vec F S64x512 .f32 ← Prog.lift (.load arg8 (Rect.unit (s := S64x512) ![0, 0] S64x512.size inb_S64x512_S64x512_0_0).toLoadRect (View.loadsAt_vmem h_S64x512))
    Prog.lift (.store arg8 (Rect.unit (s := S64x512) ![0, 0] S64x512.size inb_S64x512_S64x512_0_0) (stepOf v t (emitOf (shapeCast S1x64 o shapeCasts_S1x1x64_S1x64) hi mid lo)) Finset.univ (View.stores_vmem_bits_univ h_S64x512 rfl) (.inl rfl))
    pure ⟨⟩
  else do
    pure ⟨⟩
  let w : Vec F S64x512 .f32 ← Prog.lift (.load arg8 (Rect.unit (s := S64x512) ![0, 0] S64x512.size inb_S64x512_S64x512_0_0).toLoadRect (View.loadsAt_vmem h_S64x512))
  let _ : Vec F S1x64x512 .f32 ← Prog.lift (.load arg7 (Rect.unit (s := S4x64x512) ![0, 0, 0] S1x64x512.size inb_S4x64x512_S1x64x512_0_0_0).toLoadRect (View.loadsAt_vmem h_S1x64x512))
  Prog.lift (.store arg7 (Rect.unit (s := S4x64x512) ![0, 0, 0] S1x64x512.size inb_S4x64x512_S1x64x512_0_0_0) (shapeCast S1x64x512 w shapeCasts_S64x512_S1x64x512) Finset.univ (View.stores_vmem_bits_univ h_S1x64x512 rfl) (.inl rfl))
  let o : Vec F S1x1x64 .i32 ← Prog.lift (.load arg1 (Rect.unit (s := S4x1x64) ![1, 0, 0] S1x1x64.size inb_S4x1x64_S1x1x64_1_0_0).toLoadRect (View.loadsAt_vmem h_S1x1x64))
  pure (shapeCast S1x64 o shapeCasts_S1x1x64_S1x64)

/-- A later step, its symbols in hand: the scores move on and row `n` of the output block takes them. -/
def stepProg (o : IVec S1x64 32) (n : Nat) (hn : ∀ a, (![n, 0, 0] : Fin 3 → Nat) a + S1x64x512.size a ≤ S4x64x512.size a) : Prog (TpuEff nD τ sig (Elt F) Λ₀ .tc) PUnit := do
  let hi : Vec F S2048x512 .bf16 ← Prog.lift (.load arg4 (Rect.unit (s := S2048x512) ![0, 0] S2048x512.size inb_S2048x512_S2048x512_0_0).toLoadRect (View.loadsAt_vmem h_S2048x512))
  let mid : Vec F S2048x512 .bf16 ← Prog.lift (.load arg5 (Rect.unit (s := S2048x512) ![0, 0] S2048x512.size inb_S2048x512_S2048x512_0_0).toLoadRect (View.loadsAt_vmem h_S2048x512))
  let lo : Vec F S2048x512 .bf16 ← Prog.lift (.load arg6 (Rect.unit (s := S2048x512) ![0, 0] S2048x512.size inb_S2048x512_S2048x512_0_0).toLoadRect (View.loadsAt_vmem h_S2048x512))
  let v : Vec F S64x512 .f32 ← Prog.lift (.load arg8 (Rect.unit (s := S64x512) ![0, 0] S64x512.size inb_S64x512_S64x512_0_0).toLoadRect (View.loadsAt_vmem h_S64x512))
  let t : Vec F S512x512 .f32 ← Prog.lift (.load arg3 (Rect.unit (s := S512x512) ![0, 0] S512x512.size inb_S512x512_S512x512_0_0).toLoadRect (View.loadsAt_vmem h_S512x512))
  let _ : Vec F S64x512 .f32 ← Prog.lift (.load arg8 (Rect.unit (s := S64x512) ![0, 0] S64x512.size inb_S64x512_S64x512_0_0).toLoadRect (View.loadsAt_vmem h_S64x512))
  Prog.lift (.store arg8 (Rect.unit (s := S64x512) ![0, 0] S64x512.size inb_S64x512_S64x512_0_0) (stepOf v t (emitOf o hi mid lo)) Finset.univ (View.stores_vmem_bits_univ h_S64x512 rfl) (.inl rfl))
  let w : Vec F S64x512 .f32 ← Prog.lift (.load arg8 (Rect.unit (s := S64x512) ![0, 0] S64x512.size inb_S64x512_S64x512_0_0).toLoadRect (View.loadsAt_vmem h_S64x512))
  let _ : Vec F S1x64x512 .f32 ← Prog.lift (.load arg7 (Rect.unit (s := S4x64x512) ![n, 0, 0] S1x64x512.size hn).toLoadRect (View.loadsAt_vmem h_S1x64x512))
  Prog.lift (.store arg7 (Rect.unit (s := S4x64x512) ![n, 0, 0] S1x64x512.size hn) (shapeCast S1x64x512 w shapeCasts_S64x512_S1x64x512) Finset.univ (View.stores_vmem_bits_univ h_S1x64x512 rfl) (.inl rfl))
  pure ⟨⟩

/-- The forward body as four steps. -/
def fwdProg : Prog (TpuEff nD τ sig (Elt F) Λ₀ .tc) PUnit := do
  let o1 ← step0Prog i arg1 arg2 arg3 arg4 arg5 arg6 arg7 arg8
  stepProg arg3 arg4 arg5 arg6 arg7 arg8 o1 1 inb_S4x64x512_S1x64x512_1_0_0
  let o2 : Vec F S1x1x64 .i32 ← Prog.lift (.load arg1 (Rect.unit (s := S4x1x64) ![2, 0, 0] S1x1x64.size inb_S4x1x64_S1x1x64_2_0_0).toLoadRect (View.loadsAt_vmem h_S1x1x64))
  stepProg arg3 arg4 arg5 arg6 arg7 arg8 (shapeCast S1x64 o2 shapeCasts_S1x1x64_S1x64) 2 inb_S4x64x512_S1x64x512_2_0_0
  let o3 : Vec F S1x1x64 .i32 ← Prog.lift (.load arg1 (Rect.unit (s := S4x1x64) ![3, 0, 0] S1x1x64.size inb_S4x1x64_S1x1x64_3_0_0).toLoadRect (View.loadsAt_vmem h_S1x1x64))
  stepProg arg3 arg4 arg5 arg6 arg7 arg8 (shapeCast S1x64 o3 shapeCasts_S1x1x64_S1x64) 3 inb_S4x64x512_S1x64x512_3_0_0

end

set_option maxRecDepth 1000000 in
set_option maxHeartbeats 0 in
/-- The first window of the printed body is the first step. -/
theorem k0_part53_eq (i : grid0.Coords) (arg1 : Memref sig .tc .vmem S4x1x64 .i32) (harg1 : arg1.IsWhole) (arg2 : Memref sig .tc .vmem S1x512 .f32) (harg2 : arg2.IsWhole) (arg3 : Memref sig .tc .vmem S512x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S4x64x512 .f32) (harg7 : arg7.IsWhole) (arg8 : Memref sig .tc .vmem S64x512 .f32) (harg8 : arg8.IsWhole) :
    k0_part53 (F := F) i arg1 harg1 arg2 harg2 arg3 harg3 arg4 harg4 arg5 harg5 arg6 harg6 arg7 harg7 arg8 harg8
      = step0Prog i arg1 arg2 arg3 arg4 arg5 arg6 arg7 arg8 := rfl

set_option maxRecDepth 1000000 in
set_option maxHeartbeats 0 in
/-- The printed forward body is the four steps. -/
theorem cc0__fwd_body_eq (i : grid0.Coords) (arg1 : Memref sig .tc .vmem S4x1x64 .i32) (harg1 : arg1.IsWhole) (arg2 : Memref sig .tc .vmem S1x512 .f32) (harg2 : arg2.IsWhole) (arg3 : Memref sig .tc .vmem S512x512 .f32) (harg3 : arg3.IsWhole) (arg4 : Memref sig .tc .vmem S2048x512 .bf16) (harg4 : arg4.IsWhole) (arg5 : Memref sig .tc .vmem S2048x512 .bf16) (harg5 : arg5.IsWhole) (arg6 : Memref sig .tc .vmem S2048x512 .bf16) (harg6 : arg6.IsWhole) (arg7 : Memref sig .tc .vmem S4x64x512 .f32) (harg7 : arg7.IsWhole) (arg8 : Memref sig .tc .vmem S64x512 .f32) (harg8 : arg8.IsWhole) :
    cc0__fwd_body (F := F) i arg1 harg1 arg2 harg2 arg3 harg3 arg4 harg4 arg5 harg5 arg6 harg6 arg7 harg7 arg8 harg8
      = fwdProg i arg1 arg2 arg3 arg4 arg5 arg6 arg7 arg8 := by
  unfold cc0__fwd_body k0_part210
  rw [Prog.bind_assoc, k0_part53_eq]
  rfl

end Cert.KernelIdeal.Hand

end
-- ==== Proof.Ideal.Steps.lean ====
/- Loads and stores of a block held by its contents.

   A block is held as `owns c m fullShare X`: the memref `m` reads `X`. A load of the whole block gives `X`, a load of a
   window of it gives the window of `X`, a store of the whole block replaces `X`, and a store of a window puts the
   payload over that window. -/
module

public import Idealize.ShloMosaic.Lib.VecWindow
public import Idealize.ShloMosaic.Lib.Writes
public import Idealize.ShloMosaic.Lib.Memref
public import Idealize.ShloMosaic.Lib.Tactic

@[expose] public section

noncomputable section

namespace Cert.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels}
variable {defs : Defs nD τ sig Val Λ} (𝒱 : Variants) (c : Dev nD) (bd : Option 𝒱.V) (E : Set Name)
variable {s : Shape} {e : EltTy} {α : Type} {Q : α → sProp (MT nD τ sig Ix Val Name U Lvl)}

/-- A load of a whole block gives its contents. -/
theorem wp_load_all {m : Memref sig .tc .vmem s e} {off : Fin s.rank → Nat} {inb : ∀ a, off a + s.size a ≤ s.size a}
    {hl : m.view.LoadsAt (Rect.unit (s := s) off s.size inb).toLoadRect} {X : s.Idx → Val e}
    {k : ((Rect.unit (s := s) off s.size inb).toLoadRect.shape.Idx → Val e) → Prog (TpuEff nD τ sig Val Λ .tc) α} :
    iprop(owns (c : Thread nD τ) m fullShare X ∗ (owns (c : Thread nD τ) m fullShare X -∗ wp frame (wpE defs 𝒱 (c : Thread nD τ) bd) E (k X) Q))
      ⊢ wp frame (wpE defs 𝒱 (c : Thread nD τ) bd) E (Prog.lift (.load m (Rect.unit (s := s) off s.size inb).toLoadRect hl) >>= k) Q := by
  have h (f) := wp_load (defs := defs) 𝒱 (c : Thread nD τ) bd (Γ := .empty) E (Q := Q) (m := m) (r := (Rect.unit (s := s) off s.size inb).toLoadRect) (hl := hl)
    (k := k) (q := fullShare) (f := f) (S := m.view.set) (by
      intro i hi
      obtain ⟨y, -, rfl⟩ := Finset.mem_map.mp hi
      exact Finset.mem_map.mpr ⟨y, Finset.mem_univ _, rfl⟩)
  unfold owns
  iintro ⟨⟨%f, %hf, H⟩, Hk⟩
  have h' := h f
  rw [View.readAt_full, hf] at h'
  iapply h' $$ H
  iintro H
  iapply Hk
  iexists f
  isplitr
  · ipureintro; exact hf
  · iexact H

/-- A load of a window of a block gives that window of its contents. -/
theorem wp_load_window {m : Memref sig .tc .vmem s e} {off size : Fin s.rank → Nat} {inb : ∀ a, off a + size a ≤ s.size a}
    {hl : m.view.LoadsAt (Rect.unit (s := s) off size inb).toLoadRect} {X : s.Idx → Val e}
    {k : ((Rect.unit (s := s) off size inb).toLoadRect.shape.Idx → Val e) → Prog (TpuEff nD τ sig Val Λ .tc) α} :
    iprop(owns (c : Thread nD τ) m fullShare X ∗ (owns (c : Thread nD τ) m fullShare X -∗ wp frame (wpE defs 𝒱 (c : Thread nD τ) bd) E (k (VecWindow.window X off size inb)) Q))
      ⊢ wp frame (wpE defs 𝒱 (c : Thread nD τ) bd) E (Prog.lift (.load m (Rect.unit (s := s) off size inb).toLoadRect hl) >>= k) Q := by
  have h (f) := wp_load (defs := defs) 𝒱 (c : Thread nD τ) bd (Γ := .empty) E (Q := Q) (m := m) (r := (Rect.unit (s := s) off size inb).toLoadRect) (hl := hl)
    (k := k) (q := fullShare) (f := f) (S := m.view.set) (by
      intro i hi
      obtain ⟨y, -, rfl⟩ := Finset.mem_map.mp hi
      exact Finset.mem_map.mpr ⟨y, Finset.mem_univ _, rfl⟩)
  unfold owns
  iintro ⟨⟨%f, %hf, H⟩, Hk⟩
  have h' := h f
  rw [View.readAt_unit m.view f inb rfl inb, hf] at h'
  iapply h' $$ H
  iintro H
  iapply Hk
  iexists f
  isplitr
  · ipureintro; exact hf
  · iexact H

/-- A store over a whole block replaces its contents. -/
theorem wp_store_all {m : Memref sig .tc .vmem s e} {off : Fin s.rank → Nat} {inb : ∀ a, off a + s.size a ≤ s.size a}
    {w : (Rect.unit (s := s) off s.size inb).shape.Idx → Val e}
    {hx : (m.access (Rect.unit (s := s) off s.size inb)).Stores Finset.univ} {hm : Finset.univ = Finset.univ ∨ ∀ a, (Rect.unit (s := s) off s.size inb).stride a = 1}
    {X : s.Idx → Val e} {k : PUnit → Prog (TpuEff nD τ sig Val Λ .tc) α} :
    iprop(owns (c : Thread nD τ) m fullShare X ∗ (owns (c : Thread nD τ) m fullShare w -∗ wp frame (wpE defs 𝒱 (c : Thread nD τ) bd) E (k ⟨⟩) Q))
      ⊢ wp frame (wpE defs 𝒱 (c : Thread nD τ) bd) E (Prog.lift (.store m (Rect.unit (s := s) off s.size inb) w Finset.univ hx hm) >>= k) Q := by
  unfold owns
  iintro ⟨⟨%f, %hf, H⟩, Hk⟩
  iapply (wp_store_writes₀ (defs := defs) 𝒱 (c : Thread nD τ) bd E (Q := Q) (m := m) (w := w) (hx := hx) (hm := hm) (k := k) (S := m.view.set) (f := f)
    (m.view.set_slice_subset _)) $$ H
  iintro H
  iapply Hk
  iexists _
  isplitr
  swap
  · iexact H
  · ipureintro; exact View.read_writes_full m.view f inb w []

/-- A store over a window of a block puts the payload there. -/
theorem wp_store_window {m : Memref sig .tc .vmem s e} {off size : Fin s.rank → Nat} {inb : ∀ a, off a + size a ≤ s.size a}
    {w : (Rect.unit (s := s) off size inb).shape.Idx → Val e}
    {hx : (m.access (Rect.unit (s := s) off size inb)).Stores Finset.univ} {hm : Finset.univ = Finset.univ ∨ ∀ a, (Rect.unit (s := s) off size inb).stride a = 1}
    {X : s.Idx → Val e} {k : PUnit → Prog (TpuEff nD τ sig Val Λ .tc) α} :
    iprop(owns (c : Thread nD τ) m fullShare X ∗ (owns (c : Thread nD τ) m fullShare (VecWindow.put X off size w) -∗ wp frame (wpE defs 𝒱 (c : Thread nD τ) bd) E (k ⟨⟩) Q))
      ⊢ wp frame (wpE defs 𝒱 (c : Thread nD τ) bd) E (Prog.lift (.store m (Rect.unit (s := s) off size inb) w Finset.univ hx hm) >>= k) Q := by
  unfold owns
  iintro ⟨⟨%f, %hf, H⟩, Hk⟩
  iapply (wp_store_writes₀ (defs := defs) 𝒱 (c : Thread nD τ) bd E (Q := Q) (m := m) (w := w) (hx := hx) (hm := hm) (k := k) (S := m.view.set) (f := f)
    (m.view.set_slice_subset _)) $$ H
  iintro H
  iapply Hk
  iexists _
  isplitr
  swap
  · iexact H
  · ipureintro; rw [View.read_writes_cons_put m.view f inb w [] rfl, View.writes_nil, hf]

end Cert.Hand

end
-- ==== Proof.Ideal.FwdTriple.lean ====
/- What one point of the forward call does to the blocks it holds.

   Four steps move the scores on; each step's scores go to their row of the output block and the last ones stay behind
   for the next point. -/
module

public import proofs.«01_k».proof.Proof.Ideal.FwdBody
public import proofs.«01_k».proof.Proof.Ideal.Steps

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

/-- The whole program's resources: no ghost state of our own. -/
abbrev UU : Type := UR sig nD τ

local notation "𝕄" => MT nD τ sig Unit (Elt F) ℕ UU ℕ

/-- Row `n` of the block of symbols. -/
abbrev symRow (X : Vec F S4x1x64 .i32) (n : Nat) (hn : ∀ a, (![n, 0, 0] : Fin 3 → Nat) a + S1x1x64.size a ≤ S4x1x64.size a) : IVec S1x64 32 :=
  shapeCast S1x64 (VecWindow.window (s := S4x1x64) X ![n, 0, 0] S1x1x64.size hn : Vec F S1x1x64 .i32) shapeCasts_S1x1x64_S1x64

/-- Scores as a row of the output block. -/
def outRow (v : FVec F S64x512 .f32) : FVec F S1x64x512 .f32 := shapeCast S1x64x512 v shapeCasts_S64x512_S1x64x512

/-- Scores put in row `n` of the output block. -/
def putOut (X : FVec F S4x64x512 .f32) (n : Nat) (v : FVec F S64x512 .f32) : FVec F S4x64x512 .f32 :=
  VecWindow.put (s := S4x64x512) X ![n, 0, 0] S1x64x512.size (outRow v)

section

variable (c : Dev nD) (i : grid0.Coords) (arg1 : Memref sig .tc .vmem S4x1x64 .i32) (arg2 : Memref sig .tc .vmem S1x512 .f32) (arg3 : Memref sig .tc .vmem S512x512 .f32) (arg4 : Memref sig .tc .vmem S2048x512 .bf16) (arg5 : Memref sig .tc .vmem S2048x512 .bf16) (arg6 : Memref sig .tc .vmem S2048x512 .bf16) (arg7 : Memref sig .tc .vmem S4x64x512 .f32) (arg8 : Memref sig .tc .vmem S64x512 .f32)
variable (X1 : Vec F S4x1x64 .i32) (X2 : FVec F S1x512 .f32) (X3 : FVec F S512x512 .f32) (X4 X5 X6 : FVec F S2048x512 .bf16)

/-- A block held at its contents. -/
abbrev hold (c : Dev nD) {s : Shape} {e : EltTy} (m : Memref sig .tc .vmem s e) (X : s.Idx → Elt F e) : sProp 𝕄 := owns (c : Thread nD τ) m fullShare X

/-- The first step's scores: from the start scores at the first point, from the scores left behind at a later one. -/
def firstScores (v : FVec F S64x512 .f32) : FVec F S64x512 .f32 :=
  if (i 0).val = 0 then startOf X2 (emitOf (symRow X1 0 inb_S4x1x64_S1x1x64_0_0_0) X4 X5 X6)
  else stepOf v X3 (emitOf (symRow X1 0 inb_S4x1x64_S1x1x64_0_0_0) X4 X5 X6)

/-- The second, third and fourth steps' scores. -/
def scores1 (v : FVec F S64x512 .f32) : FVec F S64x512 .f32 :=
  stepOf (firstScores i X1 X2 X3 X4 X5 X6 v) X3 (emitOf (symRow X1 1 inb_S4x1x64_S1x1x64_1_0_0) X4 X5 X6)
def scores2 (v : FVec F S64x512 .f32) : FVec F S64x512 .f32 :=
  stepOf (scores1 i X1 X2 X3 X4 X5 X6 v) X3 (emitOf (symRow X1 2 inb_S4x1x64_S1x1x64_2_0_0) X4 X5 X6)
def scores3 (v : FVec F S64x512 .f32) : FVec F S64x512 .f32 :=
  stepOf (scores2 i X1 X2 X3 X4 X5 X6 v) X3 (emitOf (symRow X1 3 inb_S4x1x64_S1x1x64_3_0_0) X4 X5 X6)

/-- The output block after a point, from the scores left behind by the point before. -/
def fwdBlock (v : FVec F S64x512 .f32) (X7 : FVec F S4x64x512 .f32) : FVec F S4x64x512 .f32 :=
  putOut (putOut (putOut (putOut X7 0 (firstScores i X1 X2 X3 X4 X5 X6 v)) 1 (scores1 i X1 X2 X3 X4 X5 X6 v)) 2 (scores2 i X1 X2 X3 X4 X5 X6 v)) 3
    (scores3 i X1 X2 X3 X4 X5 X6 v)

theorem cond_first : (Scalar.cmpi .ne (Scalar.extui (Scalar.cmpi .eq (BitVec.ofNat 32 (i 0).val) 0#32)) 0#32 = 1#1) ↔ (i 0).val = 0 := by
  have h : ∀ n : Fin 128, (Scalar.cmpi .ne (Scalar.extui (Scalar.cmpi .eq (BitVec.ofNat 32 n.val) 0#32)) 0#32 = 1#1) ↔ n.val = 0 := by decide
  exact h (i 0)

theorem cond_later : (Scalar.cmpi .ne (Scalar.extui (Scalar.cmpi .sgt (BitVec.ofNat 32 (i 0).val) 0#32)) 0#32 = 1#1) ↔ (i 0).val ≠ 0 := by
  have h : ∀ n : Fin 128, (Scalar.cmpi .ne (Scalar.extui (Scalar.cmpi .sgt (BitVec.ofNat 32 n.val) 0#32)) 0#32 = 1#1) ↔ n.val ≠ 0 := by decide
  exact h (i 0)

/-- The first step of a point. -/
theorem wp_step0Prog (X7 : FVec F S4x64x512 .f32) (v : FVec F S64x512 .f32) (E : Set ℕ) (Q : IVec S1x64 32 → sProp 𝕄) :
    iprop(hold c arg1 X1 ∗ hold c arg2 X2 ∗ hold c arg3 X3 ∗ hold c arg4 X4 ∗ hold c arg5 X5 ∗ hold c arg6 X6 ∗ hold c arg7 X7 ∗ hold c arg8 v
      ∗ (hold c arg1 X1 -∗ hold c arg2 X2 -∗ hold c arg3 X3 -∗ hold c arg4 X4 -∗ hold c arg5 X5 -∗ hold c arg6 X6
          -∗ hold c arg7 (putOut X7 0 (firstScores i X1 X2 X3 X4 X5 X6 v)) -∗ hold c arg8 (firstScores i X1 X2 X3 X4 X5 X6 v)
          -∗ Q (symRow X1 1 inb_S4x1x64_S1x1x64_1_0_0)))
      ⊢ wp frame (wpE (defs₀ (F := F)) Variants.none (c : Thread nD τ) none) E (step0Prog i arg1 arg2 arg3 arg4 arg5 arg6 arg7 arg8) Q := by
  unfold step0Prog firstScores
  iintro ⟨H1, H2, H3, H4, H5, H6, H7, H8, Hk⟩
  iapply wp_load_window
  isplitl [H1]; · iexact H1
  iintro H1
  iapply wp_load_all
  isplitl [H4]; · iexact H4
  iintro H4
  iapply wp_load_all
  isplitl [H5]; · iexact H5
  iintro H5
  iapply wp_load_all
  isplitl [H6]; · iexact H6
  iintro H6
  by_cases h0 : (i 0).val = 0
  · rw [if_pos h0, dif_pos ((cond_first i).mpr h0), dif_neg (fun h => (cond_later i).mp h h0)]
    iapply wp_load_all
    isplitl [H2]; · iexact H2
    iintro H2
    iapply wp_load_all
    isplitl [H8]; · iexact H8
    iintro H8
    iapply wp_store_all
    isplitl [H8]; · iexact H8
    iintro H8
    iapply wp_load_all
    isplitl [H8]; · iexact H8
    iintro H8
    iapply wp_load_window
    isplitl [H7]; · iexact H7
    iintro H7
    iapply wp_store_window
    isplitl [H7]; · iexact H7
    iintro H7
    iapply wp_load_window
    isplitl [H1]; · iexact H1
    iintro H1
    rw [wp_pure]
    ispecialize Hk $$ [H1] [H2] [H3] [H4] [H5] [H6] [H7] [H8]
    · iexact H1
    · iexact H2
    · iexact H3
    · iexact H4
    · iexact H5
    · iexact H6
    · iexact H7
    · iexact H8
    imodintro
    iexact Hk
  · rw [if_neg h0, dif_neg (fun h => h0 ((cond_first i).mp h)), dif_pos ((cond_later i).mpr h0)]
    iapply wp_load_all
    isplitl [H8]; · iexact H8
    iintro H8
    iapply wp_load_all
    isplitl [H3]; · iexact H3
    iintro H3
    iapply wp_load_all
    isplitl [H8]; · iexact H8
    iintro H8
    iapply wp_store_all
    isplitl [H8]; · iexact H8
    iintro H8
    iapply wp_load_all
    isplitl [H8]; · iexact H8
    iintro H8
    iapply wp_load_window
    isplitl [H7]; · iexact H7
    iintro H7
    iapply wp_store_window
    isplitl [H7]; · iexact H7
    iintro H7
    iapply wp_load_window
    isplitl [H1]; · iexact H1
    iintro H1
    rw [wp_pure]
    ispecialize Hk $$ [H1] [H2] [H3] [H4] [H5] [H6] [H7] [H8]
    · iexact H1
    · iexact H2
    · iexact H3
    · iexact H4
    · iexact H5
    · iexact H6
    · iexact H7
    · iexact H8
    imodintro
    iexact Hk

/-- A later step of a point. -/
theorem wp_stepProg (o : IVec S1x64 32) (n : Nat) (hn) (X7 : FVec F S4x64x512 .f32) (v : FVec F S64x512 .f32) (E : Set ℕ) (Q : PUnit → sProp 𝕄) :
    iprop(hold c arg3 X3 ∗ hold c arg4 X4 ∗ hold c arg5 X5 ∗ hold c arg6 X6 ∗ hold c arg7 X7 ∗ hold c arg8 v
      ∗ (hold c arg3 X3 -∗ hold c arg4 X4 -∗ hold c arg5 X5 -∗ hold c arg6 X6 -∗ hold c arg7 (putOut X7 n (stepOf v X3 (emitOf o X4 X5 X6)))
          -∗ hold c arg8 (stepOf v X3 (emitOf o X4 X5 X6)) -∗ Q ⟨⟩))
      ⊢ wp frame (wpE (defs₀ (F := F)) Variants.none (c : Thread nD τ) none) E (stepProg arg3 arg4 arg5 arg6 arg7 arg8 o n hn) Q := by
  unfold stepProg
  iintro ⟨H3, H4, H5, H6, H7, H8, Hk⟩
  iapply wp_load_all
  isplitl [H4]; · iexact H4
  iintro H4
  iapply wp_load_all
  isplitl [H5]; · iexact H5
  iintro H5
  iapply wp_load_all
  isplitl [H6]; · iexact H6
  iintro H6
  iapply wp_load_all
  isplitl [H8]; · iexact H8
  iintro H8
  iapply wp_load_all
  isplitl [H3]; · iexact H3
  iintro H3
  iapply wp_load_all
  isplitl [H8]; · iexact H8
  iintro H8
  iapply wp_store_all
  isplitl [H8]; · iexact H8
  iintro H8
  iapply wp_load_all
  isplitl [H8]; · iexact H8
  iintro H8
  iapply wp_load_window
  isplitl [H7]; · iexact H7
  iintro H7
  iapply wp_store_window
  isplitl [H7]; · iexact H7
  iintro H7
  rw [wp_pure]
  iapply Hk $$ [H3] [H4] [H5] [H6] [H7] [H8]
  · iexact H3
  · iexact H4
  · iexact H5
  · iexact H6
  · iexact H7
  · iexact H8

/-- A point's four steps. -/
theorem wp_fwdProg (X7 : FVec F S4x64x512 .f32) (v : FVec F S64x512 .f32) (E : Set ℕ) (Q : PUnit → sProp 𝕄) :
    iprop(hold c arg1 X1 ∗ hold c arg2 X2 ∗ hold c arg3 X3 ∗ hold c arg4 X4 ∗ hold c arg5 X5 ∗ hold c arg6 X6 ∗ hold c arg7 X7 ∗ hold c arg8 v
      ∗ (hold c arg1 X1 -∗ hold c arg2 X2 -∗ hold c arg3 X3 -∗ hold c arg4 X4 -∗ hold c arg5 X5 -∗ hold c arg6 X6
          -∗ hold c arg7 (fwdBlock i X1 X2 X3 X4 X5 X6 v X7) -∗ hold c arg8 (scores3 i X1 X2 X3 X4 X5 X6 v) -∗ Q ⟨⟩))
      ⊢ wp frame (wpE (defs₀ (F := F)) Variants.none (c : Thread nD τ) none) E (fwdProg i arg1 arg2 arg3 arg4 arg5 arg6 arg7 arg8) Q := by
  unfold fwdProg
  rw [wp_bind]
  iintro ⟨H1, H2, H3, H4, H5, H6, H7, H8, Hk⟩
  iapply wp_step0Prog
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iintro H1 H2 H3 H4 H5 H6 H7 H8
  rw [wp_bind]
  iapply wp_stepProg
  isplitl [H3]; · iexact H3
  isplitl [H4]; · iexact H4
  isplitl [H5]; · iexact H5
  isplitl [H6]; · iexact H6
  isplitl [H7]; · iexact H7
  isplitl [H8]; · iexact H8
  iintro H3 H4 H5 H6 H7 H8
  iapply wp_load_window
  isplitl [H1]; · iexact H1
  iintro H1
  rw [wp_bind]
  iapply wp_stepProg
  isplitl [H3]; · iexact H3
  isplitl [H4]; · iexact H4
  isplitl [H5]; · iexact H5
  isplitl [H6]; · iexact H6
  isplitl [H7]; · iexact H7
  isplitl [H8]; · iexact H8
  iintro H3 H4 H5 H6 H7 H8
  iapply wp_load_window
  isplitl [H1]; · iexact H1
  iintro H1
  iapply wp_stepProg
  isplitl [H3]; · iexact H3
  isplitl [H4]; · iexact H4
  isplitl [H5]; · iexact H5
  isplitl [H6]; · iexact H6
  isplitl [H7]; · iexact H7
  isplitl [H8]; · iexact H8
  iintro H3 H4 H5 H6 H7 H8
  iapply Hk $$ [H1] [H2] [H3] [H4] [H5] [H6] [H7] [H8]
  · iexact H1
  · iexact H2
  · iexact H3
  · iexact H4
  · iexact H5
  · iexact H6
  · iexact H7
  · iexact H8

end

end Cert.KernelIdeal.Hand

end
-- ==== Proof.Ideal.BwdTriple.lean ====
/- What one point of the backward call does to the blocks it holds.

   The state left behind by the point before walks back through the point's sixteen rows; each row's state goes to its
   row of the path block and the last one stays behind for the next point. -/
module

public import proofs.«01_k».proof.Proof.Ideal.BwdBody
public import proofs.«01_k».proof.Proof.Ideal.FwdTriple

@[expose] public section

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Gen Cert.Hand

variable {F : FTy → Type} [FloatOps F]

local notation "𝕄" => MT nD τ sig Unit (Elt F) ℕ UU ℕ

/-- Row `n` of the block of scores. -/
abbrev scoreRow (X : FVec F S16x64x512 .f32) (n : Nat) (hn : ∀ a, (![n, 0, 0] : Fin 3 → Nat) a + S1x64x512.size a ≤ S16x64x512.size a) : FVec F S1x64x512 .f32 :=
  VecWindow.window (s := S16x64x512) X ![n, 0, 0] S1x64x512.size hn

/-- A state put in row `n` of the path block. -/
def putPath (X : IVec S16x1x64 32) (n : Nat) (st : IVec S64x1 32) : IVec S16x1x64 32 :=
  VecWindow.put (s := S16x1x64) X ![n, 0, 0] S1x1x64.size (pathRow st)

section

variable (c : Dev nD) (i : grid1.Coords) (arg1 : Memref sig .tc .vmem S16x64x512 .f32) (arg2 : Memref sig .tc .vmem S512x512 .bf16) (arg3 : Memref sig .tc .vmem S512x512 .bf16) (arg4 : Memref sig .tc .vmem S512x512 .bf16) (arg5 : Memref sig .tc .vmem S16x1x64 .i32) (arg6 : Memref sig .tc .vmem S64x1 .i32)
variable (X1 : FVec F S16x64x512 .f32) (X2 X3 X4 : FVec F S512x512 .bf16)

/-- The state after the rows `n - 1, …, 0`. -/
def walkState : (n : Nat) → n ≤ 16 → IVec S64x1 32 → IVec S64x1 32
  | 0, _, st => st
  | n + 1, h, st => walkState n (Nat.le_of_succ_le h) (backOf (scoreRow X1 n (inb_row n h)) st X2 X3 X4)

/-- The path block after the rows `n - 1, …, 0`. -/
def walkBlock : (n : Nat) → n ≤ 16 → IVec S64x1 32 → IVec S16x1x64 32 → IVec S16x1x64 32
  | 0, _, _, X5 => X5
  | n + 1, h, st, X5 => walkBlock n (Nat.le_of_succ_le h) (backOf (scoreRow X1 n (inb_row n h)) st X2 X3 X4)
      (putPath X5 n (backOf (scoreRow X1 n (inb_row n h)) st X2 X3 X4))

/-- The last row's state: the first best column at the first point, one step back from the state left behind at a later one. -/
def lastState (st : IVec S64x1 32) : IVec S64x1 32 :=
  if (i 0).val = 0 then lastOf (scoreRow X1 15 inb_S16x64x512_S1x64x512_15_0_0)
  else backOf (scoreRow X1 15 inb_S16x64x512_S1x64x512_15_0_0) st X2 X3 X4

theorem isFirst_iff : isFirst i ↔ (i 0).val = 0 := by
  have h : ∀ n : Fin 32, (Scalar.cmpi .ne (Scalar.extui (Scalar.cmpi .eq (BitVec.ofNat 32 n.val) 0#32)) 0#32 = 1#1) ↔ n.val = 0 := by decide
  exact h (i 0)

theorem isLater_iff : isLater i ↔ (i 0).val ≠ 0 := by
  have h : ∀ n : Fin 32, (Scalar.cmpi .ne (Scalar.extui (Scalar.cmpi .sgt (BitVec.ofNat 32 n.val) 0#32)) 0#32 = 1#1) ↔ n.val ≠ 0 := by decide
  exact h (i 0)

/-- The state moves one step back. -/
theorem wp_moveProg (v : FVec F S1x64x512 .f32) (st : IVec S64x1 32) (E : Set ℕ) (Q : PUnit → sProp 𝕄) :
    iprop(hold c arg2 X2 ∗ hold c arg3 X3 ∗ hold c arg4 X4 ∗ hold (F := F) c arg6 st
      ∗ (hold c arg2 X2 -∗ hold c arg3 X3 -∗ hold c arg4 X4 -∗ hold (F := F) c arg6 (backOf v st X2 X3 X4) -∗ Q ⟨⟩))
      ⊢ wp frame (wpE (defs₀ (F := F)) Variants.none (c : Thread nD τ) none) E (moveProg arg2 arg3 arg4 arg6 v) Q := by
  unfold moveProg
  iintro ⟨H2, H3, H4, H6, Hk⟩
  iapply wp_load_all
  isplitl [H6]; · iexact H6
  iintro H6
  iapply wp_load_all
  isplitl [H2]; · iexact H2
  iintro H2
  iapply wp_load_all
  isplitl [H3]; · iexact H3
  iintro H3
  iapply wp_load_all
  isplitl [H4]; · iexact H4
  iintro H4
  iapply wp_load_all
  isplitl [H6]; · iexact H6
  iintro H6
  iapply wp_store_all
  isplitl [H6]; · iexact H6
  iintro H6
  rw [wp_pure]
  iapply Hk $$ [H2] [H3] [H4] [H6]
  · iexact H2
  · iexact H3
  · iexact H4
  · iexact H6

/-- The state goes to its row of the path block. -/
theorem wp_writeRow (n : Nat) (hn) (X5 : IVec S16x1x64 32) (st : IVec S64x1 32) (E : Set ℕ) (Q : PUnit → sProp 𝕄) :
    iprop(hold (F := F) c arg5 X5 ∗ hold (F := F) c arg6 st
      ∗ (hold (F := F) c arg5 (putPath X5 n st) -∗ hold (F := F) c arg6 st -∗ Q ⟨⟩))
      ⊢ wp frame (wpE (defs₀ (F := F)) Variants.none (c : Thread nD τ) none) E (writeRow arg5 arg6 n hn) Q := by
  unfold writeRow
  iintro ⟨H5, H6, Hk⟩
  iapply wp_load_all
  isplitl [H6]; · iexact H6
  iintro H6
  iapply wp_load_window
  isplitl [H5]; · iexact H5
  iintro H5
  iapply wp_store_window
  isplitl [H5]; · iexact H5
  iintro H5
  rw [wp_pure]
  iapply Hk $$ [H5] [H6]
  · iexact H5
  · iexact H6

/-- The rows `n - 1, …, 0`. -/
theorem wp_backProgs (n : Nat) (h : n ≤ 16) (X5 : IVec S16x1x64 32) (st : IVec S64x1 32) (E : Set ℕ) (Q : PUnit → sProp 𝕄) :
    iprop(hold c arg1 X1 ∗ hold c arg2 X2 ∗ hold c arg3 X3 ∗ hold c arg4 X4 ∗ hold (F := F) c arg5 X5 ∗ hold (F := F) c arg6 st
      ∗ (hold c arg1 X1 -∗ hold c arg2 X2 -∗ hold c arg3 X3 -∗ hold c arg4 X4
          -∗ hold (F := F) c arg5 (walkBlock X1 X2 X3 X4 n h st X5) -∗ hold (F := F) c arg6 (walkState X1 X2 X3 X4 n h st) -∗ Q ⟨⟩))
      ⊢ wp frame (wpE (defs₀ (F := F)) Variants.none (c : Thread nD τ) none) E (backProgs arg1 arg2 arg3 arg4 arg5 arg6 n h) Q := by
  induction n generalizing X5 st with
  | zero =>
    unfold backProgs walkBlock walkState
    iintro ⟨H1, H2, H3, H4, H5, H6, Hk⟩
    rw [wp_pure]
    iapply Hk $$ [H1] [H2] [H3] [H4] [H5] [H6]
    · iexact H1
    · iexact H2
    · iexact H3
    · iexact H4
    · iexact H5
    · iexact H6
  | succ n ih =>
    unfold backProgs walkBlock walkState backProg loadRow
    rw [bind_assoc]
    iintro ⟨H1, H2, H3, H4, H5, H6, Hk⟩
    iapply wp_load_window
    isplitl [H1]; · iexact H1
    iintro H1
    rw [bind_assoc, wp_bind]
    iapply wp_moveProg
    isplitl [H2]; · iexact H2
    isplitl [H3]; · iexact H3
    isplitl [H4]; · iexact H4
    isplitl [H6]; · iexact H6
    iintro H2 H3 H4 H6
    rw [wp_bind]
    iapply wp_writeRow
    isplitl [H5]; · iexact H5
    isplitl [H6]; · iexact H6
    iintro H5 H6
    iapply ih
    isplitl [H1]; · iexact H1
    isplitl [H2]; · iexact H2
    isplitl [H3]; · iexact H3
    isplitl [H4]; · iexact H4
    isplitl [H5]; · iexact H5
    isplitl [H6]; · iexact H6
    iexact Hk

/-- The path block after a point, from the state left behind by the point before. -/
def bwdBlock (st : IVec S64x1 32) (X5 : IVec S16x1x64 32) : IVec S16x1x64 32 :=
  walkBlock X1 X2 X3 X4 15 (by decide) (lastState i X1 X2 X3 X4 st) (putPath X5 15 (lastState i X1 X2 X3 X4 st))

/-- The state left behind by a point. -/
def bwdState (st : IVec S64x1 32) : IVec S64x1 32 :=
  walkState X1 X2 X3 X4 15 (by decide) (lastState i X1 X2 X3 X4 st)

/-- A point's sixteen rows. -/
theorem wp_bwdProg (X5 : IVec S16x1x64 32) (st : IVec S64x1 32) (E : Set ℕ) (Q : PUnit → sProp 𝕄) :
    iprop(hold c arg1 X1 ∗ hold c arg2 X2 ∗ hold c arg3 X3 ∗ hold c arg4 X4 ∗ hold (F := F) c arg5 X5 ∗ hold (F := F) c arg6 st
      ∗ (hold c arg1 X1 -∗ hold c arg2 X2 -∗ hold c arg3 X3 -∗ hold c arg4 X4
          -∗ hold (F := F) c arg5 (bwdBlock i X1 X2 X3 X4 st X5) -∗ hold (F := F) c arg6 (bwdState i X1 X2 X3 X4 st) -∗ Q ⟨⟩))
      ⊢ wp frame (wpE (defs₀ (F := F)) Variants.none (c : Thread nD τ) none) E (bwdProg i arg1 arg2 arg3 arg4 arg5 arg6) Q := by
  unfold bwdProg loadRow bwdBlock bwdState lastState
  iintro ⟨H1, H2, H3, H4, H5, H6, Hk⟩
  iapply wp_load_window
  isplitl [H1]; · iexact H1
  iintro H1
  unfold initProg contProg
  by_cases h0 : (i 0).val = 0
  · rw [if_pos h0, if_pos ((isFirst_iff i).mpr h0), if_neg (fun h => (isLater_iff i).mp h h0), pure_bind]
    unfold startProg
    rw [bind_assoc]
    iapply wp_load_all
    isplitl [H6]; · iexact H6
    iintro H6
    iapply wp_store_all
    isplitl [H6]; · iexact H6
    iintro H6
    rw [wp_bind]
    iapply wp_writeRow
    isplitl [H5]; · iexact H5
    isplitl [H6]; · iexact H6
    iintro H5 H6
    iapply wp_backProgs
    isplitl [H1]; · iexact H1
    isplitl [H2]; · iexact H2
    isplitl [H3]; · iexact H3
    isplitl [H4]; · iexact H4
    isplitl [H5]; · iexact H5
    isplitl [H6]; · iexact H6
    iexact Hk
  · rw [if_neg h0, if_neg (fun h => h0 ((isFirst_iff i).mp h)), if_pos ((isLater_iff i).mpr h0), pure_bind, wp_bind]
    iapply wp_moveProg
    isplitl [H2]; · iexact H2
    isplitl [H3]; · iexact H3
    isplitl [H4]; · iexact H4
    isplitl [H6]; · iexact H6
    iintro H2 H3 H4 H6
    rw [wp_bind]
    iapply wp_writeRow
    isplitl [H5]; · iexact H5
    isplitl [H6]; · iexact H6
    iintro H5 H6
    iapply wp_backProgs
    isplitl [H1]; · iexact H1
    isplitl [H2]; · iexact H2
    isplitl [H3]; · iexact H3
    isplitl [H4]; · iexact H4
    isplitl [H5]; · iexact H5
    isplitl [H6]; · iexact H6
    iexact Hk

end

end Cert.KernelIdeal.Hand

end
-- ==== Proof.Ideal.Blocks.lean ====
/- The blocks of the two calls, as rows of two sequences.

   `alpha` is the sequence of scores the forward call computes, one row per time step; `sigma` the sequence of states
   the backward call computes, walking from the last row to the first. One point of the forward call fills four rows
   of `alpha`; one point of the backward call fills sixteen rows of `sigma`. -/
module

public import proofs.«01_k».proof.Proof.Ideal.BwdTriple
public import Idealize.ShloMosaic.Lib.ValueLayout

@[expose] public section

noncomputable section

namespace Cert.KernelIdeal.Hand

open Idealize.ShloMosaic Idealize.ShloMosaic.ValueIdx
open Cert.KernelIdeal.Gen

variable {F : FTy → Type} [FloatOps F]

/-! ## A rank-3 index's coordinates are below the extents -/

theorem coord3_lt0 {a b c : Nat} (j : (⟨3, ![a, b, c]⟩ : Shape).Idx) : (j 0).val < a := (j 0).isLt
theorem coord3_lt1 {a b c : Nat} (j : (⟨3, ![a, b, c]⟩ : Shape).Idx) : (j 1).val < b := (j 1).isLt
theorem coord3_lt2 {a b c : Nat} (j : (⟨3, ![a, b, c]⟩ : Shape).Idx) : (j 2).val < c := (j 2).isLt

/-! ## The rows of the blocks are below the number of time steps -/

theorem fwd_lt {t n : Nat} (ht : t < 128) (hn : n < 4) : 4 * t + n < 512 := by omega
theorem fwd_pred_lt {t : Nat} (ht : t < 128) : 4 * t - 1 < 512 := by omega
theorem bwd_lt {t n : Nat} (_ : t < 32) (hn : n < 16) : 16 * (31 - t) + n < 512 := by omega
theorem back_lt (j : Nat) : 511 - j < 512 := by omega
theorem last_lt : 511 < 512 := by decide

/-! ## Rows put in a block -/

theorem putOut_apply (X : FVec F S4x64x512 .f32) (n : Nat) (v : FVec F S64x512 .f32) (y : S4x64x512.Idx) :
    putOut X n v y = if (y 0).val = n then v (ix2 (y 1) (y 2)) else X y := by
  unfold putOut outRow VecWindow.put
  by_cases h : (y 0).val = n
  · have h1 := coord3_lt1 y
    have h2 := coord3_lt2 y
    rw [if_pos h, dif_pos (fun a => by
      match a with
      | ⟨0, _⟩ => exact ⟨Nat.le_of_eq h.symm, by simp [h]⟩
      | ⟨1, _⟩ => exact ⟨Nat.zero_le _, by show (y 1).val < 0 + 64; omega⟩
      | ⟨2, _⟩ => exact ⟨Nat.zero_le _, by show (y 2).val < 0 + 512; omega⟩)]
    refine (shapeCast_addUnit_apply ![64, 512] v _ _).trans (congrArg v (funext fun a => ?_))
    match a with
    | ⟨0, _⟩ => rfl
    | ⟨1, _⟩ => rfl
  · rw [if_neg h, dif_neg]
    intro h'
    have := h' 0
    have e1 : (![n, 0, 0] : Fin 3 → Nat) 0 = n := rfl
    have e2 : S1x64x512.size 0 = 1 := rfl
    rw [e1, e2] at this
    omega

theorem pathRow_apply (st : IVec S64x1 32) (z : S1x1x64.Idx) : pathRow st z = st (ix2 (z 2) 0) := by
  unfold pathRow
  refine (shapeCast_addUnit_apply ![1, 64] _ _ z).trans ?_
  have h1 : (z 1).val < 1 := coord3_lt1 z
  have e : (fun a : Fin 2 => z a.succ) = (ix2 (0 : Fin 1) (z 2) : S1x64.Idx) := funext fun a => by
    match a with
    | ⟨0, _⟩ => exact Fin.ext (by show (z 1).val = 0; omega)
    | ⟨1, _⟩ => rfl
  exact (congrArg _ e).trans (transpose_ix2_apply st _ _ _)

theorem putPath_apply (X : IVec S16x1x64 32) (n : Nat) (st : IVec S64x1 32) (y : S16x1x64.Idx) :
    putPath X n st y = if (y 0).val = n then st (ix2 (y 2) 0) else X y := by
  unfold putPath VecWindow.put
  by_cases h : (y 0).val = n
  · have h1 := coord3_lt1 y
    have h2 := coord3_lt2 y
    rw [if_pos h, dif_pos (fun a => by
      match a with
      | ⟨0, _⟩ => exact ⟨Nat.le_of_eq h.symm, by simp [h]⟩
      | ⟨1, _⟩ => exact ⟨Nat.zero_le _, by show (y 1).val < 0 + 1; omega⟩
      | ⟨2, _⟩ => exact ⟨Nat.zero_le _, by show (y 2).val < 0 + 64; omega⟩)]
    exact pathRow_apply st _
  · rw [if_neg h, dif_neg]
    intro h'
    have := h' 0
    have e1 : (![n, 0, 0] : Fin 3 → Nat) 0 = n := rfl
    have e2 : S1x1x64.size 0 = 1 := rfl
    rw [e1, e2] at this
    omega

/-! ## The forward call -/

section Fwd

variable (o : IVec S512x1x64 32) (s : FVec F S1x512 .f32) (tr : FVec F S512x512 .f32) (hi mid lo : FVec F S2048x512 .bf16)

/-- The symbols of time step `k`. -/
def symAt (k : Nat) (hk : k < 512) : IVec S1x64 32 := fun y => o (ix3 ⟨k, hk⟩ (y 0) (y 1))

theorem symAt_congr {k k' : Nat} (e : k = k') (h : k < 512) (h' : k' < 512) : symAt o k h = symAt o k' h' := by subst e; rfl

/-- The scores of time step `k`. -/
def alpha : (k : Nat) → k < 512 → FVec F S64x512 .f32
  | 0, h => startOf s (emitOf (symAt o 0 h) hi mid lo)
  | k + 1, h => stepOf (alpha k (Nat.lt_of_succ_lt h)) tr (emitOf (symAt o (k + 1) h) hi mid lo)

theorem alpha_congr {k k' : Nat} (e : k = k') (h : k < 512) (h' : k' < 512) :
    alpha o s tr hi mid lo k h = alpha o s tr hi mid lo k' h' := by subst e; rfl

variable {o} {X1 : Vec F S4x1x64 .i32} {t : Nat} (ht : t < 128)
  (hX : ∀ y : S4x1x64.Idx, X1 y = o (ix3 ⟨4 * t + (y 0).val, fwd_lt ht (coord3_lt0 y)⟩ (y 1) (y 2)))

include hX in
theorem symRow_eq (n : Nat) (hn) (h4 : n < 4) : symRow X1 n hn = symAt o (4 * t + n) (fwd_lt ht h4) := by
  funext y
  refine (shapeCast_dropUnit_apply ![1, 64] _ _ y).trans ?_
  refine (hX _).trans (congrArg o (funext fun a => ?_))
  match a with
  | ⟨0, _⟩ => exact Fin.ext (by show 4 * t + (n + 1 * 0) = 4 * t + n; omega)
  | ⟨1, _⟩ => exact Fin.ext (by show 0 + 1 * (y 0).val = (y 0).val; omega)
  | ⟨2, _⟩ => exact Fin.ext (by show 0 + 1 * (y 1).val = (y 1).val; omega)

variable (i : grid0.Coords) (hi0 : (i 0).val = t) (v : FVec F S64x512 .f32)
  (hv : ∀ h0 : t ≠ 0, v = alpha o s tr hi mid lo (4 * t - 1) (fwd_pred_lt ht))

include hX hi0 hv

theorem firstScores_eq : firstScores i X1 s tr hi mid lo v = alpha o s tr hi mid lo (4 * t) (fwd_lt ht (n := 0) (by decide)) := by
  unfold firstScores
  rw [symRow_eq ht hX 0 _ (by decide)]
  by_cases h0 : t = 0
  · subst h0
    rw [if_pos hi0]; rfl
  · rw [if_neg (hi0 ▸ h0), hv h0]
    have e : 4 * t = (4 * t - 1) + 1 := by omega
    rw [alpha_congr o s tr hi mid lo e (by omega) (by omega)]
    show stepOf _ _ (emitOf (symAt o (4 * t + 0) _) _ _ _) = stepOf _ _ (emitOf (symAt o (4 * t - 1 + 1) _) _ _ _)
    rw [symAt_congr o (show 4 * t + 0 = 4 * t - 1 + 1 by omega)]

theorem scores1_eq : scores1 i X1 s tr hi mid lo v = alpha o s tr hi mid lo (4 * t + 1) (fwd_lt ht (by decide)) := by
  unfold scores1
  rw [firstScores_eq s tr hi mid lo ht hX i hi0 v hv, symRow_eq ht hX 1 _ (by decide)]; rfl

theorem scores2_eq : scores2 i X1 s tr hi mid lo v = alpha o s tr hi mid lo (4 * t + 2) (fwd_lt ht (by decide)) := by
  unfold scores2
  rw [scores1_eq s tr hi mid lo ht hX i hi0 v hv, symRow_eq ht hX 2 _ (by decide)]; rfl

theorem scores3_eq : scores3 i X1 s tr hi mid lo v = alpha o s tr hi mid lo (4 * t + 3) (fwd_lt ht (by decide)) := by
  unfold scores3
  rw [scores2_eq s tr hi mid lo ht hX i hi0 v hv, symRow_eq ht hX 3 _ (by decide)]; rfl

/-- A point's block: rows `4 t … 4 t + 3` of the scores. -/
theorem fwdBlock_apply (X7 : FVec F S4x64x512 .f32) (y : S4x64x512.Idx) :
    fwdBlock i X1 s tr hi mid lo v X7 y
      = alpha o s tr hi mid lo (4 * t + (y 0).val) (fwd_lt ht (coord3_lt0 y)) (ix2 (y 1) (y 2)) := by
  unfold fwdBlock
  rw [scores3_eq s tr hi mid lo ht hX i hi0 v hv, scores2_eq s tr hi mid lo ht hX i hi0 v hv,
    scores1_eq s tr hi mid lo ht hX i hi0 v hv, firstScores_eq s tr hi mid lo ht hX i hi0 v hv,
    putOut_apply, putOut_apply, putOut_apply, putOut_apply]
  have h0 := coord3_lt0 y
  split
  · rename_i h; exact congrFun (alpha_congr o s tr hi mid lo (by omega) _ _) _
  · split
    · rename_i h; exact congrFun (alpha_congr o s tr hi mid lo (by omega) _ _) _
    · split
      · rename_i h; exact congrFun (alpha_congr o s tr hi mid lo (by omega) _ _) _
      · rw [if_pos (by omega)]; exact congrFun (alpha_congr o s tr hi mid lo (by omega) _ _) _

end Fwd

/-! ## The backward call -/

section Bwd

variable (A : FVec F S512x64x512 .f32) (hi mid lo : FVec F S512x512 .bf16)

/-- Row `T` of the scores. -/
def rowAt (T : Nat) (hT : T < 512) : FVec F S1x64x512 .f32 := fun y => A (ix3 ⟨T, hT⟩ (y 1) (y 2))

/-- The state after `j` steps back from the last row. -/
def sigma : Nat → IVec S64x1 32
  | 0 => lastOf (rowAt A 511 last_lt)
  | j + 1 => backOf (rowAt A (511 - (j + 1)) (back_lt _)) (sigma j) hi mid lo

theorem rowAt_congr {T T' : Nat} (e : T = T') (h : T < 512) (h' : T' < 512) : rowAt A T h = rowAt A T' h' := by subst e; rfl

variable {A} {X1 : FVec F S16x64x512 .f32} {t : Nat} (ht : t < 32)
  (hX : ∀ y : S16x64x512.Idx, X1 y = A (ix3 ⟨16 * (31 - t) + (y 0).val, bwd_lt ht (coord3_lt0 y)⟩ (y 1) (y 2)))

include ht hX

theorem scoreRow_eq (n : Nat) (hn) (h16 : n < 16) : scoreRow X1 n hn = rowAt A (16 * (31 - t) + n) (bwd_lt ht h16) := by
  funext y
  refine (hX _).trans (congrArg A (funext fun a => ?_))
  have h0 : (y 0).val < 1 := coord3_lt0 y
  match a with
  | ⟨0, _⟩ => exact Fin.ext (by show 16 * (31 - t) + (n + 1 * (y 0).val) = 16 * (31 - t) + n; omega)
  | ⟨1, _⟩ => exact Fin.ext (by show 0 + 1 * (y 1).val = (y 1).val; omega)
  | ⟨2, _⟩ => exact Fin.ext (by show 0 + 1 * (y 2).val = (y 2).val; omega)

/-- Walking back over row `n` of the block. -/
theorem back_eq (n : Nat) (hn) (h16 : n < 15) :
    backOf (scoreRow X1 n hn) (sigma A hi mid lo (16 * t + 15 - (n + 1))) hi mid lo = sigma A hi mid lo (16 * t + 15 - n) := by
  rw [scoreRow_eq ht hX n hn (by omega), show 16 * t + 15 - n = (16 * t + 15 - (n + 1)) + 1 by omega]
  show _ = backOf (rowAt A (511 - (16 * t + 15 - (n + 1) + 1)) _) _ _ _ _
  rw [rowAt_congr A (show 16 * (31 - t) + n = 511 - (16 * t + 15 - (n + 1) + 1) by omega)]

theorem walkState_eq (n : Nat) (h : n ≤ 16) (h15 : n ≤ 15) :
    walkState X1 hi mid lo n h (sigma A hi mid lo (16 * t + 15 - n)) = sigma A hi mid lo (16 * t + 15) := by
  induction n with
  | zero => rfl
  | succ n ih =>
    unfold walkState
    rw [back_eq hi mid lo ht hX n _ (by omega)]
    exact ih _ (by omega)

theorem walkBlock_apply (n : Nat) (h : n ≤ 16) (h15 : n ≤ 15) (X5 : IVec S16x1x64 32) (y : S16x1x64.Idx) :
    walkBlock X1 hi mid lo n h (sigma A hi mid lo (16 * t + 15 - n)) X5 y
      = if (y 0).val < n then sigma A hi mid lo (16 * t + 15 - (y 0).val) (ix2 (y 2) 0) else X5 y := by
  induction n generalizing X5 with
  | zero => rw [if_neg (Nat.not_lt_zero _)]; rfl
  | succ n ih =>
    unfold walkBlock
    rw [back_eq hi mid lo ht hX n _ (by omega), ih _ (by omega), putPath_apply]
    by_cases h1 : (y 0).val < n
    · rw [if_pos h1, if_pos (by omega)]
    · rw [if_neg h1]
      by_cases h2 : (y 0).val = n
      · rw [if_pos h2, if_pos (by omega), h2]
      · rw [if_neg h2, if_neg (by omega)]

variable (i : grid1.Coords) (hi0 : (i 0).val = t) (st : IVec S64x1 32)
  (hst : t ≠ 0 → st = sigma A hi mid lo (16 * t - 1))

include hi0 hst

theorem lastState_eq : lastState i X1 hi mid lo st = sigma A hi mid lo (16 * t) := by
  unfold lastState
  rw [scoreRow_eq ht hX 15 _ (by decide)]
  by_cases h0 : t = 0
  · subst h0
    rw [if_pos hi0]; rfl
  · rw [if_neg (hi0 ▸ h0), hst h0, show 16 * t = (16 * t - 1) + 1 by omega]
    show _ = backOf (rowAt A (511 - (16 * t - 1 + 1)) _) _ _ _ _
    rw [rowAt_congr A (show 16 * (31 - t) + 15 = 511 - (16 * t - 1 + 1) by omega)]
    rfl

theorem bwdState_eq : bwdState i X1 hi mid lo st = sigma A hi mid lo (16 * t + 15) := by
  unfold bwdState
  rw [lastState_eq hi mid lo ht hX i hi0 st hst]
  exact walkState_eq hi mid lo ht hX 15 _ (le_refl _)

/-- A point's block: row `n` holds the state after `16 t + 15 - n` steps back. -/
theorem bwdBlock_apply (X5 : IVec S16x1x64 32) (y : S16x1x64.Idx) :
    bwdBlock i X1 hi mid lo st X5 y = sigma A hi mid lo (16 * t + 15 - (y 0).val) (ix2 (y 2) 0) := by
  unfold bwdBlock
  rw [lastState_eq hi mid lo ht hX i hi0 st hst]
  refine (walkBlock_apply hi mid lo ht hX 15 _ (le_refl _) _ y).trans ?_
  rw [putPath_apply]
  have h0 := coord3_lt0 y
  by_cases h1 : (y 0).val < 15
  · rw [if_pos h1]
  · have e : (y 0).val = 15 := by omega
    rw [if_neg h1, if_pos e, e]
    rfl

end Bwd

end Cert.KernelIdeal.Hand

end
-- ==== Proof.Ideal.FwdRegion.lean ====
/- The forward call as a region: its proof data, its body's obligation and its segment record.

   Entered with the unscoped buffers at `V`, the call leaves in its result's buffer the scores `alpha` of every time
   step and changes nothing else. -/
module

public import proofs.«01_k».proof.Proof.Ideal.Blocks
public import proofs.«01_k».proof.Proof.Gen.KernelIdeal.Launch
public import proofs.«01_k».proof.Proof.Gen.KernelIdeal.Points
public import proofs.«01_k».proof.Proof.Gen.KernelIdeal.Regions
public import Idealize.ShloMosaic.Lib.Pipeline.RegionArrays
public import Idealize.ShloMosaic.Lib.Pipeline.ValueKit
public import Idealize.ShloMosaic.Lib.Tactic

@[expose] public section

noncomputable section

namespace Cert.KernelIdeal.Hand

open Idealize.ShloMosaic hiding ix1 ix2 ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen Cert.Hand

variable {F : FTy → Type} [FloatOps F]

local notation "𝕄" => MT nD τ sig Unit (Elt F) ℕ UU ℕ

variable (V : (c : Dev nD) → (b : Ref sig .tc) → Buf (Elt F) ((c : Thread nD τ).loc b))

/-! ## What the call computes -/

/-- The scores of time step `k`, from the operands' buffers. -/
def scoresV (c : Dev nD) (k : Nat) (hk : k < 512) : FVec F S64x512 .f32 :=
  alpha (F := F) (V c main_v1) (V c main_v2) (V c main_arg2) (V c main_v11) (V c main_v12) (V c main_v13) k hk

/-- The scores of every time step. -/
def scoresArr (c : Dev nD) : FVec F S512x64x512 .f32 := fun y => scoresV V c (y 0).val (coord3_lt0 y) (ix2 (y 1) (y 2))

/-! ## The operands' blocks -/

theorem coords0 : ∀ t : Fin cfg0.N, ((grid0.coords t) 0).val = t.val := by decide +kernel

theorem lt0 (t : Fin cfg0.N) : t.val < 128 := lt_of_lt_of_eq t.isLt N_0

theorem index0_0 : ∀ t : Fin cfg0.N, win0_0.index t 0 = t.val ∧ win0_0.index t 1 = 0 ∧ win0_0.index t 2 = 0 := by decide +kernel
theorem index0_6 : ∀ t : Fin cfg0.N, win0_6.index t 0 = t.val ∧ win0_6.index t 1 = 0 ∧ win0_6.index t 2 = 0 := by decide +kernel

/-- The block of symbols at point `t`. -/
theorem block0_0 (c : Dev nD) (t : Fin cfg0.N) (y : S4x1x64.Idx) :
    (((cfg0.win 0).blk t).view.read (Elt F) (V c main_v1) : Vec F S4x1x64 .i32) y
      = (V c main_v1 : IVec S512x1x64 32) (ix3 ⟨4 * t.val + (y 0).val, fwd_lt (lt0 t) (coord3_lt0 y)⟩ (y 1) (y 2)) := by
  rw [View.read_apply]
  obtain ⟨h0, h1, h2⟩ := index0_0 t
  refine congrArg (V c main_v1 : IVec S512x1x64 32) (funext fun a => Fin.ext ?_)
  match a with
  | ⟨0, _⟩ => refine ((win0_0).rect_emb_val t y 0).trans ?_; rw [h0]; show t.val * 4 + (y 0).val = 4 * t.val + (y 0).val; omega
  | ⟨1, _⟩ => refine ((win0_0).rect_emb_val t y 1).trans ?_; rw [h1]; show 0 * 1 + (y 1).val = (y 1).val; omega
  | ⟨2, _⟩ => refine ((win0_0).rect_emb_val t y 2).trans ?_; rw [h2]; show 0 * 64 + (y 2).val = (y 2).val; omega

/-! The other operands' blocks are the whole buffers. -/

theorem block0_1 (c : Dev nD) (t : Fin cfg0.N) : (((cfg0.win 1).blk t).view.read (Elt F) (V c main_v2) : FVec F S1x512 .f32) = V c main_v2 := by
  funext y
  rw [View.read_apply]
  refine congrArg (V c main_v2 : FVec F S1x512 .f32) (funext fun a => Fin.ext ?_)
  exact win0_1.rect_emb_val_of_index_zero t a (by fin_cases a <;> rfl) y

theorem block0_2 (c : Dev nD) (t : Fin cfg0.N) : (((cfg0.win 2).blk t).view.read (Elt F) (V c main_arg2) : FVec F S512x512 .f32) = V c main_arg2 := by
  funext y
  rw [View.read_apply]
  refine congrArg (V c main_arg2 : FVec F S512x512 .f32) (funext fun a => Fin.ext ?_)
  exact win0_2.rect_emb_val_of_index_zero t a (by fin_cases a <;> rfl) y

theorem block0_3 (c : Dev nD) (t : Fin cfg0.N) : (((cfg0.win 3).blk t).view.read (Elt F) (V c main_v11) : FVec F S2048x512 .bf16) = V c main_v11 := by
  funext y
  rw [View.read_apply]
  refine congrArg (V c main_v11 : FVec F S2048x512 .bf16) (funext fun a => Fin.ext ?_)
  exact win0_3.rect_emb_val_of_index_zero t a (by fin_cases a <;> rfl) y

theorem block0_4 (c : Dev nD) (t : Fin cfg0.N) : (((cfg0.win 4).blk t).view.read (Elt F) (V c main_v12) : FVec F S2048x512 .bf16) = V c main_v12 := by
  funext y
  rw [View.read_apply]
  refine congrArg (V c main_v12 : FVec F S2048x512 .bf16) (funext fun a => Fin.ext ?_)
  exact win0_4.rect_emb_val_of_index_zero t a (by fin_cases a <;> rfl) y

theorem block0_5 (c : Dev nD) (t : Fin cfg0.N) : (((cfg0.win 5).blk t).view.read (Elt F) (V c main_v13) : FVec F S2048x512 .bf16) = V c main_v13 := by
  funext y
  rw [View.read_apply]
  refine congrArg (V c main_v13 : FVec F S2048x512 .bf16) (funext fun a => Fin.ext ?_)
  exact win0_5.rect_emb_val_of_index_zero t a (by fin_cases a <;> rfl) y

/-! ## The proof data -/

/-- A scoped buffer held at something. -/
abbrev scr (c : Dev nD) (r : Ref sig .tc) : sProp 𝕄 := iprop(∃ f : Buf (Elt F) ((c : Thread nD τ).loc r), ((c : Thread nD τ).loc r) ↦{fullShare} f)

/-- The scoped buffers the call does not touch. -/
def rest0 (c : Dev nD) : sProp 𝕄 :=
  iprop(scr (F := F) c cc1_stg0_0 ∗ scr (F := F) c cc1_stg0_1 ∗ scr (F := F) c cc1_stg1_0 ∗ scr (F := F) c cc1_stg2_0 ∗ scr (F := F) c cc1_stg3_0
    ∗ scr (F := F) c cc1_stg4_0 ∗ scr (F := F) c cc1_stg4_1 ∗ scr (F := F) c cc1_scratch0)

/-- Before point `n` the scratch holds the last scores of the point before (at the first point: anything). -/
def inv0 (c : Dev nD) (n : Nat) : sProp 𝕄 :=
  iprop((∃ v : FVec F S64x512 .f32, ⌜∀ h : 4 * n - 1 < 512, n ≠ 0 → v = scoresV V c (4 * n - 1) h⌝ ∗ hold c (Memref.whole cc0_scratch0) v) ∗ rest0 (F := F) c)

/-- What the result's staging buffer holds after point `t`. -/
def out0 (c : Dev nD) (t : Fin cfg0.N) : FVec F S4x64x512 .f32 := fun y =>
  scoresV V c (4 * t.val + (y 0).val) (fwd_lt (lt0 t) (coord3_lt0 y)) (ix2 (y 1) (y 2))

/-- The forward call's proof data from the valuation `V`. -/
def dat0 (c : Dev nD) : Dat τ (Elt F) Unit ℕ UU ℕ cfg0 c where
  A w := V c (Pipeline.arrRef spec0 w)
  after w t := match w with
    | ⟨0, _⟩ => ((cfg0.win 0).blk t).view.read (Elt F) (V c main_v1)
    | ⟨1, _⟩ => ((cfg0.win 1).blk t).view.read (Elt F) (V c main_v2)
    | ⟨2, _⟩ => ((cfg0.win 2).blk t).view.read (Elt F) (V c main_arg2)
    | ⟨3, _⟩ => ((cfg0.win 3).blk t).view.read (Elt F) (V c main_v11)
    | ⟨4, _⟩ => ((cfg0.win 4).blk t).view.read (Elt F) (V c main_v12)
    | ⟨5, _⟩ => ((cfg0.win 5).blk t).view.read (Elt F) (V c main_v13)
    | ⟨6, _⟩ => out0 V c t
  Φ t := inv0 V c t.val
  q _ := fullShare
  owed _ := 0

theorem before0_0 (c : Dev nD) (t : Fin cfg0.N) (d) : (dat0 V c).before 0 t d = ((cfg0.win 0).blk t).view.read (Elt F) (V c main_v1) :=
  (dat0 V c).before_in_eq_fetched 0 rfl (fun _ => rfl) (fun _ _ _ => rfl) (fun _ => rfl) t d

theorem before0_1 (c : Dev nD) (t : Fin cfg0.N) (d) : (dat0 V c).before 1 t d = ((cfg0.win 1).blk t).view.read (Elt F) (V c main_v2) :=
  (dat0 V c).before_in_eq_fetched 1 rfl (fun _ => rfl) (fun _ _ _ => rfl) (fun _ => rfl) t d

theorem before0_2 (c : Dev nD) (t : Fin cfg0.N) (d) : (dat0 V c).before 2 t d = ((cfg0.win 2).blk t).view.read (Elt F) (V c main_arg2) :=
  (dat0 V c).before_in_eq_fetched 2 rfl (fun _ => rfl) (fun _ _ _ => rfl) (fun _ => rfl) t d

theorem before0_3 (c : Dev nD) (t : Fin cfg0.N) (d) : (dat0 V c).before 3 t d = ((cfg0.win 3).blk t).view.read (Elt F) (V c main_v11) :=
  (dat0 V c).before_in_eq_fetched 3 rfl (fun _ => rfl) (fun _ _ _ => rfl) (fun _ => rfl) t d

theorem before0_4 (c : Dev nD) (t : Fin cfg0.N) (d) : (dat0 V c).before 4 t d = ((cfg0.win 4).blk t).view.read (Elt F) (V c main_v12) :=
  (dat0 V c).before_in_eq_fetched 4 rfl (fun _ => rfl) (fun _ _ _ => rfl) (fun _ => rfl) t d

theorem before0_5 (c : Dev nD) (t : Fin cfg0.N) (d) : (dat0 V c).before 5 t d = ((cfg0.win 5).blk t).view.read (Elt F) (V c main_v13) :=
  (dat0 V c).before_in_eq_fetched 5 rfl (fun _ => rfl) (fun _ _ _ => rfl) (fun _ => rfl) t d

/-! ## The body's obligation -/

theorem body0 (c : Dev nD) : BodyObligation (dat0 V c) (defs₀ (F := F)) Variants.none () Set.univ := fun t => by
  rw [bigSep_W0, bigSep_W0]
  rw [show (dat0 V c).Φ t.castSucc = inv0 V c t.val from rfl, show (dat0 V c).Φ t.succ = inv0 V c (t.val + 1) from rfl,
    show (dat0 V c).owesAt () t.succ = (dat0 V c).owesAt () t.castSucc from rfl,
    show defs₀ (F := F) .tc cfg0.body (cfg0.bodyArgs t (cfg0.slots t)) = bodyAt0 t from rfl]
  unfold bodyAt0
  rw [cc0__fwd_body_eq]
  unfold inv0
  iintro ⟨⟨⟨%v, %hv, Hs⟩, Hr⟩, Howes, ⟨%d0, H0⟩, ⟨%d1, H1⟩, ⟨%d2, H2⟩, ⟨%d3, H3⟩, ⟨%d4, H4⟩, ⟨%d5, H5⟩, ⟨%d6, H6⟩⟩
  rw [before0_0, before0_1, before0_2, before0_3, before0_4, before0_5]
  rw [block0_1, block0_2, block0_3, block0_4, block0_5]
  iapply wp_fwdProg
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [Hs]; · iexact Hs
  iintro H0 H1 H2 H3 H4 H5 H6 Hs
  have hv' : ∀ h0 : t.val ≠ 0, v = alpha (F := F) (V c main_v1) (V c main_v2) (V c main_arg2) (V c main_v11) (V c main_v12) (V c main_v13) (4 * t.val - 1)
      (by have := lt0 t; omega) := fun h0 => hv _ h0
  have es : scores3 (F := F) (grid0.coords t) (((cfg0.win 0).blk t).view.read (Elt F) (V c main_v1)) (V c main_v2) (V c main_arg2) (V c main_v11) (V c main_v12) (V c main_v13) v
      = scoresV V c (4 * t.val + 3) (by have := lt0 t; omega) :=
    scores3_eq _ _ _ _ _ (lt0 t) (block0_0 V c t) (grid0.coords t) (coords0 t) v hv'
  have eb (X7) : fwdBlock (F := F) (grid0.coords t) (((cfg0.win 0).blk t).view.read (Elt F) (V c main_v1)) (V c main_v2) (V c main_arg2) (V c main_v11) (V c main_v12) (V c main_v13) v X7
      = out0 V c t :=
    funext fun y => fwdBlock_apply _ _ _ _ _ (lt0 t) (block0_0 V c t) (grid0.coords t) (coords0 t) v hv' X7 y
  rw [es, eb]
  rw [show (dat0 V c).after 1 t = V c main_v2 from block0_1 V c t, show (dat0 V c).after 2 t = V c main_arg2 from block0_2 V c t,
    show (dat0 V c).after 3 t = V c main_v11 from block0_3 V c t, show (dat0 V c).after 4 t = V c main_v12 from block0_4 V c t,
    show (dat0 V c).after 5 t = V c main_v13 from block0_5 V c t]
  isplitl [Hs Hr]
  · isplitl [Hs]
    · iexists _
      isplitr; swap; (· iexact Hs)
      ipureintro
      intro h _
      exact alpha_congr _ _ _ _ _ _ (by omega) _ _
    · iexact Hr
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-! ## What the call leaves in the result's buffer -/

theorem final0 (c : Dev nD) : (dat0 V c).arrAt 6 cfg0.N = scoresArr V c := by
  refine (dat0 V c).arrAt_eq_of_covers 6 (scoresArr V c) (by decide +kernel) fun t _ y => ?_
  obtain ⟨h0, h1, h2⟩ := index0_6 t
  have e0 : (((cfg0.win 6).blk t).view.emb y 0 : Nat) = 4 * t.val + (y 0).val := by
    refine ((win0_6).rect_emb_val t y 0).trans ?_; rw [h0]; show t.val * 4 + (y 0).val = _; omega
  have e1 : (((cfg0.win 6).blk t).view.emb y 1 : Nat) = (y 1).val := by
    refine ((win0_6).rect_emb_val t y 1).trans ?_; rw [h1]; show 0 * 64 + (y 1).val = _; omega
  have e2 : (((cfg0.win 6).blk t).view.emb y 2 : Nat) = (y 2).val := by
    refine ((win0_6).rect_emb_val t y 2).trans ?_; rw [h2]; show 0 * 512 + (y 2).val = _; omega
  show out0 V c t y = scoresArr V c (((cfg0.win 6).blk t).view.emb y)
  unfold out0 scoresArr scoresV
  rw [alpha_congr _ _ _ _ _ _ e0.symm]
  refine congrArg _ (funext fun a => ?_)
  match a with
  | ⟨0, _⟩ => exact Fin.ext e1.symm
  | ⟨1, _⟩ => exact Fin.ext e2.symm

end Cert.KernelIdeal.Hand

end
-- ==== Proof.Ideal.BwdRegion.lean ====
/- The backward call as a region: its proof data, its body's obligation and what it leaves.

   Entered with the unscoped buffers at `V`, the call leaves in its result's buffer the states `sigma`, the last time
   step's first, and changes nothing else. -/
module

public import proofs.«01_k».proof.Proof.Ideal.FwdRegion

@[expose] public section

noncomputable section

namespace Cert.KernelIdeal.Hand

open Idealize.ShloMosaic hiding ix1 ix2 ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation)
open Cert.KernelIdeal.Gen Cert.Hand

variable {F : FTy → Type} [FloatOps F]

local notation "𝕄" => MT nD τ sig Unit (Elt F) ℕ UU ℕ

variable (V : (c : Dev nD) → (b : Ref sig .tc) → Buf (Elt F) ((c : Thread nD τ).loc b))

/-! ## What the call computes -/

/-- The state after `j` steps back, from the operands' buffers. -/
def stateV (c : Dev nD) (j : Nat) : IVec S64x1 32 := sigma (F := F) (V c main_v23) (V c main_v20) (V c main_v21) (V c main_v22) j

/-- The states, each in the row of its time step. -/
def pathArr (c : Dev nD) : IVec S512x1x64 32 := fun y => stateV V c (511 - (y 0).val) (ix2 (y 2) 0)

/-! ## The operands' blocks -/

theorem coords1 : ∀ t : Fin cfg1.N, ((grid1.coords t) 0).val = t.val := by decide +kernel

theorem lt1 (t : Fin cfg1.N) : t.val < 32 := lt_of_lt_of_eq t.isLt N_1

theorem index1_0 : ∀ t : Fin cfg1.N, win1_0.index t 0 = 31 - t.val ∧ win1_0.index t 1 = 0 ∧ win1_0.index t 2 = 0 := by decide +kernel
theorem index1_4 : ∀ t : Fin cfg1.N, win1_4.index t 0 = 31 - t.val ∧ win1_4.index t 1 = 0 ∧ win1_4.index t 2 = 0 := by decide +kernel

/-- The block of scores at point `t`. -/
theorem block1_0 (c : Dev nD) (t : Fin cfg1.N) (y : S16x64x512.Idx) :
    (((cfg1.win 0).blk t).view.read (Elt F) (V c main_v23) : FVec F S16x64x512 .f32) y
      = (V c main_v23 : FVec F S512x64x512 .f32) (ix3 ⟨16 * (31 - t.val) + (y 0).val, bwd_lt (lt1 t) (coord3_lt0 y)⟩ (y 1) (y 2)) := by
  rw [View.read_apply]
  obtain ⟨h0, h1, h2⟩ := index1_0 t
  refine congrArg (V c main_v23 : FVec F S512x64x512 .f32) (funext fun a => Fin.ext ?_)
  match a with
  | ⟨0, _⟩ => refine ((win1_0).rect_emb_val t y 0).trans ?_; rw [h0]; show (31 - t.val) * 16 + (y 0).val = 16 * (31 - t.val) + (y 0).val; omega
  | ⟨1, _⟩ => refine ((win1_0).rect_emb_val t y 1).trans ?_; rw [h1]; show 0 * 64 + (y 1).val = (y 1).val; omega
  | ⟨2, _⟩ => refine ((win1_0).rect_emb_val t y 2).trans ?_; rw [h2]; show 0 * 512 + (y 2).val = (y 2).val; omega

/-! The other operands' blocks are the whole buffers. -/

theorem block1_1 (c : Dev nD) (t : Fin cfg1.N) : (((cfg1.win 1).blk t).view.read (Elt F) (V c main_v20) : FVec F S512x512 .bf16) = V c main_v20 := by
  funext y
  rw [View.read_apply]
  refine congrArg (V c main_v20 : FVec F S512x512 .bf16) (funext fun a => Fin.ext ?_)
  exact win1_1.rect_emb_val_of_index_zero t a (by fin_cases a <;> rfl) y

theorem block1_2 (c : Dev nD) (t : Fin cfg1.N) : (((cfg1.win 2).blk t).view.read (Elt F) (V c main_v21) : FVec F S512x512 .bf16) = V c main_v21 := by
  funext y
  rw [View.read_apply]
  refine congrArg (V c main_v21 : FVec F S512x512 .bf16) (funext fun a => Fin.ext ?_)
  exact win1_2.rect_emb_val_of_index_zero t a (by fin_cases a <;> rfl) y

theorem block1_3 (c : Dev nD) (t : Fin cfg1.N) : (((cfg1.win 3).blk t).view.read (Elt F) (V c main_v22) : FVec F S512x512 .bf16) = V c main_v22 := by
  funext y
  rw [View.read_apply]
  refine congrArg (V c main_v22 : FVec F S512x512 .bf16) (funext fun a => Fin.ext ?_)
  exact win1_3.rect_emb_val_of_index_zero t a (by fin_cases a <;> rfl) y

/-! ## The proof data -/

/-- The scoped buffers the call does not touch. -/
def rest1 (c : Dev nD) : sProp 𝕄 :=
  iprop(scr (F := F) c cc0_stg0_0 ∗ scr (F := F) c cc0_stg0_1 ∗ scr (F := F) c cc0_stg1_0 ∗ scr (F := F) c cc0_stg2_0 ∗ scr (F := F) c cc0_stg3_0
    ∗ scr (F := F) c cc0_stg4_0 ∗ scr (F := F) c cc0_stg5_0 ∗ scr (F := F) c cc0_stg6_0 ∗ scr (F := F) c cc0_stg6_1 ∗ scr (F := F) c cc0_scratch0)

/-- Before point `n` the scratch holds the last state of the point before (at the first point: anything). -/
def inv1 (c : Dev nD) (n : Nat) : sProp 𝕄 :=
  iprop((∃ st : IVec S64x1 32, ⌜n ≠ 0 → st = stateV V c (16 * n - 1)⌝ ∗ hold (F := F) c (Memref.whole cc1_scratch0) st) ∗ rest1 (F := F) c)

/-- What the result's staging buffer holds after point `t`. -/
def out1 (c : Dev nD) (t : Fin cfg1.N) : IVec S16x1x64 32 := fun y => stateV V c (16 * t.val + 15 - (y 0).val) (ix2 (y 2) 0)

/-- The backward call's proof data from the valuation `V`. -/
def dat1 (c : Dev nD) : Dat τ (Elt F) Unit ℕ UU ℕ cfg1 c where
  A w := V c (Pipeline.arrRef spec1 w)
  after w t := match w with
    | ⟨0, _⟩ => ((cfg1.win 0).blk t).view.read (Elt F) (V c main_v23)
    | ⟨1, _⟩ => ((cfg1.win 1).blk t).view.read (Elt F) (V c main_v20)
    | ⟨2, _⟩ => ((cfg1.win 2).blk t).view.read (Elt F) (V c main_v21)
    | ⟨3, _⟩ => ((cfg1.win 3).blk t).view.read (Elt F) (V c main_v22)
    | ⟨4, _⟩ => out1 V c t
  Φ t := inv1 V c t.val
  q _ := fullShare
  owed _ := 0

theorem before1_0 (c : Dev nD) (t : Fin cfg1.N) (d) : (dat1 V c).before 0 t d = ((cfg1.win 0).blk t).view.read (Elt F) (V c main_v23) :=
  (dat1 V c).before_in_eq_fetched 0 rfl (fun _ => rfl) (fun _ _ _ => rfl) (fun _ => rfl) t d

theorem before1_1 (c : Dev nD) (t : Fin cfg1.N) (d) : (dat1 V c).before 1 t d = ((cfg1.win 1).blk t).view.read (Elt F) (V c main_v20) :=
  (dat1 V c).before_in_eq_fetched 1 rfl (fun _ => rfl) (fun _ _ _ => rfl) (fun _ => rfl) t d

theorem before1_2 (c : Dev nD) (t : Fin cfg1.N) (d) : (dat1 V c).before 2 t d = ((cfg1.win 2).blk t).view.read (Elt F) (V c main_v21) :=
  (dat1 V c).before_in_eq_fetched 2 rfl (fun _ => rfl) (fun _ _ _ => rfl) (fun _ => rfl) t d

theorem before1_3 (c : Dev nD) (t : Fin cfg1.N) (d) : (dat1 V c).before 3 t d = ((cfg1.win 3).blk t).view.read (Elt F) (V c main_v22) :=
  (dat1 V c).before_in_eq_fetched 3 rfl (fun _ => rfl) (fun _ _ _ => rfl) (fun _ => rfl) t d

/-! ## The body's obligation -/

theorem body1 (c : Dev nD) : BodyObligation (dat1 V c) (defs₀ (F := F)) Variants.none () Set.univ := fun t => by
  rw [bigSep_W1, bigSep_W1]
  rw [show (dat1 V c).Φ t.castSucc = inv1 V c t.val from rfl, show (dat1 V c).Φ t.succ = inv1 V c (t.val + 1) from rfl,
    show (dat1 V c).owesAt () t.succ = (dat1 V c).owesAt () t.castSucc from rfl,
    show defs₀ (F := F) .tc cfg1.body (cfg1.bodyArgs t (cfg1.slots t)) = bodyAt1 t from rfl]
  unfold bodyAt1
  rw [cc1__bwd_body_eq]
  unfold inv1
  iintro ⟨⟨⟨%st, %hst, Hs⟩, Hr⟩, Howes, ⟨%d0, H0⟩, ⟨%d1, H1⟩, ⟨%d2, H2⟩, ⟨%d3, H3⟩, ⟨%d4, H4⟩⟩
  rw [before1_0, before1_1, before1_2, before1_3, block1_1, block1_2, block1_3]
  iapply wp_bwdProg
  isplitl [H0]; · iexact H0
  isplitl [H1]; · iexact H1
  isplitl [H2]; · iexact H2
  isplitl [H3]; · iexact H3
  isplitl [H4]; · iexact H4
  isplitl [Hs]; · iexact Hs
  iintro H0 H1 H2 H3 H4 Hs
  have es : bwdState (F := F) (grid1.coords t) (((cfg1.win 0).blk t).view.read (Elt F) (V c main_v23)) (V c main_v20) (V c main_v21) (V c main_v22) st
      = stateV V c (16 * t.val + 15) :=
    bwdState_eq _ _ _ (lt1 t) (block1_0 V c t) (grid1.coords t) (coords1 t) st hst
  have eb (X5) : bwdBlock (F := F) (grid1.coords t) (((cfg1.win 0).blk t).view.read (Elt F) (V c main_v23)) (V c main_v20) (V c main_v21) (V c main_v22) st X5
      = out1 V c t :=
    funext fun y => bwdBlock_apply _ _ _ (lt1 t) (block1_0 V c t) (grid1.coords t) (coords1 t) st hst X5 y
  rw [es, eb]
  rw [show (dat1 V c).after 1 t = V c main_v20 from block1_1 V c t, show (dat1 V c).after 2 t = V c main_v21 from block1_2 V c t,
    show (dat1 V c).after 3 t = V c main_v22 from block1_3 V c t]
  isplitl [Hs Hr]
  · isplitl [Hs]
    · iexists _
      isplitr; swap; (· iexact Hs)
      ipureintro
      intro _
      exact congrArg _ (by omega)
    · iexact Hr
  isplitl [Howes]; · iexact Howes
  isplitl [H0]; · iexact H0
  isplitl [H1]; · iexact H1
  isplitl [H2]; · iexact H2
  isplitl [H3]; · iexact H3
  iexact H4

/-! ## What the call leaves in the result's buffer -/

theorem final1 (c : Dev nD) : (dat1 V c).arrAt 4 cfg1.N = pathArr V c := by
  refine (dat1 V c).arrAt_eq_of_covers 4 (pathArr V c) (by decide +kernel) fun t _ y => ?_
  obtain ⟨h0, h1, h2⟩ := index1_4 t
  have e0 : (((cfg1.win 4).blk t).view.emb y 0 : Nat) = 16 * (31 - t.val) + (y 0).val := by
    refine ((win1_4).rect_emb_val t y 0).trans ?_; rw [h0]; show (31 - t.val) * 16 + (y 0).val = _; omega
  have e2 : (((cfg1.win 4).blk t).view.emb y 2 : Nat) = (y 2).val := by
    refine ((win1_4).rect_emb_val t y 2).trans ?_; rw [h2]; show 0 * 64 + (y 2).val = _; omega
  show out1 V c t y = pathArr V c (((cfg1.win 4).blk t).view.emb y)
  unfold out1 pathArr
  have ht := lt1 t
  have hy : (y 0).val < 16 := coord3_lt0 (a := 16) (b := 1) (c := 64) y
  rw [show 511 - (((cfg1.win 4).blk t).view.emb y 0 : Nat) = 16 * t.val + 15 - (y 0).val by rw [e0]; omega]
  refine congrArg _ (funext fun a => ?_)
  match a with
  | ⟨0, _⟩ => exact Fin.ext e2.symm
  | ⟨1, _⟩ => rfl

end Cert.KernelIdeal.Hand

end
-- ==== Proof.Ideal.Run.lean ====
/- The two calls as segments of the program, and the whole program's run.

   From any memory with every counter at zero the program ends, its arguments as they were, every counter at zero, and
   its result holding the path that the backward call left, laid out per sequence. -/
module

public import proofs.«01_k».proof.Proof.Ideal.FwdRegion
public import proofs.«01_k».proof.Proof.Ideal.BwdRegion
public import Idealize.ShloMosaic.Lib.Pipeline.RegionsLoop

@[expose] public section

noncomputable section

namespace Cert.KernelIdeal.Hand

open Idealize.ShloMosaic hiding ix1 ix2 ix3
open Idealize.ShloMosaic.TcCoe Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation RegionSeg Seg)
open Cert.KernelIdeal.Gen Cert.Hand

variable {F : FTy → Type} [FloatOps F]

local notation "𝕄" => MT nD τ sig Unit (Elt F) ℕ UU ℕ

/-- The contents of every core's buffers. -/
abbrev Bufs : Type := (c : Dev nD) → (b : Ref sig .tc) → Buf (Elt F) ((c : Thread nD τ).loc b)

variable (V W V' : Bufs (F := F))

/-- The two calls' proof data, the forward call entered at `V` and the backward call at `W`. -/
def pdats : (p : Fin 2) → (c : Dev nD) → Dat τ (Elt F) Unit ℕ UU ℕ (cfgs p) c
  | ⟨0, _⟩ => dat0 V
  | ⟨1, _⟩ => dat1 W

/-- No semaphore is given a level. -/
abbrev noLevel : GSem nD τ sig → Finset Unit := fun _ => ∅
/-- The level nobody reads. -/
abbrev zeroLevel : GSem nD τ sig → Unit → ℕ := fun _ _ => 0

/-- Core `c` owes no semaphore anything. -/
abbrev owesNone (c : Dev nD) : sProp 𝕄 := iprop(∃ X, owes (c : Thread nD τ) (0 : CellTallies nD τ sig Unit) X)

set_option backward.isDefEq.respectTransparency.types false in
/-- The forward call: from the unscoped buffers at `V` to the same with its result's buffer at the scores. -/
def reg0 (hout : ∀ c, V' c main_v23 = scoresArr V c) (hne : ∀ c (b : Ref sig .tc), b ≠ main_v23 → V' c b = V c b) :
    RegionSeg (pcfgs (F := F)) adm (pdats V W) () defs₀ Variants.none noLevel zeroLevel 0 where
  win := launch0.win.to₀
  block_pos := launch0.block_pos
  stage_whole := launch0.stage_whole
  K := PEmpty
  osem k := k.elim
  ho := Pipeline.OwnSemFacts.none _
  hbody c := (body0 V c).loose
  hwaits := Pipeline.hwaits_of_owed_zero _ _ _ _ noLevel zeroLevel 0 fun _ _ => rfl
  pre c := iprop(unscopedBufs c (V c) ∗ owesNone (F := F) c)
  post c := iprop(unscopedBufs c (V' c) ∗ owesNone (F := F) c)
  X _ := BI.emp
  Y _ := BI.emp
  Z c := Pipeline.unscopedRest (Ix := Unit) (Name := ℕ) (U := UU) (Lvl := ℕ) spec0 c (V c)
  hentry c := by
    rw [Pipeline.ownSems0_none]
    have hsplit := Pipeline.arrays_of_unscopedBufs (p := 0) (pcfgs (F := F)) adm (pdats V W) launch0.win launch0.arr_whole c
      ((pdats V W 0 c).share_full fun _ => rfl) (V c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats V W 0 c).Φ 0 = inv0 V c 0 from rfl, show Pipeline.scopedRest (Ix := Unit) (Name := ℕ) (U := UU) (Lvl := ℕ) (Val := Elt F) (cfgs 0).spec c = _ from scopedRest0_eq c]
    unfold inv0 rest0
    iintro ⟨-, -, ⟨%f, Hs⟩, Hr⟩
    isplitl [Hs]
    · iexists f
      isplitr; · ipureintro; exact fun _ h => absurd rfl h
      unfold hold; rw [owns_whole_eq]; iexists f; isplitr; · ipureintro; rfl
      iexact Hs
    iexact Hr
  hout c := by
    rw [Pipeline.ownSems0_none, show (pdats V W 0 c).Φ (Fin.last _) = inv0 V c cfg0.N from rfl, show Pipeline.scopedRest (Ix := Unit) (Name := ℕ) (U := UU) (Lvl := ℕ) (Val := Elt F) (cfgs 0).spec c = _ from scopedRest0_eq c]
    unfold inv0 rest0 hold
    simp only [owns_whole_eq]
    iintro ⟨⟨%v, -, ⟨%f, -, Hs⟩⟩, Hr⟩
    isplitr; · iempintro
    isplitr; · iempintro
    isplitl [Hs]; · iexists f; iexact Hs
    iexact Hr
  hexit c := by
    have hjoin := Pipeline.unscopedBufs_of_arrays (p := 0) (pcfgs (F := F)) adm (Ix := Unit) (Name := ℕ) (U := UU) (Lvl := ℕ) launch0.win launch0.arr_whole c
      (pdats V W) ((pdats V W 0 c).share_full fun _ => rfl) (V c) (V' c) ((pdats V W 0 c).arrAt · cfg0.N)
      (fun w => by
        fin_cases w
        · exact ((pdats V W 0 c).arrAt_in 0 rfl _).trans (hne c main_v1 (by decide)).symm
        · exact ((pdats V W 0 c).arrAt_in 1 rfl _).trans (hne c main_v2 (by decide)).symm
        · exact ((pdats V W 0 c).arrAt_in 2 rfl _).trans (hne c main_arg2 (by decide)).symm
        · exact ((pdats V W 0 c).arrAt_in 3 rfl _).trans (hne c main_v11 (by decide)).symm
        · exact ((pdats V W 0 c).arrAt_in 4 rfl _).trans (hne c main_v12 (by decide)).symm
        · exact ((pdats V W 0 c).arrAt_in 5 rfl _).trans (hne c main_v13 (by decide)).symm
        · exact (final0 V c).trans (hout c).symm)
      (fun b hb => hne c b fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

/-- The ten buffers beside the backward call's state, with the state's own last, as the launch lists them. -/
theorem rest1_split (c : Dev nD) : (iprop(scr (F := F) c cc0_stg0_0 ∗ scr (F := F) c cc0_stg0_1 ∗ scr (F := F) c cc0_stg1_0 ∗ scr (F := F) c cc0_stg2_0 ∗ scr (F := F) c cc0_stg3_0
    ∗ scr (F := F) c cc0_stg4_0 ∗ scr (F := F) c cc0_stg5_0 ∗ scr (F := F) c cc0_stg6_0 ∗ scr (F := F) c cc0_stg6_1 ∗ scr (F := F) c cc0_scratch0 ∗ scr (F := F) c cc1_scratch0) : sProp 𝕄)
    ⊢ iprop(scr (F := F) c cc1_scratch0 ∗ rest1 (F := F) c) := by
  unfold rest1
  iintro ⟨H0, H1, H2, H3, H4, H5, H6, H7, H8, H9, H10⟩
  isplitl [H10]; · iexact H10
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The same the other way round. -/
theorem rest1_join (c : Dev nD) : (iprop(scr (F := F) c cc1_scratch0 ∗ rest1 (F := F) c) : sProp 𝕄)
    ⊢ iprop(scr (F := F) c cc0_stg0_0 ∗ scr (F := F) c cc0_stg0_1 ∗ scr (F := F) c cc0_stg1_0 ∗ scr (F := F) c cc0_stg2_0 ∗ scr (F := F) c cc0_stg3_0
    ∗ scr (F := F) c cc0_stg4_0 ∗ scr (F := F) c cc0_stg5_0 ∗ scr (F := F) c cc0_stg6_0 ∗ scr (F := F) c cc0_stg6_1 ∗ scr (F := F) c cc0_scratch0 ∗ scr (F := F) c cc1_scratch0) := by
  unfold rest1
  iintro ⟨H10, H0, H1, H2, H3, H4, H5, H6, H7, H8, H9⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  iexact H10

set_option backward.isDefEq.respectTransparency.types false in
/-- The backward call: from the unscoped buffers at `W` to the same with its result's buffer at the path. -/
def reg1 (hout : ∀ c, V' c main_v24 = pathArr W c) (hne : ∀ c (b : Ref sig .tc), b ≠ main_v24 → V' c b = W c b) :
    RegionSeg (pcfgs (F := F)) adm (pdats V W) () defs₀ Variants.none noLevel zeroLevel 1 where
  win := launch1.win.to₀
  block_pos := launch1.block_pos
  stage_whole := launch1.stage_whole
  K := PEmpty
  osem k := k.elim
  ho := Pipeline.OwnSemFacts.none _
  hbody c := (body1 W c).loose
  hwaits := Pipeline.hwaits_of_owed_zero _ _ _ _ noLevel zeroLevel 1 fun _ _ => rfl
  pre c := iprop(unscopedBufs c (W c) ∗ owesNone (F := F) c)
  post c := iprop(unscopedBufs c (V' c) ∗ owesNone (F := F) c)
  X _ := BI.emp
  Y _ := BI.emp
  Z c := Pipeline.unscopedRest (Ix := Unit) (Name := ℕ) (U := UU) (Lvl := ℕ) spec1 c (W c)
  hentry c := by
    rw [Pipeline.ownSems0_none]
    have hsplit := Pipeline.arrays_of_unscopedBufs (p := 1) (pcfgs (F := F)) adm (pdats V W) launch1.win launch1.arr_whole c
      ((pdats V W 1 c).share_full fun _ => rfl) (W c) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%X, HO⟩; iexists X; isplitr; · ipureintro; exact fun _ _ => Or.inl trivial
      iexact HO
    isplitr; · iempintro
    iexact Hrest
  hin c := by
    rw [show (pdats V W 1 c).Φ 0 = inv1 W c 0 from rfl, show Pipeline.scopedRest (Ix := Unit) (Name := ℕ) (U := UU) (Lvl := ℕ) (Val := Elt F) (cfgs 1).spec c = _ from scopedRest1_eq c]
    unfold inv1
    iintro ⟨-, -, Hr⟩
    ihave H := (rest1_split (F := F) c) $$ Hr
    icases H with ⟨⟨%f, Hs⟩, Hr⟩
    isplitl [Hs]
    · iexists f
      isplitr; · ipureintro; exact fun h => absurd rfl h
      unfold hold; rw [owns_whole_eq]; iexists f; isplitr; · ipureintro; rfl
      iexact Hs
    iexact Hr
  hout c := by
    rw [Pipeline.ownSems0_none, show (pdats V W 1 c).Φ (Fin.last _) = inv1 W c cfg1.N from rfl, show Pipeline.scopedRest (Ix := Unit) (Name := ℕ) (U := UU) (Lvl := ℕ) (Val := Elt F) (cfgs 1).spec c = _ from scopedRest1_eq c]
    unfold inv1 hold
    simp only [owns_whole_eq]
    iintro ⟨⟨%v, -, ⟨%f, -, Hs⟩⟩, Hr⟩
    isplitr; · iempintro
    isplitr; · iempintro
    iapply (rest1_join (F := F) c)
    isplitl [Hs]; · iexists f; iexact Hs
    iexact Hr
  hexit c := by
    have hjoin := Pipeline.unscopedBufs_of_arrays (p := 1) (pcfgs (F := F)) adm (Ix := Unit) (Name := ℕ) (U := UU) (Lvl := ℕ) launch1.win launch1.arr_whole c
      (pdats V W) ((pdats V W 1 c).share_full fun _ => rfl) (W c) (V' c) ((pdats V W 1 c).arrAt · cfg1.N)
      (fun w => by
        fin_cases w
        · exact ((pdats V W 1 c).arrAt_in 0 rfl _).trans (hne c main_v23 (by decide)).symm
        · exact ((pdats V W 1 c).arrAt_in 1 rfl _).trans (hne c main_v20 (by decide)).symm
        · exact ((pdats V W 1 c).arrAt_in 2 rfl _).trans (hne c main_v21 (by decide)).symm
        · exact ((pdats V W 1 c).arrAt_in 3 rfl _).trans (hne c main_v22 (by decide)).symm
        · exact (final1 W c).trans (hout c).symm)
      (fun b hb => hne c b fun h => hb (h ▸ Finset.mem_image.mpr ⟨4, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%X, -, HO⟩; iexists X; iexact HO

/-! ## The run -/

variable (m : (ℓ : Loc nD τ sig) → Buf (Elt F) ℓ)

/-- The buffers as the forward call finds them. -/
def bufs1 : Bufs (F := F) := fun c b => V1 m c b

/-- The buffers as the backward call finds them. -/
def bufs2 : Bufs (F := F) := fun c b => (Function.update (V1 m c) main_v23 (scoresArr (bufs1 m) c) : Valuation τ sig (Elt F)) b

/-- What the two calls leave: the scores, and the path. -/
def outs : Outs (F := F) := fun _ r c =>
  if h : r = main_v23 then h ▸ scoresArr (bufs1 m) c
  else if h : r = main_v24 then h ▸ pathArr (bufs2 m) c
  else m ((c : Thread nD τ).loc r)

theorem outs_v23 (n : Nat) (c : Dev nD) : outs m n main_v23 c = scoresArr (bufs1 m) c := by
  unfold outs; rw [dif_pos rfl]
theorem outs_v24 (n : Nat) (c : Dev nD) : outs m n main_v24 c = pathArr (bufs2 m) c := by
  unfold outs; rw [dif_neg (by decide), dif_pos rfl]

theorem V2_v23 (c : Dev nD) : V2 m (outs m) c main_v23 = scoresArr (bufs1 m) c := by
  show Function.update (V1 m c) (main_v23 : DevRef τ sig) _ _ = _
  rw [Function.update_self, outs_v23]
theorem V3_v24 (c : Dev nD) : V3 m (outs m) c main_v24 = pathArr (bufs2 m) c := by
  show Function.update (V2 m (outs m) c) (main_v24 : DevRef τ sig) _ _ = _
  rw [Function.update_self, outs_v24]
theorem V2_bufs2 (c : Dev nD) (b : Ref sig .tc) : V2 m (outs m) c b = bufs2 m c b := by
  show Function.update (V1 m c) (main_v23 : DevRef τ sig) (outs m 2 main_v23 c) (b : DevRef τ sig) = _
  rw [outs_v23]; rfl

/-- The program's result: the last contents of its result's buffer. -/
def result (c : Dev nD) : Buf (Elt F) ((c : Thread nD τ).loc main_v26) := V4 m (outs m) c main_v26

/-- The rounds library's resources are all the user resources there are. -/
abbrev EP : Emb (URounds (GSem nD τ sig) Unit) 𝕄 := emb₁

/-- What a core holds beside its buffers between the program's items. -/
abbrev restE : Fin 3 → Dev nD → sProp 𝕄 := fun _ c => owesNone (F := F) c

/-- The forward call's record at the program's own contents. -/
def R0 : RegionSeg (pcfgs (F := F)) adm (pdats (bufs1 m) (bufs2 m)) () defs₀ Variants.none noLevel zeroLevel 0 :=
  reg0 (bufs1 m) (bufs2 m) (fun c b => V2 m (outs m) c b) (V2_v23 m) fun c b h => V2_of m (outs m) c b (by simpa using h)

/-- The backward call's record at the program's own contents. -/
def R1 : RegionSeg (pcfgs (F := F)) adm (pdats (bufs1 m) (bufs2 m)) () defs₀ Variants.none noLevel zeroLevel 1 :=
  reg1 (bufs1 m) (bufs2 m) (fun c b => V3 m (outs m) c b) (V3_v24 m) fun c b h => (V3_of m (outs m) c b (by simpa using h)).trans (V2_bufs2 m c b)

theorem held_eq (c : Dev nD) (v : Valuation τ sig (Elt F)) :
    (StableHlo.held (c : Thread nD τ) (Pipeline.ucRefs τ sig) v : sProp 𝕄) = unscopedBufs c (fun b => v (Proc.devRef .tc b)) :=
  (Pipeline.unscopedBufs_held (Ix := Unit) (Name := ℕ) (U := UU) (Lvl := ℕ) c v).symm

theorem pre0 (c : Dev nD) : iprop(StableHlo.held (c : Thread nD τ) (Pipeline.ucRefs τ sig) (V1 m c) ∗ owesNone (F := F) c) ⊢ (R0 m).pre c := by
  rw [held_eq]; exact .rfl
theorem post0 (c : Dev nD) : (R0 m).post c ⊢ iprop(StableHlo.held (c : Thread nD τ) (Pipeline.ucRefs τ sig) (V2 m (outs m) c) ∗ owesNone (F := F) c) := by
  rw [held_eq]; exact .rfl
theorem pre1 (c : Dev nD) : iprop(StableHlo.held (c : Thread nD τ) (Pipeline.ucRefs τ sig) (V2 m (outs m) c) ∗ owesNone (F := F) c) ⊢ (R1 m).pre c := by
  rw [held_eq, show (fun b : Ref sig .tc => V2 m (outs m) c (Proc.devRef .tc b)) = bufs2 m c from funext (V2_bufs2 m c)]; exact .rfl
theorem post1 (c : Dev nD) : (R1 m).post c ⊢ iprop(StableHlo.held (c : Thread nD τ) (Pipeline.ucRefs τ sig) (V3 m (outs m) c) ∗ owesNone (F := F) c) := by
  rw [held_eq]; exact .rfl

-- the run theorem's implicit arguments are found by unifying its conclusion with this one
set_option backward.isDefEq.respectTransparency.types false in
/-- THE RUN. At any float values, from any memory with every counter at zero, the program ends; its result is `result`,
    its arguments are as they were and every counter is at zero. -/
theorem run (ρ : Dev nD → PrngReg) :
    θ_run defs (onTc (τ := τ) (main (F := F))) ⟨m, fun _ => 0, ρ⟩ (fun r => (∀ c : Dev nD,
      r.2.mem ((c.tc : Thread nD τ).loc main_v26) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) := by
  refine Pipeline.θ_run_regions_kit_dev_sems (pcfgs (F := F)) adm (pdats (bufs1 m) (bufs2 m)) () cellOf_inj EP defs₀ Variants.none noLevel zeroLevel m ρ main
    (segs m (outs m) Variants.none noLevel zeroLevel (restE (F := F)) () (pdats (bufs1 m) (bufs2 m)) (R0 m) (R1 m))
    (fun c Q => by
      rewrite [main_chain c, Pipeline.Seg.run_eq_chain,
        show (segs m (outs m) Variants.none noLevel zeroLevel (restE (F := F)) () (pdats (bufs1 m) (bufs2 m)) (R0 m) (R1 m) c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu
      imodintro
      isplitl [Hu]; · iapply (show (ownU _ : sProp 𝕄) ⊢ BI.own (emb₁ (initOf (Pipeline.cells cfgs cellOf_inj) (Pipeline.launchToks cfgs cellOf_inj))) from BI.Entails.refl _); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ owesNone (F := F) c))
    (Tₙ := fun c => StableHlo.held (c : Thread nD τ) (Pipeline.ucRefs τ sig) (V4 m (outs m) c))
    (hch := fun c => ⟨.rfl, pre0 m c, (post0 m c).trans (pre1 m c), post1 m c, .rfl⟩)
    (hinit := ?_)
    (QY := fun c s => s.mem ((c.tc : Thread nD τ).loc main_v26) = result m c
      ∧ s.mem ((c.tc : Thread nD τ).loc main_arg0) = m ((c.tc : Thread nD τ).loc main_arg0) ∧ s.mem ((c.tc : Thread nD τ).loc main_arg1) = m ((c.tc : Thread nD τ).loc main_arg1)
      ∧ s.mem ((c.tc : Thread nD τ).loc main_arg2) = m ((c.tc : Thread nD τ).loc main_arg2) ∧ s.mem ((c.tc : Thread nD τ).loc main_arg3) = m ((c.tc : Thread nD τ).loc main_arg3))
    (hfin := fun c s' => ?_) (hQ := fun _ h hz => ⟨h, funext fun g => hz g (.inr (regions_no_unscoped g.2))⟩)
  · refine Pipeline.initEach noLevel zeroLevel fun c => ?_
    rw [held_eq]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (V4 m (outs m) c) s') $$ [Hh HSI]
    · isplitl [Hh] <;> iassumption
    icases Hr with ⟨%h, HSI⟩
    imodintro
    isplitr
    · ipureintro
      exact ⟨h (Proc.devRef .tc main_v26) (Finset.mem_filter.mpr ⟨StableHlo.devRef_mem_tcRefs main_v26, by decide⟩),
        (h (Proc.devRef .tc main_arg0) (Finset.mem_filter.mpr ⟨StableHlo.devRef_mem_tcRefs main_arg0, by decide⟩)).trans (V4_main_arg0 m (outs m) c),
        (h (Proc.devRef .tc main_arg1) (Finset.mem_filter.mpr ⟨StableHlo.devRef_mem_tcRefs main_arg1, by decide⟩)).trans (V4_main_arg1 m (outs m) c),
        (h (Proc.devRef .tc main_arg2) (Finset.mem_filter.mpr ⟨StableHlo.devRef_mem_tcRefs main_arg2, by decide⟩)).trans (V4_main_arg2 m (outs m) c),
        (h (Proc.devRef .tc main_arg3) (Finset.mem_filter.mpr ⟨StableHlo.devRef_mem_tcRefs main_arg3, by decide⟩)).trans (V4_main_arg3 m (outs m) c)⟩
    · iexact HSI

end Cert.KernelIdeal.Hand

end
-- ==== Proof.Ideal.Transfer.lean ====
/-
  The program and its ideal reading are the same text, so the run of the one is the run of the other.
-/
module

public import proofs.«01_k».proof.Defs
public import proofs.«01_k».proof.Proof.Gen.Kernel
public import proofs.«01_k».proof.Proof.Ideal.Run

@[expose] public section

noncomputable section

namespace Cert.Kernel.Hand

open Idealize.ShloMosaic Idealize.SL.Sem Cert.Kernel
open Idealize.ShloMosaic.TcCoe

/-- The two host programs agree. -/
theorem main_same {F : FTy → Type} [FloatOps F] : Cert.Kernel.main (F := F) = Cert.KernelIdeal.main (F := F) := rfl

/-- The two programs' regions have the same bodies. -/
theorem defs₀_same {F : FTy → Type} [FloatOps F] : Cert.Kernel.defs₀ (F := F) = Cert.KernelIdeal.defs₀ (F := F) := by
  unfold Cert.Kernel.defs₀ Cert.KernelIdeal.defs₀
  refine congrArg (Defs.onTc (nD := Cert.KernelIdeal.nD) (τ := Cert.KernelIdeal.τ) (sig := Cert.KernelIdeal.sig) (Val := Elt F) (Λ := Cert.KernelIdeal.Λ₀)) ?_
  funext l a
  match l, a with
  | 0, (t, s) => rfl
  | 1, (t, s) => rfl

/-- The two programs have the same procedures. -/
theorem defs_same {F : FTy → Type} [FloatOps F] : Cert.Kernel.defs (F := F) = Cert.KernelIdeal.defs (F := F) :=
  congrArg (Pipeline.defs (Cert.KernelIdeal.pcfgs (F := F))) defs₀_same

/-- The program runs to its end, leaves its arguments as they were and its semaphores at zero. -/
theorem frame : quiescent_Kernel (hKernel := Cert.Kernel.Gen.facts) := by
  intro m ρ _
  have h := Cert.KernelIdeal.Hand.run (F := Bits) m ρ
  rw [← defs_same, ← main_same] at h
  exact θ_run_mono h fun r h => ⟨fun c => (h.1 c).2, h.2⟩

end Cert.Kernel.Hand

end
-- ==== Proof.Ref.Ops.lean ====
/-
  The reference's host operations, in the stretches the two loops and the functions cut them into.
-/
module

public import proofs.«01_k».proof.ReferenceIdeal
public import Idealize.ShloMosaic.Adequacy
public import Idealize.ShloMosaic.Init

@[expose] public section

noncomputable section

namespace Cert.ReferenceIdeal.Hand

open Idealize.ShloMosaic Cert.ReferenceIdeal
open Idealize.ShloMosaic.TcCoe
open Facts₀ Facts

variable {F : FTy → Type} [FloatOps F] [Facts]

/-- The transposed emissions. -/
def preA : List (HloOp τ sig (Elt F)) :=
  [StableHlo.unary main_arg3 main_v0 ((transpose S2048x512 [1, 0] · transposes_S512x2048_S2048x512_1_0) : (⟨S512x2048, .f32⟩ : BufTy).Contents (Elt F) → (⟨S2048x512, .f32⟩ : BufTy).Contents (Elt F))]

/-- The rows of the transposed emissions at the observed symbols. -/
def takeOps : List (HloOp τ sig (Elt F)) :=
  [StableHlo.nullary main_call0_c (constantI S_ 32 0#32),
   StableHlo.unary main_call0_c main_call0_v0 ((broadcastInDim S64x512 ![] bcast_S_S64x512) : (⟨S_, .i32⟩ : BufTy).Contents (Elt F) → (⟨S64x512, .i32⟩ : BufTy).Contents (Elt F)),
   StableHlo.binary main_arg0 main_call0_v0 main_call0_v1 ((cmpi .slt) : (⟨S64x512, .i32⟩ : BufTy).Contents (Elt F) → (⟨S64x512, .i32⟩ : BufTy).Contents (Elt F) → (⟨S64x512, .i1⟩ : BufTy).Contents (Elt F)),
   StableHlo.nullary main_call0_c_0 (constantI S_ 32 2048#32),
   StableHlo.unary main_call0_c_0 main_call0_v2 ((broadcastInDim S64x512 ![] bcast_S_S64x512) : (⟨S_, .i32⟩ : BufTy).Contents (Elt F) → (⟨S64x512, .i32⟩ : BufTy).Contents (Elt F)),
   StableHlo.binary main_arg0 main_call0_v2 main_call0_v3 (addi : (⟨S64x512, .i32⟩ : BufTy).Contents (Elt F) → (⟨S64x512, .i32⟩ : BufTy).Contents (Elt F) → (⟨S64x512, .i32⟩ : BufTy).Contents (Elt F)),
   StableHlo.ternary main_call0_v1 main_call0_v3 main_arg0 main_call0_v4 (select : (⟨S64x512, .i1⟩ : BufTy).Contents (Elt F) → (⟨S64x512, .i32⟩ : BufTy).Contents (Elt F) → (⟨S64x512, .i32⟩ : BufTy).Contents (Elt F) → (⟨S64x512, .i32⟩ : BufTy).Contents (Elt F)),
   StableHlo.unary main_call0_v4 main_call0_v5 ((broadcastInDim S64x512x1 ![0, 1] bcast_S64x512_S64x512x1_0_1) : (⟨S64x512, .i32⟩ : BufTy).Contents (Elt F) → (⟨S64x512x1, .i32⟩ : BufTy).Contents (Elt F)),
   StableHlo.nullary main_call0_c_1 (constantI S1 32 2047#32),
   StableHlo.nullary main_call0_c_2 (constantI S_ 32 0#32),
   StableHlo.unary main_call0_c_2 main_call0_v6 ((broadcastInDim S64x512x1 ![] bcast_S_S64x512x1) : (⟨S_, .i32⟩ : BufTy).Contents (Elt F) → (⟨S64x512x1, .i32⟩ : BufTy).Contents (Elt F)),
   StableHlo.binary main_call0_v5 main_call0_v6 main_call0_v7 ((cmpi .sge) : (⟨S64x512x1, .i32⟩ : BufTy).Contents (Elt F) → (⟨S64x512x1, .i32⟩ : BufTy).Contents (Elt F) → (⟨S64x512x1, .i1⟩ : BufTy).Contents (Elt F)),
   StableHlo.unary main_call0_c_1 main_call0_v8 ((broadcastInDim S1x1x1 ![2] bcast_S1_S1x1x1_2) : (⟨S1, .i32⟩ : BufTy).Contents (Elt F) → (⟨S1x1x1, .i32⟩ : BufTy).Contents (Elt F)),
   StableHlo.unary main_call0_v8 main_call0_v9 ((broadcastInDim S64x512x1 ![0, 1, 2] bcast_S1x1x1_S64x512x1_0_1_2) : (⟨S1x1x1, .i32⟩ : BufTy).Contents (Elt F) → (⟨S64x512x1, .i32⟩ : BufTy).Contents (Elt F)),
   StableHlo.binary main_call0_v5 main_call0_v9 main_call0_v10 ((cmpi .sle) : (⟨S64x512x1, .i32⟩ : BufTy).Contents (Elt F) → (⟨S64x512x1, .i32⟩ : BufTy).Contents (Elt F) → (⟨S64x512x1, .i1⟩ : BufTy).Contents (Elt F)),
   StableHlo.binary main_call0_v7 main_call0_v10 main_call0_v11 (andi : (⟨S64x512x1, .i1⟩ : BufTy).Contents (Elt F) → (⟨S64x512x1, .i1⟩ : BufTy).Contents (Elt F) → (⟨S64x512x1, .i1⟩ : BufTy).Contents (Elt F)),
   StableHlo.nullary main_call0_c_3 (constantI S_ 1 1#1),
   StableHlo.binary main_call0_v11 main_call0_c_3 main_call0_v12 ((fun x v => Host.reduce IntOp.andi x v reducesTo_S64x512x1_S64x512_d2 h_S_) : (⟨S64x512x1, .i1⟩ : BufTy).Contents (Elt F) → (⟨S_, .i1⟩ : BufTy).Contents (Elt F) → (⟨S64x512, .i1⟩ : BufTy).Contents (Elt F)),
   StableHlo.binary main_v0 main_call0_v5 main_call0_v13 ((fun x i => Host.gather gather_S2048x512_S64x512x1_S64x512x512_2_0_n_n_0_2_1512 x i) : (⟨S2048x512, .f32⟩ : BufTy).Contents (Elt F) → (⟨S64x512x1, .i32⟩ : BufTy).Contents (Elt F) → (⟨S64x512x512, .f32⟩ : BufTy).Contents (Elt F)),
   StableHlo.unary main_call0_v12 main_call0_v14 ((broadcastInDim S64x512x512 ![0, 1] bcast_S64x512_S64x512x512_0_1) : (⟨S64x512, .i1⟩ : BufTy).Contents (Elt F) → (⟨S64x512x512, .i1⟩ : BufTy).Contents (Elt F)),
   StableHlo.nullary main_call0_cst (constant S_ .f32 0x7FC00000#32),
   StableHlo.unary main_call0_cst main_call0_v15 ((broadcastInDim S64x512x512 ![] bcast_S_S64x512x512) : (⟨S_, .f32⟩ : BufTy).Contents (Elt F) → (⟨S64x512x512, .f32⟩ : BufTy).Contents (Elt F)),
   StableHlo.ternary main_call0_v14 main_call0_v13 main_call0_v15 main_v1 (select : (⟨S64x512x512, .i1⟩ : BufTy).Contents (Elt F) → (⟨S64x512x512, .f32⟩ : BufTy).Contents (Elt F) → (⟨S64x512x512, .f32⟩ : BufTy).Contents (Elt F) → (⟨S64x512x512, .f32⟩ : BufTy).Contents (Elt F))]

/-- The first scores, the other steps' rows, and the first loop's carried values. -/
def preB : List (HloOp τ sig (Elt F)) :=
  [StableHlo.unary main_arg1 main_v2 (broadcastInDim S1x512 ![1] bcast_S512_S1x512_1 : (⟨S512, .f32⟩ : BufTy).Contents (Elt F) → (⟨S1x512, .f32⟩ : BufTy).Contents (Elt F)),
   StableHlo.unary main_v1 main_v3 ((extractStridedSlice S64x1x512 ![0, 0, 0] · slices_S64x512x512_S64x1x512_0_0_0) : (⟨S64x512x512, .f32⟩ : BufTy).Contents (Elt F) → (⟨S64x1x512, .f32⟩ : BufTy).Contents (Elt F)),
   StableHlo.reshape main_v3 main_v4 (rfl : (.f32 : EltTy) = .f32) shapeCasts_S64x1x512_S64x512,
   StableHlo.unary main_v2 main_v5 (broadcastInDim S64x512 ![0, 1] bcast_S1x512_S64x512_0_1 : (⟨S1x512, .f32⟩ : BufTy).Contents (Elt F) → (⟨S64x512, .f32⟩ : BufTy).Contents (Elt F)),
   StableHlo.binary main_v5 main_v4 main_v6 (addf : (⟨S64x512, .f32⟩ : BufTy).Contents (Elt F) → (⟨S64x512, .f32⟩ : BufTy).Contents (Elt F) → (⟨S64x512, .f32⟩ : BufTy).Contents (Elt F)),
   StableHlo.unary main_v1 main_v7 ((extractStridedSlice S64x511x512 ![0, 1, 0] · slices_S64x512x512_S64x511x512_0_1_0) : (⟨S64x512x512, .f32⟩ : BufTy).Contents (Elt F) → (⟨S64x511x512, .f32⟩ : BufTy).Contents (Elt F)),
   StableHlo.unary main_v7 main_v8 ((transpose S511x64x512 [1, 0, 2] · transposes_S64x511x512_S511x64x512_1_0_2) : (⟨S64x511x512, .f32⟩ : BufTy).Contents (Elt F) → (⟨S511x64x512, .f32⟩ : BufTy).Contents (Elt F)),
   StableHlo.nullary main_c (constantI S_ 32 0#32),
   StableHlo.unary main_c main_v9 (broadcastInDim S511x64x512 ![] bcast_S_S511x64x512 : (⟨S_, .i32⟩ : BufTy).Contents (Elt F) → (⟨S511x64x512, .i32⟩ : BufTy).Contents (Elt F)),
   StableHlo.nullary main_c_0 (constantI S_ 32 0#32),
   StableHlo.unary main_v8 main_v10_0 id,
   StableHlo.unary main_arg2 main_v10_1 id,
   StableHlo.unary main_c_0 main_v10_2 id,
   StableHlo.unary main_v6 main_v10_3 id,
   StableHlo.unary main_v9 main_v10_4 id]

/-- The best last state. -/
def lastOps : List (HloOp τ sig (Elt F)) :=
  [StableHlo.nullary main_call4_v0 (iotaInDim S64x512 32 1),
   StableHlo.nullary main_call4_cst (constant S_ .f32 0xFF800000#32),
   StableHlo.nullary main_call4_c (constantI S_ 32 0#32),
   StableHlo.quaternary main_v10_3 main_call4_v0 main_call4_cst main_call4_c main_call4_v1_0 ((fun x y u v j => (Host.argReduce reducer_argmax_f32_i32 x y u v reducesTo_S64x512_S64_d1 h_S_ j).1) : (⟨S64x512, .f32⟩ : BufTy).Contents (Elt F) → (⟨S64x512, .i32⟩ : BufTy).Contents (Elt F) → (⟨S_, .f32⟩ : BufTy).Contents (Elt F) → (⟨S_, .i32⟩ : BufTy).Contents (Elt F) → (⟨S64, .f32⟩ : BufTy).Contents (Elt F)),
   StableHlo.quaternary main_v10_3 main_call4_v0 main_call4_cst main_call4_c main_v11 ((fun x y u v j => (Host.argReduce reducer_argmax_f32_i32 x y u v reducesTo_S64x512_S64_d1 h_S_ j).2) : (⟨S64x512, .f32⟩ : BufTy).Contents (Elt F) → (⟨S64x512, .i32⟩ : BufTy).Contents (Elt F) → (⟨S_, .f32⟩ : BufTy).Contents (Elt F) → (⟨S_, .i32⟩ : BufTy).Contents (Elt F) → (⟨S64, .i32⟩ : BufTy).Contents (Elt F))]

/-- The second loop's carried values. -/
def midOps : List (HloOp τ sig (Elt F)) :=
  [StableHlo.nullary main_c_1 (constantI S_ 32 0#32),
   StableHlo.unary main_c_1 main_v12 (broadcastInDim S511x64 ![] bcast_S_S511x64 : (⟨S_, .i32⟩ : BufTy).Contents (Elt F) → (⟨S511x64, .i32⟩ : BufTy).Contents (Elt F)),
   StableHlo.nullary main_c_2 (constantI S_ 32 0#32),
   StableHlo.unary main_v10_4 main_v13_0 id,
   StableHlo.unary main_c_2 main_v13_1 id,
   StableHlo.unary main_v11 main_v13_2 id,
   StableHlo.unary main_v12 main_v13_3 id]

/-- The path with its last state attached. -/
def postOps : List (HloOp τ sig (Elt F)) :=
  [StableHlo.unary main_v13_3 main_v14 ((transpose S64x511 [1, 0] · transposes_S511x64_S64x511_1_0) : (⟨S511x64, .i32⟩ : BufTy).Contents (Elt F) → (⟨S64x511, .i32⟩ : BufTy).Contents (Elt F)),
   StableHlo.unary main_v11 main_v15 (broadcastInDim S64x1 ![0] bcast_S64_S64x1_0 : (⟨S64, .i32⟩ : BufTy).Contents (Elt F) → (⟨S64x1, .i32⟩ : BufTy).Contents (Elt F)),
   StableHlo.binary main_v14 main_v15 main_v16 ((fun a b => concatenate S64x512 1 [⟨S64x511, a⟩, ⟨S64x1, b⟩] concatenates_S64x511_S64x1_S64x512_d1) : (⟨S64x511, .i32⟩ : BufTy).Contents (Elt F) → (⟨S64x1, .i32⟩ : BufTy).Contents (Elt F) → (⟨S64x512, .i32⟩ : BufTy).Contents (Elt F))]

/-- One step's emission rows. -/
def rowOps : List (HloOp τ sig (Elt F)) :=
  [StableHlo.nullary main_while0b_call1_c (constantI S_ 32 0#32),
   StableHlo.nullary main_while0b_call1_c_0 (constantI S_ 32 0#32),
   StableHlo.TRef.unaryIndexed (.of main_v10_0 : StableHlo.TRef sig ⟨S511x64x512, .f32⟩) (![.of main_v10_2, .of main_while0b_call1_c, .of main_while0b_call1_c_0] : Fin 3 → StableHlo.TRef sig ⟨S_, .i32⟩) (.of main_while0b_call1_v0 : StableHlo.TRef sig ⟨S1x64x512, .f32⟩) (fun x i => Host.dynamicSlice S1x64x512 x (fun k => (i k (Shape.Idx.first h_S_)).toInt) sliceFits_S511x64x512_S1x64x512),
   StableHlo.reshape main_while0b_call1_v0 main_while0b_v17 (rfl : (.f32 : EltTy) = .f32) shapeCasts_S1x64x512_S64x512]

/-- Scores plus transitions, for every pair of states. -/
def sumOps : List (HloOp τ sig (Elt F)) :=
  [StableHlo.unary main_v10_3 main_while0b_v18 (broadcastInDim S64x512x1 ![0, 1] bcast_S64x512_S64x512x1_0_1 : (⟨S64x512, .f32⟩ : BufTy).Contents (Elt F) → (⟨S64x512x1, .f32⟩ : BufTy).Contents (Elt F)),
   StableHlo.unary main_v10_1 main_while0b_v19 (broadcastInDim S1x512x512 ![1, 2] bcast_S512x512_S1x512x512_1_2 : (⟨S512x512, .f32⟩ : BufTy).Contents (Elt F) → (⟨S1x512x512, .f32⟩ : BufTy).Contents (Elt F)),
   StableHlo.unary main_while0b_v18 main_while0b_v20 (broadcastInDim S64x512x512 ![0, 1, 2] bcast_S64x512x1_S64x512x512_0_1_2 : (⟨S64x512x1, .f32⟩ : BufTy).Contents (Elt F) → (⟨S64x512x512, .f32⟩ : BufTy).Contents (Elt F)),
   StableHlo.unary main_while0b_v19 main_while0b_v21 (broadcastInDim S64x512x512 ![0, 1, 2] bcast_S1x512x512_S64x512x512_0_1_2 : (⟨S1x512x512, .f32⟩ : BufTy).Contents (Elt F) → (⟨S64x512x512, .f32⟩ : BufTy).Contents (Elt F)),
   StableHlo.binary main_while0b_v20 main_while0b_v21 main_while0b_v22 (addf : (⟨S64x512x512, .f32⟩ : BufTy).Contents (Elt F) → (⟨S64x512x512, .f32⟩ : BufTy).Contents (Elt F) → (⟨S64x512x512, .f32⟩ : BufTy).Contents (Elt F))]

/-- The best previous state. -/
def bestOps : List (HloOp τ sig (Elt F)) :=
  [StableHlo.nullary main_while0b_call2_v0 (iotaInDim S64x512x512 32 1),
   StableHlo.nullary main_while0b_call2_cst (constant S_ .f32 0xFF800000#32),
   StableHlo.nullary main_while0b_call2_c (constantI S_ 32 0#32),
   StableHlo.quaternary main_while0b_v22 main_while0b_call2_v0 main_while0b_call2_cst main_while0b_call2_c main_while0b_call2_v1_0 ((fun x y u v j => (Host.argReduce reducer_argmax_f32_i32 x y u v reducesTo_S64x512x512_S64x512_d1 h_S_ j).1) : (⟨S64x512x512, .f32⟩ : BufTy).Contents (Elt F) → (⟨S64x512x512, .i32⟩ : BufTy).Contents (Elt F) → (⟨S_, .f32⟩ : BufTy).Contents (Elt F) → (⟨S_, .i32⟩ : BufTy).Contents (Elt F) → (⟨S64x512, .f32⟩ : BufTy).Contents (Elt F)),
   StableHlo.quaternary main_while0b_v22 main_while0b_call2_v0 main_while0b_call2_cst main_while0b_call2_c main_while0b_v23 ((fun x y u v j => (Host.argReduce reducer_argmax_f32_i32 x y u v reducesTo_S64x512x512_S64x512_d1 h_S_ j).2) : (⟨S64x512x512, .f32⟩ : BufTy).Contents (Elt F) → (⟨S64x512x512, .i32⟩ : BufTy).Contents (Elt F) → (⟨S_, .f32⟩ : BufTy).Contents (Elt F) → (⟨S_, .i32⟩ : BufTy).Contents (Elt F) → (⟨S64x512, .i32⟩ : BufTy).Contents (Elt F))]

/-- The best previous score, plus the step's emissions. -/
def maxOps : List (HloOp τ sig (Elt F)) :=
  [StableHlo.nullary main_while0b_cst (constant S_ .f32 0xFF800000#32),
   StableHlo.binary main_while0b_v22 main_while0b_cst main_while0b_v24 ((fun x v => Host.reduce FloatOps.maximumf x v reducesTo_S64x512x512_S64x512_d1 h_S_) : (⟨S64x512x512, .f32⟩ : BufTy).Contents (Elt F) → (⟨S_, .f32⟩ : BufTy).Contents (Elt F) → (⟨S64x512, .f32⟩ : BufTy).Contents (Elt F)),
   StableHlo.binary main_while0b_v24 main_while0b_v17 main_while0b_v25 (addf : (⟨S64x512, .f32⟩ : BufTy).Contents (Elt F) → (⟨S64x512, .f32⟩ : BufTy).Contents (Elt F) → (⟨S64x512, .f32⟩ : BufTy).Contents (Elt F))]

/-- The step's best previous states, kept. -/
def keepOps : List (HloOp τ sig (Elt F)) :=
  [StableHlo.unary main_while0b_v23 main_while0b_call3_v0 ((broadcastInDim S1x64x512 ![1, 2] bcast_S64x512_S1x64x512_1_2) : (⟨S64x512, .i32⟩ : BufTy).Contents (Elt F) → (⟨S1x64x512, .i32⟩ : BufTy).Contents (Elt F)),
   StableHlo.nullary main_while0b_call3_c (constantI S_ 32 0#32),
   StableHlo.nullary main_while0b_call3_c_0 (constantI S_ 32 0#32),
   StableHlo.TRef.binaryIndexed (.of main_v10_4 : StableHlo.TRef sig ⟨S511x64x512, .i32⟩) (.of main_while0b_call3_v0 : StableHlo.TRef sig ⟨S1x64x512, .i32⟩) (![.of main_v10_2, .of main_while0b_call3_c, .of main_while0b_call3_c_0] : Fin 3 → StableHlo.TRef sig ⟨S_, .i32⟩) (.of main_while0b_v26 : StableHlo.TRef sig ⟨S511x64x512, .i32⟩) (fun x u i => Host.dynamicUpdateSlice x u (fun k => (i k (Shape.Idx.first h_S_)).toInt) updateFits_S511x64x512_S1x64x512)]

/-- The first loop's next carried values. -/
def nextOps : List (HloOp τ sig (Elt F)) :=
  [StableHlo.nullary main_while0b_c_7 (constantI S_ 32 1#32),
   StableHlo.binary main_v10_2 main_while0b_c_7 main_while0b_v27 (addi : (⟨S_, .i32⟩ : BufTy).Contents (Elt F) → (⟨S_, .i32⟩ : BufTy).Contents (Elt F) → (⟨S_, .i32⟩ : BufTy).Contents (Elt F)),
   StableHlo.unary main_while0b_v27 main_v10_2 id,
   StableHlo.unary main_while0b_v25 main_v10_3 id,
   StableHlo.unary main_while0b_v26 main_v10_4 id]

/-- The step walked back to. -/
def countOps : List (HloOp τ sig (Elt F)) :=
  [StableHlo.nullary main_while1b_c_6 (constantI S_ 32 511#32),
   StableHlo.binary main_while1b_c_6 main_v13_1 main_while1b_v17 (subi : (⟨S_, .i32⟩ : BufTy).Contents (Elt F) → (⟨S_, .i32⟩ : BufTy).Contents (Elt F) → (⟨S_, .i32⟩ : BufTy).Contents (Elt F)),
   StableHlo.nullary main_while1b_c_7 (constantI S_ 32 1#32),
   StableHlo.binary main_while1b_v17 main_while1b_c_7 main_while1b_v18 (subi : (⟨S_, .i32⟩ : BufTy).Contents (Elt F) → (⟨S_, .i32⟩ : BufTy).Contents (Elt F) → (⟨S_, .i32⟩ : BufTy).Contents (Elt F))]

/-- That step's best previous states. -/
def ptrRowOps : List (HloOp τ sig (Elt F)) :=
  [StableHlo.nullary main_while1b_call5_c (constantI S_ 32 0#32),
   StableHlo.nullary main_while1b_call5_c_0 (constantI S_ 32 0#32),
   StableHlo.TRef.unaryIndexed (.of main_v13_0 : StableHlo.TRef sig ⟨S511x64x512, .i32⟩) (![.of main_while1b_v18, .of main_while1b_call5_c, .of main_while1b_call5_c_0] : Fin 3 → StableHlo.TRef sig ⟨S_, .i32⟩) (.of main_while1b_call5_v0 : StableHlo.TRef sig ⟨S1x64x512, .i32⟩) (fun x i => Host.dynamicSlice S1x64x512 x (fun k => (i k (Shape.Idx.first h_S_)).toInt) sliceFits_S511x64x512_S1x64x512),
   StableHlo.reshape main_while1b_call5_v0 main_while1b_v19 (rfl : (.i32 : EltTy) = .i32) shapeCasts_S1x64x512_S64x512]

/-- The current states as a column. -/
def colOps : List (HloOp τ sig (Elt F)) :=
  [StableHlo.unary main_v13_2 main_while1b_v20 (broadcastInDim S64x1 ![0] bcast_S64_S64x1_0 : (⟨S64, .i32⟩ : BufTy).Contents (Elt F) → (⟨S64x1, .i32⟩ : BufTy).Contents (Elt F))]

/-- The current states' best previous states. -/
def alongOps : List (HloOp τ sig (Elt F)) :=
  [StableHlo.nullary main_while1b_call6_c (constantI S_ 32 0#32),
   StableHlo.unary main_while1b_call6_c main_while1b_call6_v0 ((broadcastInDim S64x1 ![] bcast_S_S64x1) : (⟨S_, .i32⟩ : BufTy).Contents (Elt F) → (⟨S64x1, .i32⟩ : BufTy).Contents (Elt F)),
   StableHlo.binary main_while1b_v20 main_while1b_call6_v0 main_while1b_call6_v1 ((cmpi .slt) : (⟨S64x1, .i32⟩ : BufTy).Contents (Elt F) → (⟨S64x1, .i32⟩ : BufTy).Contents (Elt F) → (⟨S64x1, .i1⟩ : BufTy).Contents (Elt F)),
   StableHlo.nullary main_while1b_call6_c_0 (constantI S_ 32 512#32),
   StableHlo.unary main_while1b_call6_c_0 main_while1b_call6_v2 ((broadcastInDim S64x1 ![] bcast_S_S64x1) : (⟨S_, .i32⟩ : BufTy).Contents (Elt F) → (⟨S64x1, .i32⟩ : BufTy).Contents (Elt F)),
   StableHlo.binary main_while1b_v20 main_while1b_call6_v2 main_while1b_call6_v3 (addi : (⟨S64x1, .i32⟩ : BufTy).Contents (Elt F) → (⟨S64x1, .i32⟩ : BufTy).Contents (Elt F) → (⟨S64x1, .i32⟩ : BufTy).Contents (Elt F)),
   StableHlo.ternary main_while1b_call6_v1 main_while1b_call6_v3 main_while1b_v20 main_while1b_call6_v4 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F)),
   StableHlo.reshape main_while1b_call6_v4 main_while1b_call6_v5 (rfl : (.i32 : EltTy) = .i32) shapeCasts_S64x1_S64x1x1,
   StableHlo.nullary main_while1b_call6_c_1 (constantI S1 32 511#32),
   StableHlo.nullary main_while1b_call6_c_2 (constantI S_ 32 0#32),
   StableHlo.unary main_while1b_call6_c_2 main_while1b_call6_v6 ((broadcastInDim S64x1x1 ![] bcast_S_S64x1x1) : (⟨S_, .i32⟩ : BufTy).Contents (Elt F) → (⟨S64x1x1, .i32⟩ : BufTy).Contents (Elt F)),
   StableHlo.binary main_while1b_call6_v5 main_while1b_call6_v6 main_while1b_call6_v7 ((cmpi .sge) : (⟨S64x1x1, .i32⟩ : BufTy).Contents (Elt F) → (⟨S64x1x1, .i32⟩ : BufTy).Contents (Elt F) → (⟨S64x1x1, .i1⟩ : BufTy).Contents (Elt F)),
   StableHlo.unary main_while1b_call6_c_1 main_while1b_call6_v8 ((broadcastInDim S1x1x1 ![2] bcast_S1_S1x1x1_2) : (⟨S1, .i32⟩ : BufTy).Contents (Elt F) → (⟨S1x1x1, .i32⟩ : BufTy).Contents (Elt F)),
   StableHlo.unary main_while1b_call6_v8 main_while1b_call6_v9 ((broadcastInDim S64x1x1 ![0, 1, 2] bcast_S1x1x1_S64x1x1_0_1_2) : (⟨S1x1x1, .i32⟩ : BufTy).Contents (Elt F) → (⟨S64x1x1, .i32⟩ : BufTy).Contents (Elt F)),
   StableHlo.binary main_while1b_call6_v5 main_while1b_call6_v9 main_while1b_call6_v10 ((cmpi .sle) : (⟨S64x1x1, .i32⟩ : BufTy).Contents (Elt F) → (⟨S64x1x1, .i32⟩ : BufTy).Contents (Elt F) → (⟨S64x1x1, .i1⟩ : BufTy).Contents (Elt F)),
   StableHlo.binary main_while1b_call6_v7 main_while1b_call6_v10 main_while1b_call6_v11 (andi : (⟨S64x1x1, .i1⟩ : BufTy).Contents (Elt F) → (⟨S64x1x1, .i1⟩ : BufTy).Contents (Elt F) → (⟨S64x1x1, .i1⟩ : BufTy).Contents (Elt F)),
   StableHlo.nullary main_while1b_call6_c_3 (constantI S_ 1 1#1),
   StableHlo.binary main_while1b_call6_v11 main_while1b_call6_c_3 main_while1b_call6_v12 ((fun x v => Host.reduce IntOp.andi x v reducesTo_S64x1x1_S64x1_d2 h_S_) : (⟨S64x1x1, .i1⟩ : BufTy).Contents (Elt F) → (⟨S_, .i1⟩ : BufTy).Contents (Elt F) → (⟨S64x1, .i1⟩ : BufTy).Contents (Elt F)),
   StableHlo.binary main_while1b_v19 main_while1b_call6_v5 main_while1b_call6_v13 ((fun x i => Host.gather gather_S64x512_S64x1x1_S64x1_n_1_0_0_1_2_11 x i) : (⟨S64x512, .i32⟩ : BufTy).Contents (Elt F) → (⟨S64x1x1, .i32⟩ : BufTy).Contents (Elt F) → (⟨S64x1, .i32⟩ : BufTy).Contents (Elt F)),
   StableHlo.nullary main_while1b_call6_c_4 (constantI S_ 32 2147483648#32),
   StableHlo.unary main_while1b_call6_c_4 main_while1b_call6_v14 ((broadcastInDim S64x1 ![] bcast_S_S64x1) : (⟨S_, .i32⟩ : BufTy).Contents (Elt F) → (⟨S64x1, .i32⟩ : BufTy).Contents (Elt F)),
   StableHlo.ternary main_while1b_call6_v12 main_while1b_call6_v13 main_while1b_call6_v14 main_while1b_v21 (select : (⟨S64x1, .i1⟩ : BufTy).Contents (Elt F) → (⟨S64x1, .i32⟩ : BufTy).Contents (Elt F) → (⟨S64x1, .i32⟩ : BufTy).Contents (Elt F) → (⟨S64x1, .i32⟩ : BufTy).Contents (Elt F))]

/-- Those as one row. -/
def flatOps : List (HloOp τ sig (Elt F)) :=
  [StableHlo.reshape main_while1b_v21 main_while1b_v22 (rfl : (.i32 : EltTy) = .i32) shapeCasts_S64x1_S64]

/-- The row, kept. -/
def storeOps : List (HloOp τ sig (Elt F)) :=
  [StableHlo.unary main_while1b_v22 main_while1b_call7_v0 ((broadcastInDim S1x64 ![1] bcast_S64_S1x64_1) : (⟨S64, .i32⟩ : BufTy).Contents (Elt F) → (⟨S1x64, .i32⟩ : BufTy).Contents (Elt F)),
   StableHlo.nullary main_while1b_call7_c (constantI S_ 32 0#32),
   StableHlo.TRef.binaryIndexed (.of main_v13_3 : StableHlo.TRef sig ⟨S511x64, .i32⟩) (.of main_while1b_call7_v0 : StableHlo.TRef sig ⟨S1x64, .i32⟩) (![.of main_while1b_v18, .of main_while1b_call7_c] : Fin 2 → StableHlo.TRef sig ⟨S_, .i32⟩) (.of main_while1b_v23 : StableHlo.TRef sig ⟨S511x64, .i32⟩) (fun x u i => Host.dynamicUpdateSlice x u (fun k => (i k (Shape.Idx.first h_S_)).toInt) updateFits_S511x64_S1x64)]

/-- The second loop's next carried values. -/
def nextOps1 : List (HloOp τ sig (Elt F)) :=
  [StableHlo.nullary main_while1b_c_8 (constantI S_ 32 1#32),
   StableHlo.binary main_v13_1 main_while1b_c_8 main_while1b_v24 (addi : (⟨S_, .i32⟩ : BufTy).Contents (Elt F) → (⟨S_, .i32⟩ : BufTy).Contents (Elt F) → (⟨S_, .i32⟩ : BufTy).Contents (Elt F)),
   StableHlo.unary main_while1b_v24 main_v13_1 id,
   StableHlo.unary main_while1b_v22 main_v13_2 id,
   StableHlo.unary main_while1b_v23 main_v13_3 id]

end Cert.ReferenceIdeal.Hand

end
-- ==== Proof.Ref.Shape.lean ====
/-
  The reference's program is its stretches of operations with the two loops between them, and each loop's body is
  a list of stretches.
-/
module

public import proofs.«01_k».proof.Proof.Ref.Ops
public import Idealize.ShloMosaic.Lib.StableHlo.RunLoop

@[expose] public section

noncomputable section

namespace Cert.ReferenceIdeal.Hand

open Idealize.ShloMosaic Cert.ReferenceIdeal
open Idealize.ShloMosaic.TcCoe Idealize.SL.Sem

variable {F : FTy → Type} [FloatOps F] [Facts]

/-! ## Every stretch stays within the arrays -/

theorem preA_sub : (preA : List (HloOp τ sig (Elt F))).Forall fun op => op.bufs ⊆ StableHlo.tcRefs τ sig :=
  StableHlo.unary_bufs_sub ..

theorem takeOps_sub : (takeOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.unary_bufs_sub .., StableHlo.nullary_bufs_sub .., StableHlo.unary_bufs_sub .., StableHlo.ternary_bufs_sub ..⟩

theorem preB_sub : (preB : List (HloOp τ sig (Elt F))).Forall fun op => op.bufs ⊆ StableHlo.tcRefs τ sig :=
  ⟨StableHlo.unary_bufs_sub .., StableHlo.unary_bufs_sub .., StableHlo.reshape_bufs_sub .., StableHlo.unary_bufs_sub .., StableHlo.binary_bufs_sub .., StableHlo.unary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub ..⟩

theorem lastOps_sub : (lastOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem midOps_sub : (midOps : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub ..⟩

theorem postOps_sub : (postOps : List (HloOp τ sig (Elt F))).Forall fun op => op.bufs ⊆ StableHlo.tcRefs τ sig :=
  ⟨StableHlo.unary_bufs_sub .., StableHlo.unary_bufs_sub .., StableHlo.binary_bufs_sub ..⟩

theorem rowOps_sub : (rowOps : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem sumOps_sub : (sumOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.binary_bufs_sub ..⟩

theorem bestOps_sub : (bestOps : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩

theorem maxOps_sub : (maxOps : List (HloOp τ sig (Elt F))).Forall fun op => op.bufs ⊆ StableHlo.tcRefs τ sig :=
  ⟨StableHlo.nullary_bufs_sub .., StableHlo.binary_bufs_sub .., StableHlo.binary_bufs_sub ..⟩

theorem keepOps_sub : (keepOps : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩

theorem nextOps_sub : (nextOps : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

theorem countOps_sub : (countOps : List (HloOp τ sig (Elt F))).Forall fun op => op.bufs ⊆ StableHlo.tcRefs τ sig :=
  ⟨StableHlo.nullary_bufs_sub .., StableHlo.binary_bufs_sub .., StableHlo.nullary_bufs_sub .., StableHlo.binary_bufs_sub ..⟩

theorem ptrRowOps_sub : (ptrRowOps : List (HloOp τ sig (Elt F))).Forall fun op => op.bufs ⊆ StableHlo.tcRefs τ sig :=
  ⟨StableHlo.nullary_bufs_sub .., StableHlo.nullary_bufs_sub .., StableHlo.unaryIndexed_bufs_sub .., StableHlo.reshape_bufs_sub ..⟩

theorem colOps_sub : (colOps : List (HloOp τ sig (Elt F))).Forall fun op => op.bufs ⊆ StableHlo.tcRefs τ sig :=
  StableHlo.unary_bufs_sub ..

theorem alongOps_sub : (alongOps : List (HloOp τ sig (Elt F))).Forall fun op => op.bufs ⊆ StableHlo.tcRefs τ sig :=
  ⟨StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.reshape_bufs_sub .., StableHlo.nullary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub .., StableHlo.binary_bufs_sub .., StableHlo.binary_bufs_sub .., StableHlo.nullary_bufs_sub .., StableHlo.unary_bufs_sub .., StableHlo.ternary_bufs_sub ..⟩

theorem flatOps_sub : (flatOps : List (HloOp τ sig (Elt F))).Forall fun op => op.bufs ⊆ StableHlo.tcRefs τ sig :=
  StableHlo.reshape_bufs_sub ..

theorem storeOps_sub : (storeOps : List (HloOp τ sig (Elt F))).Forall fun op => op.bufs ⊆ StableHlo.tcRefs τ sig :=
  ⟨StableHlo.unary_bufs_sub .., StableHlo.nullary_bufs_sub .., StableHlo.binaryIndexed_bufs_sub ..⟩

theorem nextOps1_sub : (nextOps1 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

/-! ## The stretches in order -/

/-- Before the first loop. -/
abbrev preI : List (List (HloOp τ sig (Elt F))) := [preA, takeOps, preB]

/-- One turn of the first loop. -/
abbrev body0I : List (List (HloOp τ sig (Elt F))) := [rowOps, sumOps, bestOps, maxOps, keepOps, nextOps]

/-- Between the loops. -/
abbrev midI : List (List (HloOp τ sig (Elt F))) := [lastOps, midOps]

/-- One turn of the second loop. -/
abbrev body1I : List (List (HloOp τ sig (Elt F))) := [countOps, ptrRowOps, colOps, alongOps, flatOps, storeOps, nextOps1]

/-- After the second loop. -/
abbrev postI : List (List (HloOp τ sig (Elt F))) := [postOps]

theorem preI_plain : StableHlo.Plain (preI : List (List (HloOp τ sig (Elt F)))) :=
  StableHlo.Plain.cons preA_sub (StableHlo.Plain.cons takeOps_sub (StableHlo.Plain.cons preB_sub StableHlo.Plain.nil))

theorem body0I_plain : StableHlo.Plain (body0I : List (List (HloOp τ sig (Elt F)))) :=
  StableHlo.Plain.cons rowOps_sub (StableHlo.Plain.cons sumOps_sub (StableHlo.Plain.cons bestOps_sub (StableHlo.Plain.cons maxOps_sub (StableHlo.Plain.cons keepOps_sub (StableHlo.Plain.cons nextOps_sub StableHlo.Plain.nil)))))

theorem midI_plain : StableHlo.Plain (midI : List (List (HloOp τ sig (Elt F)))) :=
  StableHlo.Plain.cons lastOps_sub (StableHlo.Plain.cons midOps_sub StableHlo.Plain.nil)

theorem body1I_plain : StableHlo.Plain (body1I : List (List (HloOp τ sig (Elt F)))) :=
  StableHlo.Plain.cons countOps_sub (StableHlo.Plain.cons ptrRowOps_sub (StableHlo.Plain.cons colOps_sub (StableHlo.Plain.cons alongOps_sub (StableHlo.Plain.cons flatOps_sub (StableHlo.Plain.cons storeOps_sub (StableHlo.Plain.cons nextOps1_sub StableHlo.Plain.nil))))))

theorem postI_plain : StableHlo.Plain (postI : List (List (HloOp τ sig (Elt F)))) :=
  StableHlo.Plain.cons postOps_sub StableHlo.Plain.nil

/-- The first loop's test, as operations. -/
abbrev cond0 : List (HloOp τ sig (Elt F)) :=
  [StableHlo.nullary main_while0c_c_7 (constantI S_ 32 511#32),
   StableHlo.binary main_v10_2 main_while0c_c_7 main_while0c_v17 (cmpi .slt : (⟨S_, .i32⟩ : BufTy).Contents (Elt F) → (⟨S_, .i32⟩ : BufTy).Contents (Elt F) → (⟨S_, .i1⟩ : BufTy).Contents (Elt F))]

/-- The second loop's test, as operations. -/
abbrev cond1 : List (HloOp τ sig (Elt F)) :=
  [StableHlo.nullary main_while1c_c_6 (constantI S_ 32 511#32),
   StableHlo.binary main_v13_1 main_while1c_c_6 main_while1c_v17 (cmpi .slt : (⟨S_, .i32⟩ : BufTy).Contents (Elt F) → (⟨S_, .i32⟩ : BufTy).Contents (Elt F) → (⟨S_, .i1⟩ : BufTy).Contents (Elt F))]

/-! ## The functions' bodies -/

/-- The rows at the symbols. -/
theorem take_eq : fn_take.body (F := F) (.of main_v0) (.of main_arg0) main_call0 = StableHlo.seq takeOps := by
  chain_rfl

/-- The best last state. -/
theorem last_eq : fn_argmax_0.body (F := F) (.of main_v10_3) main_call4 = StableHlo.seq lastOps := by
  chain_rfl

/-- One step's emission rows. -/
theorem row_eq : fn_dynamic_index_in_dim.body (F := F) (.of main_v10_0) (.of main_v10_2) main_while0b_call1 = StableHlo.seq rowOps := by
  chain_rfl

/-- The best previous state. -/
theorem best_eq : fn_argmax.body (F := F) (.of main_while0b_v22) main_while0b_call2 = StableHlo.seq bestOps := by
  chain_rfl

/-- Keeping the best previous states. -/
theorem keep_eq : fn_dynamic_update_index_in_dim.body (F := F) (.of main_v10_4) (.of main_while0b_v23) (.of main_v10_2) main_while0b_call3 = StableHlo.seq keepOps := by
  chain_rfl

/-- One step's best previous states. -/
theorem ptrRow_eq : fn_dynamic_index_in_dim_1.body (F := F) (.of main_v13_0) (.of main_while1b_v18) main_while1b_call5 = StableHlo.seq ptrRowOps := by
  chain_rfl

/-- The current states' best previous states. -/
theorem along_eq : fn_take_along_axis.body (F := F) (.of main_while1b_v19) (.of main_while1b_v20) main_while1b_call6 = StableHlo.seq alongOps := by
  chain_rfl

/-- Keeping the states. -/
theorem store_eq : fn_dynamic_update_index_in_dim_2.body (F := F) (.of main_v13_3) (.of main_while1b_v22) (.of main_while1b_v18) main_while1b_call7 = StableHlo.seq storeOps := by
  chain_rfl

/-! ## The program -/

/-- The first loop's body is its stretches. -/
theorem body0_eq : main_while0_body (F := F) = Pipeline.chain ((body0I (F := F)).map fun ops => (StableHlo.seq ops : Prog _ PUnit)) := by
  unfold main_while0_body
  rw [row_eq, best_eq, keep_eq]
  chain_rfl

/-- The second loop's body is its stretches. -/
theorem body1_eq : main_while1_body (F := F) = Pipeline.chain ((body1I (F := F)).map fun ops => (StableHlo.seq ops : Prog _ PUnit)) := by
  unfold main_while1_body
  rw [ptrRow_eq, along_eq, store_eq]
  chain_rfl

/-- The program is its stretches and its two loops. -/
theorem main_eq (c : Dev nD) : main (F := F) c = Pipeline.chain (((preI (F := F)).map fun ops => (StableHlo.seq ops : Prog _ PUnit))
    ++ HostLoop.enter 0 :: (((midI (F := F)).map fun ops => (StableHlo.seq ops : Prog _ PUnit))
    ++ HostLoop.enter 1 :: ((postI (F := F)).map fun ops => (StableHlo.seq ops : Prog _ PUnit)))) := by
  unfold main
  rw [take_eq, last_eq]
  chain_rfl

end Cert.ReferenceIdeal.Hand

end
-- ==== Proof.Ref.Keep.lean ====
/-
  What each stretch writes; every other array keeps its contents.
-/
module

public import proofs.«01_k».proof.Proof.Ref.Shape
public import Idealize.ShloMosaic.Lib.StableHlo.Run

@[expose] public section

noncomputable section

namespace Cert.ReferenceIdeal.Hand

open Idealize.ShloMosaic Cert.ReferenceIdeal
open Idealize.ShloMosaic.TcCoe Idealize.SL.Sem

variable {F : FTy → Type} [FloatOps F] [Facts]

/-- What `preA` writes. -/
abbrev preA_wr : List (Ref sig .tc) := [main_v0]

theorem preA_keep (V : Valuation τ sig (Elt F)) {r : Ref sig .tc} (hr : r ∉ preA_wr) :
    StableHlo.after preA V (Proc.devRef .tc r) = V (Proc.devRef .tc r) :=
  StableHlo.after_of_writes_sub _ _ (StableHlo.forall_writes_sub_of_map (W := preA_wr) rfl) hr

/-- What `takeOps` writes. -/
abbrev takeOps_wr : List (Ref sig .tc) := [main_call0_c, main_call0_v0, main_call0_v1, main_call0_c_0, main_call0_v2, main_call0_v3, main_call0_v4, main_call0_v5, main_call0_c_1, main_call0_c_2, main_call0_v6, main_call0_v7, main_call0_v8, main_call0_v9, main_call0_v10, main_call0_v11, main_call0_c_3, main_call0_v12, main_call0_v13, main_call0_v14, main_call0_cst, main_call0_v15, main_v1]

theorem takeOps_keep (V : Valuation τ sig (Elt F)) {r : Ref sig .tc} (hr : r ∉ takeOps_wr) :
    StableHlo.after takeOps V (Proc.devRef .tc r) = V (Proc.devRef .tc r) :=
  StableHlo.after_of_writes_sub _ _ (StableHlo.forall_writes_sub_of_map (W := takeOps_wr) rfl) hr

/-- What `preB` writes. -/
abbrev preB_wr : List (Ref sig .tc) := [main_v2, main_v3, main_v4, main_v5, main_v6, main_v7, main_v8, main_c, main_v9, main_c_0, main_v10_0, main_v10_1, main_v10_2, main_v10_3, main_v10_4]

theorem preB_keep (V : Valuation τ sig (Elt F)) {r : Ref sig .tc} (hr : r ∉ preB_wr) :
    StableHlo.after preB V (Proc.devRef .tc r) = V (Proc.devRef .tc r) :=
  StableHlo.after_of_writes_sub _ _ (StableHlo.forall_writes_sub_of_map (W := preB_wr) rfl) hr

/-- What `lastOps` writes. -/
abbrev lastOps_wr : List (Ref sig .tc) := [main_call4_v0, main_call4_cst, main_call4_c, main_call4_v1_0, main_v11]

theorem lastOps_keep (V : Valuation τ sig (Elt F)) {r : Ref sig .tc} (hr : r ∉ lastOps_wr) :
    StableHlo.after lastOps V (Proc.devRef .tc r) = V (Proc.devRef .tc r) :=
  StableHlo.after_of_writes_sub _ _ (StableHlo.forall_writes_sub_of_map (W := lastOps_wr) rfl) hr

/-- What `midOps` writes. -/
abbrev midOps_wr : List (Ref sig .tc) := [main_c_1, main_v12, main_c_2, main_v13_0, main_v13_1, main_v13_2, main_v13_3]

theorem midOps_keep (V : Valuation τ sig (Elt F)) {r : Ref sig .tc} (hr : r ∉ midOps_wr) :
    StableHlo.after midOps V (Proc.devRef .tc r) = V (Proc.devRef .tc r) :=
  StableHlo.after_of_writes_sub _ _ (StableHlo.forall_writes_sub_of_map (W := midOps_wr) rfl) hr

/-- What `postOps` writes. -/
abbrev postOps_wr : List (Ref sig .tc) := [main_v14, main_v15, main_v16]

theorem postOps_keep (V : Valuation τ sig (Elt F)) {r : Ref sig .tc} (hr : r ∉ postOps_wr) :
    StableHlo.after postOps V (Proc.devRef .tc r) = V (Proc.devRef .tc r) :=
  StableHlo.after_of_writes_sub _ _ (StableHlo.forall_writes_sub_of_map (W := postOps_wr) rfl) hr

/-- What `rowOps` writes. -/
abbrev rowOps_wr : List (Ref sig .tc) := [main_while0b_call1_c, main_while0b_call1_c_0, main_while0b_call1_v0, main_while0b_v17]

theorem rowOps_keep (V : Valuation τ sig (Elt F)) {r : Ref sig .tc} (hr : r ∉ rowOps_wr) :
    StableHlo.after rowOps V (Proc.devRef .tc r) = V (Proc.devRef .tc r) :=
  StableHlo.after_of_writes_sub _ _ (StableHlo.forall_writes_sub_of_map (W := rowOps_wr) rfl) hr

/-- What `sumOps` writes. -/
abbrev sumOps_wr : List (Ref sig .tc) := [main_while0b_v18, main_while0b_v19, main_while0b_v20, main_while0b_v21, main_while0b_v22]

theorem sumOps_keep (V : Valuation τ sig (Elt F)) {r : Ref sig .tc} (hr : r ∉ sumOps_wr) :
    StableHlo.after sumOps V (Proc.devRef .tc r) = V (Proc.devRef .tc r) :=
  StableHlo.after_of_writes_sub _ _ (StableHlo.forall_writes_sub_of_map (W := sumOps_wr) rfl) hr

/-- What `bestOps` writes. -/
abbrev bestOps_wr : List (Ref sig .tc) := [main_while0b_call2_v0, main_while0b_call2_cst, main_while0b_call2_c, main_while0b_call2_v1_0, main_while0b_v23]

theorem bestOps_keep (V : Valuation τ sig (Elt F)) {r : Ref sig .tc} (hr : r ∉ bestOps_wr) :
    StableHlo.after bestOps V (Proc.devRef .tc r) = V (Proc.devRef .tc r) :=
  StableHlo.after_of_writes_sub _ _ (StableHlo.forall_writes_sub_of_map (W := bestOps_wr) rfl) hr

/-- What `maxOps` writes. -/
abbrev maxOps_wr : List (Ref sig .tc) := [main_while0b_cst, main_while0b_v24, main_while0b_v25]

theorem maxOps_keep (V : Valuation τ sig (Elt F)) {r : Ref sig .tc} (hr : r ∉ maxOps_wr) :
    StableHlo.after maxOps V (Proc.devRef .tc r) = V (Proc.devRef .tc r) :=
  StableHlo.after_of_writes_sub _ _ (StableHlo.forall_writes_sub_of_map (W := maxOps_wr) rfl) hr

/-- What `keepOps` writes. -/
abbrev keepOps_wr : List (Ref sig .tc) := [main_while0b_call3_v0, main_while0b_call3_c, main_while0b_call3_c_0, main_while0b_v26]

theorem keepOps_keep (V : Valuation τ sig (Elt F)) {r : Ref sig .tc} (hr : r ∉ keepOps_wr) :
    StableHlo.after keepOps V (Proc.devRef .tc r) = V (Proc.devRef .tc r) :=
  StableHlo.after_of_writes_sub _ _ (StableHlo.forall_writes_sub_of_map (W := keepOps_wr) rfl) hr

/-- What `nextOps` writes. -/
abbrev nextOps_wr : List (Ref sig .tc) := [main_while0b_c_7, main_while0b_v27, main_v10_2, main_v10_3, main_v10_4]

theorem nextOps_keep (V : Valuation τ sig (Elt F)) {r : Ref sig .tc} (hr : r ∉ nextOps_wr) :
    StableHlo.after nextOps V (Proc.devRef .tc r) = V (Proc.devRef .tc r) :=
  StableHlo.after_of_writes_sub _ _ (StableHlo.forall_writes_sub_of_map (W := nextOps_wr) rfl) hr

/-- What `countOps` writes. -/
abbrev countOps_wr : List (Ref sig .tc) := [main_while1b_c_6, main_while1b_v17, main_while1b_c_7, main_while1b_v18]

theorem countOps_keep (V : Valuation τ sig (Elt F)) {r : Ref sig .tc} (hr : r ∉ countOps_wr) :
    StableHlo.after countOps V (Proc.devRef .tc r) = V (Proc.devRef .tc r) :=
  StableHlo.after_of_writes_sub _ _ (StableHlo.forall_writes_sub_of_map (W := countOps_wr) rfl) hr

/-- What `ptrRowOps` writes. -/
abbrev ptrRowOps_wr : List (Ref sig .tc) := [main_while1b_call5_c, main_while1b_call5_c_0, main_while1b_call5_v0, main_while1b_v19]

theorem ptrRowOps_keep (V : Valuation τ sig (Elt F)) {r : Ref sig .tc} (hr : r ∉ ptrRowOps_wr) :
    StableHlo.after ptrRowOps V (Proc.devRef .tc r) = V (Proc.devRef .tc r) :=
  StableHlo.after_of_writes_sub _ _ (StableHlo.forall_writes_sub_of_map (W := ptrRowOps_wr) rfl) hr

/-- What `colOps` writes. -/
abbrev colOps_wr : List (Ref sig .tc) := [main_while1b_v20]

theorem colOps_keep (V : Valuation τ sig (Elt F)) {r : Ref sig .tc} (hr : r ∉ colOps_wr) :
    StableHlo.after colOps V (Proc.devRef .tc r) = V (Proc.devRef .tc r) :=
  StableHlo.after_of_writes_sub _ _ (StableHlo.forall_writes_sub_of_map (W := colOps_wr) rfl) hr

/-- What `alongOps` writes. -/
abbrev alongOps_wr : List (Ref sig .tc) := [main_while1b_call6_c, main_while1b_call6_v0, main_while1b_call6_v1, main_while1b_call6_c_0, main_while1b_call6_v2, main_while1b_call6_v3, main_while1b_call6_v4, main_while1b_call6_v5, main_while1b_call6_c_1, main_while1b_call6_c_2, main_while1b_call6_v6, main_while1b_call6_v7, main_while1b_call6_v8, main_while1b_call6_v9, main_while1b_call6_v10, main_while1b_call6_v11, main_while1b_call6_c_3, main_while1b_call6_v12, main_while1b_call6_v13, main_while1b_call6_c_4, main_while1b_call6_v14, main_while1b_v21]

theorem alongOps_keep (V : Valuation τ sig (Elt F)) {r : Ref sig .tc} (hr : r ∉ alongOps_wr) :
    StableHlo.after alongOps V (Proc.devRef .tc r) = V (Proc.devRef .tc r) :=
  StableHlo.after_of_writes_sub _ _ (StableHlo.forall_writes_sub_of_map (W := alongOps_wr) rfl) hr

/-- What `flatOps` writes. -/
abbrev flatOps_wr : List (Ref sig .tc) := [main_while1b_v22]

theorem flatOps_keep (V : Valuation τ sig (Elt F)) {r : Ref sig .tc} (hr : r ∉ flatOps_wr) :
    StableHlo.after flatOps V (Proc.devRef .tc r) = V (Proc.devRef .tc r) :=
  StableHlo.after_of_writes_sub _ _ (StableHlo.forall_writes_sub_of_map (W := flatOps_wr) rfl) hr

/-- What `storeOps` writes. -/
abbrev storeOps_wr : List (Ref sig .tc) := [main_while1b_call7_v0, main_while1b_call7_c, main_while1b_v23]

theorem storeOps_keep (V : Valuation τ sig (Elt F)) {r : Ref sig .tc} (hr : r ∉ storeOps_wr) :
    StableHlo.after storeOps V (Proc.devRef .tc r) = V (Proc.devRef .tc r) :=
  StableHlo.after_of_writes_sub _ _ (StableHlo.forall_writes_sub_of_map (W := storeOps_wr) rfl) hr

/-- What `nextOps1` writes. -/
abbrev nextOps1_wr : List (Ref sig .tc) := [main_while1b_c_8, main_while1b_v24, main_v13_1, main_v13_2, main_v13_3]

theorem nextOps1_keep (V : Valuation τ sig (Elt F)) {r : Ref sig .tc} (hr : r ∉ nextOps1_wr) :
    StableHlo.after nextOps1 V (Proc.devRef .tc r) = V (Proc.devRef .tc r) :=
  StableHlo.after_of_writes_sub _ _ (StableHlo.forall_writes_sub_of_map (W := nextOps1_wr) rfl) hr

/-- What `cond0` writes. -/
abbrev cond0_wr : List (Ref sig .tc) := [main_while0c_c_7, main_while0c_v17]

theorem cond0_keep (V : Valuation τ sig (Elt F)) {r : Ref sig .tc} (hr : r ∉ cond0_wr) :
    StableHlo.after cond0 V (Proc.devRef .tc r) = V (Proc.devRef .tc r) :=
  StableHlo.after_of_writes_sub _ _ (StableHlo.forall_writes_sub_of_map (W := cond0_wr) rfl) hr

/-- What `cond1` writes. -/
abbrev cond1_wr : List (Ref sig .tc) := [main_while1c_c_6, main_while1c_v17]

theorem cond1_keep (V : Valuation τ sig (Elt F)) {r : Ref sig .tc} (hr : r ∉ cond1_wr) :
    StableHlo.after cond1 V (Proc.devRef .tc r) = V (Proc.devRef .tc r) :=
  StableHlo.after_of_writes_sub _ _ (StableHlo.forall_writes_sub_of_map (W := cond1_wr) rfl) hr

end Cert.ReferenceIdeal.Hand

end
-- ==== Proof.Ref.Run.lean ====
/-
  The reference's run: its two loops take 511 turns each, it ends, and it leaves its arguments as they were.
-/
module

public import proofs.«01_k».proof.Proof.Ref.Keep
public import proofs.«01_k».proof.Proof.Gen.ReferenceIdeal
public import Idealize.ShloMosaic.Lib.StableHlo.RunRead
public import Idealize.ShloMosaic.Lib.StableHlo.RunHlo
public import Idealize.ShloMosaic.Lib.Scf.ExitTest
public import Idealize.ShloMosaic.Lib.Scf.Counter

@[expose] public section

noncomputable section

namespace Cert.ReferenceIdeal.Hand

open Idealize.ShloMosaic Cert.ReferenceIdeal
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.StableHlo (after afterL held atTrip)
open Idealize.ShloMosaic.Pipeline (CSeg Ticket ucRefs sub_ucRefs)

variable {F : FTy → Type} [FloatOps F]

local notation "𝕄" => MT nD τ sig Unit (Elt F) ℕ (Option PUnit) ℕ

/-! ## The counters -/

/-- A counter's contents before the `k`-th turn. -/
abbrev counter (k : ℕ) : (⟨S_, .i32⟩ : BufTy).Contents (Elt F) := fun _ => Scf.iv 0#32 1#32 k

theorem next0 (V : Valuation τ sig (Elt F)) : after nextOps V (Proc.devRef .tc main_v10_2)
    = addi (V (Proc.devRef .tc main_v10_2) : (⟨S_, .i32⟩ : BufTy).Contents (Elt F)) (constantI S_ 32 1#32) := by
  unfold nextOps
  after_reads_simp
  rfl

theorem next1 (V : Valuation τ sig (Elt F)) : after nextOps1 V (Proc.devRef .tc main_v13_1)
    = addi (V (Proc.devRef .tc main_v13_1) : (⟨S_, .i32⟩ : BufTy).Contents (Elt F)) (constantI S_ 32 1#32) := by
  unfold nextOps1
  after_reads_simp
  rfl

theorem body0_count (V : Valuation τ sig (Elt F)) : afterL body0I V (Proc.devRef .tc main_v10_2)
    = addi (V (Proc.devRef .tc main_v10_2) : (⟨S_, .i32⟩ : BufTy).Contents (Elt F)) (constantI S_ 32 1#32) := by
  simp only [StableHlo.afterL_cons, StableHlo.afterL_nil]
  rw [next0, keepOps_keep _ (by decide), maxOps_keep _ (by decide), bestOps_keep _ (by decide), sumOps_keep _ (by decide), rowOps_keep _ (by decide)]

theorem body1_count (V : Valuation τ sig (Elt F)) : afterL body1I V (Proc.devRef .tc main_v13_1)
    = addi (V (Proc.devRef .tc main_v13_1) : (⟨S_, .i32⟩ : BufTy).Contents (Elt F)) (constantI S_ 32 1#32) := by
  simp only [StableHlo.afterL_cons, StableHlo.afterL_nil]
  rw [next1, storeOps_keep _ (by decide), flatOps_keep _ (by decide), alongOps_keep _ (by decide), colOps_keep _ (by decide), ptrRowOps_keep _ (by decide), countOps_keep _ (by decide)]

/-- The first loop's counter counts its turns. -/
theorem count0 (W₀ : Dev nD → Valuation τ sig (Elt F)) (h0 : ∀ c, W₀ c (Proc.devRef .tc main_v10_2) = counter 0) (c : Dev nD) (k : ℕ) :
    atTrip cond0 body0I W₀ k c (Proc.devRef .tc main_v10_2) = counter k := by
  induction k with
  | zero => exact h0 c
  | succ k ih =>
    rw [StableHlo.atTrip_succ, body0_count, cond0_keep _ (by decide), ih]
    funext i
    exact (Scf.iv_succ 0#32 1#32 k).symm

/-- The second loop's counter counts its turns. -/
theorem count1 (W₀ : Dev nD → Valuation τ sig (Elt F)) (h0 : ∀ c, W₀ c (Proc.devRef .tc main_v13_1) = counter 0) (c : Dev nD) (k : ℕ) :
    atTrip cond1 body1I W₀ k c (Proc.devRef .tc main_v13_1) = counter k := by
  induction k with
  | zero => exact h0 c
  | succ k ih =>
    rw [StableHlo.atTrip_succ, body1_count, cond1_keep _ (by decide), ih]
    funext i
    exact (Scf.iv_succ 0#32 1#32 k).symm

/-- A loop counting to 511 by ones takes 511 turns. -/
theorem trips_eq : Scf.trips 0#32 511#32 1#32 = 511 := by decide

/-! ## The loops' tests -/

/-- What rides along beside the arrays. -/
abbrev Rw (c : Dev nD) : sProp 𝕄 := iprop(∃ W, owes (c : Thread nD τ) (0 : CellTallies nD τ sig Unit) W)

-- the rules are stated for any thread, and are used at the TensorCore's
set_option backward.isDefEq.respectTransparency.types false in
/-- The first loop's test holds exactly while turns remain. -/
theorem test0 (W₀ : Dev nD → Valuation τ sig (Elt F)) (h0 : ∀ c, W₀ c (Proc.devRef .tc main_v10_2) = counter 0) :
    StableHlo.LoopCond (Ix := Unit) (Name := ℕ) (U := Option PUnit) (Lvl := ℕ) (pcfgs (F := F)) defs₀ Variants.none loops Rw main_while0_cond cond0 body0I W₀ 511 := by
  intro k hk c bd
  have hctr := count0 W₀ h0 c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond0 body0I W₀ k c) main_v10_2 HostLoop.idx0)
        (HloOp.result _ (atTrip cond0 body0I W₀ k c) main_while0c_c_7 HostLoop.idx0) = 1#1) (k < 511)
    rw [StableHlo.nullary_result_ne _ _ _ _ (by decide), StableHlo.nullary_result, hctr]
    exact (Scf.cmpi_slt_iv_ub_iff Cert.ReferenceIdeal.Gen.main_while0_ok (trips_eq ▸ hk)).trans (by rw [trips_eq])
  isplitl [Hb]; · iexact Hb
  isplitl [Hh]; · rw [StableHlo.after_cons, StableHlo.after_cons, StableHlo.after_nil]; iexact Hh
  iexact HR

set_option backward.isDefEq.respectTransparency.types false in
/-- The second loop's test holds exactly while turns remain. -/
theorem test1 (W₀ : Dev nD → Valuation τ sig (Elt F)) (h0 : ∀ c, W₀ c (Proc.devRef .tc main_v13_1) = counter 0) :
    StableHlo.LoopCond (Ix := Unit) (Name := ℕ) (U := Option PUnit) (Lvl := ℕ) (pcfgs (F := F)) defs₀ Variants.none loops Rw main_while1_cond cond1 body1I W₀ 511 := by
  intro k hk c bd
  have hctr := count1 W₀ h0 c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atTrip cond1 body1I W₀ k c) main_v13_1 HostLoop.idx0)
        (HloOp.result _ (atTrip cond1 body1I W₀ k c) main_while1c_c_6 HostLoop.idx0) = 1#1) (k < 511)
    rw [StableHlo.nullary_result_ne _ _ _ _ (by decide), StableHlo.nullary_result, hctr]
    exact (Scf.cmpi_slt_iv_ub_iff Cert.ReferenceIdeal.Gen.main_while1_ok (trips_eq ▸ hk)).trans (by rw [trips_eq])
  isplitl [Hb]; · iexact Hb
  isplitl [Hh]; · rw [StableHlo.after_cons, StableHlo.after_cons, StableHlo.after_nil]; iexact Hh
  iexact HR

/-! ## The contents along the run -/

variable (m : (ℓ : Loc nD τ sig) → Buf (Elt F) ℓ)

/-- The arrays where the first loop begins. -/
def W1 (c : Dev nD) : Valuation τ sig (Elt F) := afterL preI (StableHlo.launchContents m c)
/-- The arrays where the first loop ends. -/
def W2 (c : Dev nD) : Valuation τ sig (Elt F) := after cond0 (atTrip cond0 body0I (W1 m) 511 c)
/-- The arrays where the second loop begins. -/
def W3 (c : Dev nD) : Valuation τ sig (Elt F) := afterL midI (W2 m c)
/-- The arrays where the second loop ends. -/
def W4 (c : Dev nD) : Valuation τ sig (Elt F) := after cond1 (atTrip cond1 body1I (W3 m) 511 c)
/-- The arrays at the end. -/
def W5 (c : Dev nD) : Valuation τ sig (Elt F) := afterL postI (W4 m c)

theorem start0 (c : Dev nD) : W1 m c (Proc.devRef .tc main_v10_2) = counter 0 := by
  unfold W1
  simp only [StableHlo.afterL_cons, StableHlo.afterL_nil]
  unfold preB
  after_reads_simp
  rfl

theorem start1 (c : Dev nD) : W3 m c (Proc.devRef .tc main_v13_1) = counter 0 := by
  unfold W3
  simp only [StableHlo.afterL_cons, StableHlo.afterL_nil]
  unfold midOps
  after_reads_simp
  rfl

/-! ## The arguments -/

/-- The arguments: no operation writes them. -/
abbrev argRefs : List (Ref sig .tc) := [main_arg0, main_arg1, main_arg2, main_arg3]

theorem cond0_args : ∀ r ∈ argRefs, r ∉ cond0_wr := by decide
theorem cond1_args : ∀ r ∈ argRefs, r ∉ cond1_wr := by decide

theorem body0_args (V : Valuation τ sig (Elt F)) (r : Ref sig .tc) (hr : r ∈ argRefs) : afterL body0I V (Proc.devRef .tc r) = V (Proc.devRef .tc r) := by
  simp only [StableHlo.afterL_cons, StableHlo.afterL_nil]
  rw [nextOps_keep _ (by revert r; decide), keepOps_keep _ (by revert r; decide), maxOps_keep _ (by revert r; decide), bestOps_keep _ (by revert r; decide), sumOps_keep _ (by revert r; decide), rowOps_keep _ (by revert r; decide)]

theorem body1_args (V : Valuation τ sig (Elt F)) (r : Ref sig .tc) (hr : r ∈ argRefs) : afterL body1I V (Proc.devRef .tc r) = V (Proc.devRef .tc r) := by
  simp only [StableHlo.afterL_cons, StableHlo.afterL_nil]
  rw [nextOps1_keep _ (by revert r; decide), storeOps_keep _ (by revert r; decide), flatOps_keep _ (by revert r; decide), alongOps_keep _ (by revert r; decide), colOps_keep _ (by revert r; decide), ptrRowOps_keep _ (by revert r; decide), countOps_keep _ (by revert r; decide)]

theorem W1_args (c : Dev nD) (r : Ref sig .tc) (hr : r ∈ argRefs) : W1 m c (Proc.devRef .tc r) = m ((c.tc : Thread nD τ).loc r) := by
  unfold W1
  simp only [StableHlo.afterL_cons, StableHlo.afterL_nil]
  rw [preB_keep _ (by revert r; decide), takeOps_keep _ (by revert r; decide), preA_keep _ (by revert r; decide)]

theorem W2_args (c : Dev nD) (r : Ref sig .tc) (hr : r ∈ argRefs) : W2 m c (Proc.devRef .tc r) = m ((c.tc : Thread nD τ).loc r) := by
  have h : ∀ k, atTrip cond0 body0I (W1 m) k c (Proc.devRef .tc r) = m ((c.tc : Thread nD τ).loc r) := fun k => by
    induction k with
    | zero => exact W1_args m c r hr
    | succ k ih => rw [StableHlo.atTrip_succ, body0_args _ r hr, cond0_keep _ (cond0_args r hr), ih]
  unfold W2
  rw [cond0_keep _ (cond0_args r hr), h]

theorem W3_args (c : Dev nD) (r : Ref sig .tc) (hr : r ∈ argRefs) : W3 m c (Proc.devRef .tc r) = m ((c.tc : Thread nD τ).loc r) := by
  unfold W3
  simp only [StableHlo.afterL_cons, StableHlo.afterL_nil]
  rw [midOps_keep _ (by revert r; decide), lastOps_keep _ (by revert r; decide), W2_args m c r hr]

theorem W4_args (c : Dev nD) (r : Ref sig .tc) (hr : r ∈ argRefs) : W4 m c (Proc.devRef .tc r) = m ((c.tc : Thread nD τ).loc r) := by
  have h : ∀ k, atTrip cond1 body1I (W3 m) k c (Proc.devRef .tc r) = m ((c.tc : Thread nD τ).loc r) := fun k => by
    induction k with
    | zero => exact W3_args m c r hr
    | succ k ih => rw [StableHlo.atTrip_succ, body1_args _ r hr, cond1_keep _ (cond1_args r hr), ih]
  unfold W4
  rw [cond1_keep _ (cond1_args r hr), h]

/-- The arguments end as they began. -/
theorem W5_args (c : Dev nD) (r : Ref sig .tc) (hr : r ∈ argRefs) : W5 m c (Proc.devRef .tc r) = m ((c.tc : Thread nD τ).loc r) := by
  unfold W5
  simp only [StableHlo.afterL_cons, StableHlo.afterL_nil]
  rw [postOps_keep _ (by revert r; decide), W4_args m c r hr]

/-! ## The run -/

abbrev adm : (p : Fin 0) → (pcfgs (F := F) p).Adm := fun p => p.elim0
abbrev tk : Fin 0 → Ticket (Ix := Unit) (Name := ℕ) (U := Option PUnit) (Lvl := ℕ) (nD := nD) (τ := τ) (pcfgs (F := F)) adm := fun j => j.elim0
abbrev noLevel : GSem nD τ sig → Finset Unit := fun _ => ∅
abbrev zeroLevel : GSem nD τ sig → Unit → ℕ := fun _ _ => 0

theorem cell_inj : Function.Injective (Pipeline.cellOf (nD := nD) (τ := τ) (Pipeline.pin (pcfgs (F := F)) adm)) := fun k => k.1.elim0

/-- The program's segments. -/
def segs : List (CSeg (pcfgs (F := F)) adm defs₀ Variants.none noLevel zeroLevel loops tk) :=
  StableHlo.segsOf _ _ _ _ _ _ _ _ Rw preI preI_plain (StableHlo.launchContents m)
    ++ StableHlo.loopSeg _ _ _ _ _ _ _ _ 0 main_while0_cond main_while0_body rfl cond0 body0I body0I_plain body0_eq 511 (W1 m) Rw (test0 (W1 m) (start0 m))
      :: (StableHlo.segsOf _ _ _ _ _ _ _ _ Rw midI midI_plain (W2 m)
        ++ StableHlo.loopSeg _ _ _ _ _ _ _ _ 1 main_while1_cond main_while1_body rfl cond1 body1I body1I_plain body1_eq 511 (W3 m) Rw (test1 (W3 m) (start1 m))
          :: StableHlo.segsOf _ _ _ _ _ _ _ _ Rw postI postI_plain (W4 m))

theorem segs_prog : (segs m).map CSeg.prog = ((preI (F := F)).map fun ops => (StableHlo.seq ops : Prog _ PUnit))
    ++ HostLoop.enter 0 :: (((midI (F := F)).map fun ops => (StableHlo.seq ops : Prog _ PUnit))
    ++ HostLoop.enter 1 :: ((postI (F := F)).map fun ops => (StableHlo.seq ops : Prog _ PUnit))) := by
  unfold segs
  rw [List.map_append, List.map_cons, List.map_append, List.map_cons, StableHlo.segsOf_prog, StableHlo.segsOf_prog, StableHlo.segsOf_prog]
  rfl

theorem segs_chains :
    CSeg.Chains (fun c => iprop(held (c : Thread nD τ) (ucRefs τ sig) (StableHlo.launchContents m c) ∗ Rw c)) (segs m)
      (fun c => iprop(iprop(held (c : Thread nD τ) (ucRefs τ sig) (W5 m c)) ∗ ∃ W, owes (c : Thread nD τ) (0 : CellTallies nD τ sig Unit) W)) := by
  unfold segs
  exact CSeg.Chains.append (StableHlo.segsOf_chains _ _ _ _ _ _ _ _ Rw preI preI_plain _)
    ⟨fun _ => .rfl, CSeg.Chains.append (StableHlo.segsOf_chains _ _ _ _ _ _ _ _ Rw midI midI_plain _)
      ⟨fun _ => .rfl, StableHlo.segsOf_chains _ _ _ _ _ _ _ _ Rw postI postI_plain _⟩⟩

/-- The program has no semaphore. -/
theorem no_sems (g : SemLoc sig) (h : g.isScoped .tc = false) : False := by
  revert g; decide

/-- The reference runs to its end; every array ends at `W5`, and the semaphores at zero. -/
theorem run_all (ρ : Dev nD → PrngReg) :
    θ_run defs (onTc (τ := τ) (main (F := F))) ⟨m, fun _ => 0, ρ⟩ (fun r =>
      (∀ (c : Dev nD) (b : Ref sig .tc), (Proc.devRef .tc b : DevRef τ sig).isScoped = false →
        r.2.mem ((c.tc : Thread nD τ).loc b) = W5 m c (Proc.devRef .tc b)) ∧ r.2.sem = fun _ => 0) :=
  Pipeline.θ_run_regions_loop_kit_sems (Ix := Unit) (Name := ℕ) (U := Option PUnit) (Lvl := ℕ) (J := Fin 0) (P := Fin 0) (Val := Elt F)
    (pcfgs (F := F)) adm cell_inj defs₀ Variants.none noLevel zeroLevel loops tk m ρ main
    (segs m)
    (fun c Q => by
      unfold Pipeline.CSeg.runL
      rw [main_eq c, segs_prog])
    (Pipeline.CSeg.pairwise_disjoint_of_T_empty _ fun s _ => Finset.eq_empty_of_isEmpty s.T)
    (O₀ := 0) (hL := fun _ _ => rfl) (G := fun _ => iprop(emp)) (u₀ := 1)
    (hu₀ := by
      iintro -
      imodintro
      isplitl []
      · rw [Finset.univ_eq_empty, BI.bigSep_empty]; iempintro
      · iapply (show (BI.emp : sProp 𝕄) ⊢ bigSep Finset.univ (fun _ : Dev nD => (BI.emp : sProp 𝕄)) from by rw [BI.bigSep_emp_const])
        iempintro)
    (T₀ := fun c => iprop(held (c : Thread nD τ) (ucRefs τ sig) (StableHlo.launchContents m c) ∗ Rw c))
    (Tₙ := fun c => iprop(held (c : Thread nD τ) (ucRefs τ sig) (W5 m c)))
    (hch := segs_chains m)
    (hinit := by
      refine Pipeline.initEach noLevel zeroLevel fun c => ?_
      rw [show unscopedBufs c (fun b => m ((c : Thread nD τ).loc b)) = held (c : Thread nD τ) (ucRefs τ sig) (StableHlo.launchContents m c) from Pipeline.unscopedBufs_held c (StableHlo.launchContents m c)]
      iintro ⟨⟨Hh, -, HO, -, -, -⟩, -⟩
      imodintro
      isplitl [Hh]; · iexact Hh
      iexists ∅; iexact HO)
    (QY := fun c s => ∀ b ∈ ucRefs τ sig, s.mem ((c : Dev nD), b) = W5 m c b)
    (hfin := fun c s' => by
      unfold held
      iintro ⟨Hh, HSI⟩
      ihave Hr := (pointsTo_read_all (ucRefs τ sig) (fun b => ((c : Dev nD), b)) (fun b => W5 m c b) s') $$ [Hh HSI]
      · isplitl [Hh] <;> iassumption
      icases Hr with ⟨%h, HSI⟩
      imodintro
      isplitr; · ipureintro; exact h
      iexact HSI)
    (hQ := fun _ h hz => ⟨fun c b hb => h c _ (StableHlo.devRef_mem_ucRefs b hb),
      funext fun g => hz g (by
        by_cases hg : g.2.isScoped .tc = true
        · exact .inr hg
        · exact (no_sems g.2 (by simpa using hg)).elim)⟩)

/-- The reference runs to its end, gives `W5`'s result, and leaves its arguments as they were and its semaphores at zero. -/
theorem run (ρ : Dev nD → PrngReg) :
    θ_run defs (onTc (τ := τ) (main (F := F))) ⟨m, fun _ => 0, ρ⟩ (fun r => (∀ c : Dev nD,
      r.2.mem ((c.tc : Thread nD τ).loc main_v16) = W5 m c (Proc.devRef .tc main_v16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_mono (run_all m ρ) fun r h => ⟨fun c => ⟨h.1 c main_v16 rfl,
    (h.1 c main_arg0 rfl).trans (W5_args m c _ (by decide)), (h.1 c main_arg1 rfl).trans (W5_args m c _ (by decide)),
    (h.1 c main_arg2 rfl).trans (W5_args m c _ (by decide)), (h.1 c main_arg3 rfl).trans (W5_args m c _ (by decide))⟩, h.2⟩

end Cert.ReferenceIdeal.Hand

end
-- ==== Proof.Spec.Best.lean ====
/-
  The decoding both programs compute, in plain terms, over the extended reals.

  A sequence has, at each time step and for each state, an emission score. The score of ending in a state is the best score of
  a way there; the best last state starts the path, and each earlier state is the best one to come from. Where several states
  are equally good, the first is taken.
-/
module

public import Idealize.ShloMosaic.PureOps.Ideal.Laws

@[expose] public section

noncomputable section

namespace Cert.Spec

/-! ## The first best state -/

/-- No state scores above state `i`, and none before it scores the same. -/
def IsBest (f : Fin 512 → EReal) (i : Fin 512) : Prop := (∀ k, f k ≤ f i) ∧ ∀ k, f k = f i → i ≤ k

theorem exists_best (f : Fin 512 → EReal) : ∃ i, IsBest f i := by
  obtain ⟨m, hm⟩ := Finite.exists_max f
  have hne : (Finset.univ.filter fun i => f i = f m).Nonempty := ⟨m, by simp⟩
  obtain ⟨i, hi, hl⟩ := Finset.exists_min_image _ id hne
  have e : f i = f m := (Finset.mem_filter.1 hi).2
  refine ⟨i, fun k => e ▸ hm k, fun k hk => hl k (Finset.mem_filter.2 ⟨Finset.mem_univ _, hk.trans e⟩)⟩

/-- The first best state. -/
def best (f : Fin 512 → EReal) : Fin 512 := (exists_best f).choose

theorem best_spec (f : Fin 512 → EReal) : IsBest f (best f) := (exists_best f).choose_spec

theorem le_best (f : Fin 512 → EReal) (k : Fin 512) : f k ≤ f (best f) := (best_spec f).1 k

/-- A state that is the first best one is `best`. -/
theorem IsBest.eq {f : Fin 512 → EReal} {i : Fin 512} (h : IsBest f i) : i = best f := by
  have e : f i = f (best f) := le_antisymm (le_best f i) (h.1 _)
  exact le_antisymm (h.2 _ e.symm) ((best_spec f).2 _ e)

/-- The best score. -/
def top (f : Fin 512 → EReal) : EReal := f (best f)

/-- A score no smaller than the others, and one of them, is the best. -/
theorem top_eq {f : Fin 512 → EReal} {v : EReal} (h : ∀ k, f k ≤ v) (hv : ∃ k, v ≤ f k) : v = top f := by
  obtain ⟨k, hk⟩ := hv
  exact le_antisymm (hk.trans (le_best f k)) (h _)

/-- The best score is the fold of `max` from `⊥`. -/
theorem fold_max_eq_top {ι : Type} (S : Finset ι) (x : ι → EReal) (L : Fin 512 → ι) (f : Fin 512 → EReal)
    (hL : ∀ k, L k ∈ S) (hS : ∀ i ∈ S, ∃ k, i = L k) (hf : ∀ k, x (L k) = f k) : S.fold max ⊥ x = top f := by
  refine top_eq (fun k => ?_) ⟨best f, ?_⟩
  · rw [← hf k]; exact (Finset.le_fold_max _).2 (.inr ⟨_, hL k, le_refl _⟩)
  · refine (Finset.fold_max_le _).2 ⟨bot_le, fun i hi => ?_⟩
    obtain ⟨k, rfl⟩ := hS i hi
    rw [hf k]; exact le_best f k

/-! ## The scores and the path of one sequence -/

section

variable (sp : Fin 512 → EReal) (tr : Fin 512 → Fin 512 → EReal) (e : Nat → Fin 512 → EReal)

/-- The best score of a way ending in state `s` at time `t`. -/
def score : Nat → Fin 512 → EReal
  | 0 => fun s => sp s + e 0 s
  | t + 1 => fun s => top (fun i => score t i + tr i s) + e (t + 1) s

/-- The best state at time `t`, the state at the next time being `s`. -/
def back (t : Nat) (s : Fin 512) : Fin 512 := best fun i => score sp tr e t i + tr i s

/-- The state `j` steps before the last. -/
def walk : Nat → Fin 512
  | 0 => best (score sp tr e 511)
  | j + 1 => back sp tr e (511 - (j + 1)) (walk j)

end

/-! ## States and symbols as words -/

/-- A state's word. -/
abbrev word (i : Fin 512) : BitVec 32 := BitVec.ofNat 32 i.val

theorem word_inj {i k : Fin 512} (h : word i = word k) : i = k := by
  have := congrArg BitVec.toNat h
  simp only [BitVec.toNat_ofNat] at this
  have := i.isLt; have := k.isLt
  exact Fin.ext (by omega)

theorem word_toInt (i : Fin 512) : (word i).toInt = i.val := by
  have := i.isLt
  rw [BitVec.toInt_eq_toNat_of_lt] <;> simp only [BitVec.toNat_ofNat] <;> omega

/-- The symbol a word names. -/
def symOf (w : BitVec 32) : Fin 2048 := ⟨w.toNat % 2048, Nat.mod_lt _ (by decide)⟩

theorem symOf_of_lt {w : BitVec 32} (h : w.toNat < 2048) : symOf w = ⟨w.toNat, h⟩ := Fin.ext (Nat.mod_eq_of_lt h)

/-! ## The paths of all the sequences -/

section

variable (obs : Fin 64 → Fin 512 → BitVec 32) (sp : Fin 512 → EReal) (tr : Fin 512 → Fin 512 → EReal) (em : Fin 512 → Fin 2048 → EReal)

/-- Sequence `b`'s emission scores: at each time, each state's score for the symbol observed. -/
def emis (b : Fin 64) (t : Nat) (s : Fin 512) : EReal := if h : t < 512 then em s (symOf (obs b ⟨t, h⟩)) else 0

/-- Sequence `b`'s state at time `t`, as a word. -/
def path (b : Fin 64) (t : Fin 512) : BitVec 32 := word (walk sp tr (emis obs em b) (511 - t.val))

end

end Cert.Spec

end
-- ==== Proof.Ideal.BestOf.lean ====
/-
  The kernel's choice of a state, over the extended reals: the least column holding the row's maximum is the first best state.
-/
module

public import proofs.«01_k».proof.Proof.Ideal.BwdBody
public import proofs.«01_k».proof.Proof.Spec.Best
public import Idealize.ShloMosaic.Lib.ValueIdx
public import Idealize.ShloMosaic.Lib.ValueLayout
public import Idealize.ShloMosaic.Lib.ValueLayoutCasts
public import Idealize.ShloMosaic.Lib.Pointwise

@[expose] public section

noncomputable section

namespace Cert.KernelIdeal.Hand

open Idealize.ShloMosaic hiding ix1 ix2 ix3 eq_ix2
open Idealize.ShloMosaic.ValueIdx Cert.KernelIdeal.Gen Cert.Spec

/-- The word of minus infinity. -/
theorem ofBits_bot : Ideal.ofBits .f32 0xFF800000#32 = ⊥ := by simp [Ideal.ofBits, Ideal.ieee]

/-- The word of plus infinity. -/
theorem ofBits_top : Ideal.ofBits .f32 0x7F800000#32 = ⊤ := by simp [Ideal.ofBits, Ideal.ieee]

/-- The word of 512. -/
theorem ofBits_512 : Ideal.ofBits .f32 0x44000000#32 = ((512 : ℝ) : EReal) := by
  simp [Ideal.ofBits, Ideal.ieee]
  rw [← EReal.coe_mul]
  norm_num

/-- The real of a column number, as a word again. -/
theorem fptosi_col (k : Fin 512) : Ideal.fptosi 32 (((k.val : ℝ)) : EReal) = word k := by
  have hk := k.isLt
  have e : Ideal.toIntClamped (-(2 ^ 31 : Nat)) ((2 ^ 31 : Nat) - 1) (((k.val : ℝ)) : EReal) = k.val := by
    show max _ (min _ (if (0 : ℝ) ≤ (k.val : ℝ) then ⌊(k.val : ℝ)⌋ else ⌈(k.val : ℝ)⌉)) = _
    rw [if_pos (Nat.cast_nonneg _), Int.floor_natCast]
    omega
  unfold Ideal.fptosi
  rw [e]
  exact BitVec.ofInt_natCast ..

/-- The indices that reduce to row `b` are the columns of that row. -/
theorem drop_row (b : Fin 64) (i : S64x512.Idx) : (reduces_S64x512_S64.drop i = (ix1 b : S64.Idx)) ↔ ∃ k : Fin 512, i = ix2 b k := by
  constructor
  · intro h
    refine ⟨i 1, ?_⟩
    have := congrArg (fun j : S64.Idx => (j 0).val) h
    have h0 : (i 0).val = b.val := (reduces_S64x512_S64.drop_apply_val_of_eq i 0 0).symm.trans this
    exact (eq_ix2 i).trans (congrArg (fun z : Fin 64 => (ix2 z (i 1) : S64x512.Idx)) (Fin.ext h0))
  · rintro ⟨k, rfl⟩
    funext a
    match a with
    | ⟨0, _⟩ => exact Fin.ext (reduces_S64x512_S64.drop_apply_val_of_eq (ix2 b k : S64x512.Idx) 0 0)

/-- A row's maximum is its best score. -/
theorem rowMax_eq (x : FVec Ideal S64x512 .f32) (b : Fin 64) :
    multiReduction (F := Ideal) .maximumf [1] S64 x 0xFF800000#32 reduces_S64x512_S64 (.inl rfl) rfl (ix1 b) = top fun k => x (ix2 b k) := by
  refine (multiReduction_maximumf_eq_fold x 0xFF800000#32 reduces_S64x512_S64 (.inl rfl) rfl _).trans ?_
  rw [Ideal.ofBits_def, ofBits_bot]
  exact fold_max_eq_top _ x (fun k => ix2 b k) _ (fun k => Finset.mem_filter.2 ⟨Finset.mem_univ _, (drop_row b _).2 ⟨k, rfl⟩⟩)
    (fun i hi => (drop_row b i).1 (Finset.mem_filter.1 hi).2) fun k => rfl

/-- The least of the columns holding the best score, the others counted as 512. -/
theorem rowMin_eq (g : FVec Ideal S64x512 .f32) (b : Fin 64) (f : Fin 512 → EReal)
    (hg : ∀ k : Fin 512, g (ix2 b k) = if f k = top f then ((k.val : ℝ) : EReal) else ((512 : ℝ) : EReal)) :
    multiReduction (F := Ideal) .minimumf [1] S64 g 0x7F800000#32 reduces_S64x512_S64 (.inl rfl) rfl (ix1 b) = (((best f).val : ℝ) : EReal) := by
  refine (multiReduction_minimumf_eq_fold g 0x7F800000#32 reduces_S64x512_S64 (.inl rfl) rfl _).trans ?_
  rw [Ideal.ofBits_def, ofBits_top]
  refine le_antisymm ((Finset.fold_min_le _).2 (.inr ⟨ix2 b (best f), Finset.mem_filter.2 ⟨Finset.mem_univ _, (drop_row b _).2 ⟨_, rfl⟩⟩, ?_⟩))
    ((Finset.le_fold_min _).2 ⟨le_top, fun i hi => ?_⟩)
  · rw [hg, if_pos (show f (best f) = top f from rfl)]
  · obtain ⟨k, rfl⟩ := (drop_row b i).1 (Finset.mem_filter.1 hi).2
    rw [hg]
    split
    · rename_i h
      have := Fin.le_def.1 ((best_spec f).2 k h)
      exact EReal.coe_le_coe_iff.2 (Nat.cast_le.2 this)
    · have := (best f).isLt
      exact EReal.coe_le_coe_iff.2 (by
        have h2 : ((best f).val : ℝ) ≤ ((512 : ℕ) : ℝ) := Nat.cast_le.2 this.le
        simpa using h2)

/-- A row's maximum, along the row. -/
def maxAlong (x : FVec Ideal S64x512 .f32) : FVec Ideal S64x512 .f32 :=
  broadcastTo S64x512 (shapeCast S64x1 (multiReduction (F := Ideal) .maximumf [1] S64 x 0xFF800000#32 reduces_S64x512_S64 (.inl rfl) rfl) shapeCasts_S64_S64x1)
    broadcasts_S64x1_S64x512

theorem maxAlong_apply (x : FVec Ideal S64x512 .f32) (b : Fin 64) (k : Fin 512) : maxAlong x (ix2 b k) = top fun k => x (ix2 b k) := by
  refine Eq.trans ?_ (rowMax_eq x b)
  refine Eq.trans ?_ (shapeCast_a_a1_apply _ shapeCasts_S64_S64x1 b 0)
  refine congrArg (shapeCast S64x1 _ _) (funext fun a => ?_)
  match a with
  | ⟨0, _⟩ => rfl
  | ⟨1, _⟩ => rfl

/-- The columns holding the row's maximum, the others counted as 512. -/
def colsOf (x : FVec Ideal S64x512 .f32) : FVec Ideal S64x512 .f32 :=
  select (cmpf .oeq x (maxAlong x)) (sitofp .f32 (iota .tc S64x512 32 [1] iota_S64x512_d1_w32)) (broadcast S64x512 (Scalar.ofBits (F := Ideal) .f32 0x44000000#32))

theorem colsOf_apply (x : FVec Ideal S64x512 .f32) (b : Fin 64) (k : Fin 512) :
    colsOf x (ix2 b k) = if x (ix2 b k) = top (fun k => x (ix2 b k)) then ((k.val : ℝ) : EReal) else ((512 : ℝ) : EReal) := by
  have e : colsOf x (ix2 b k) = Scalar.select (Ideal.cmp .oeq (x (ix2 b k)) (maxAlong x (ix2 b k))) (((iota .tc S64x512 32 [1] iota_S64x512_d1_w32 (ix2 b k)).toInt : ℝ) : EReal)
      (Ideal.ofBits .f32 0x44000000#32) := rfl
  have hi : iota .tc S64x512 32 [1] iota_S64x512_d1_w32 (ix2 b k) = word k := by pointwise
  rw [e, maxAlong_apply, hi, ofBits_512, word_toInt]
  unfold Scalar.select Ideal.cmp
  by_cases h : x (ix2 b k) = top fun k => x (ix2 b k)
  · simp [h]
  · simp [h]

/-- The first best column of row `b`. -/
theorem bestOf_apply (x : FVec Ideal S64x512 .f32) (b : Fin 64) (u : Fin 1) :
    bestOf x (ix2 b u) = word (best fun k => x (ix2 b k)) := by
  refine Eq.trans (congrArg (Ideal.fptosi 32) ?_) (fptosi_col _)
  refine (shapeCast_a_a1_apply _ shapeCasts_S64_S64x1 b u).trans ?_
  exact rowMin_eq (colsOf x) b _ (colsOf_apply x b)

end Cert.KernelIdeal.Hand

end
-- ==== Proof.Ideal.Gather.lean ====
/-
  The kernel's gathers, over the extended reals: one-hot rows times a table pick the table's rows, and the three parts of a
  table of real numbers add up to the table.
-/
module

public import proofs.«01_k».proof.Proof.Ideal.BestOf
public import proofs.«01_k».proof.Proof.Ideal.FwdBody

@[expose] public section

noncomputable section

namespace Cert.KernelIdeal.Hand

open Idealize.ShloMosaic hiding ix1 ix2 ix3 eq_ix2
open Idealize.ShloMosaic.ValueIdx Cert.KernelIdeal.Gen Cert.Spec

/-- The bit of an equality of words, as a number. -/
theorem onehot_val (a w : BitVec 32) :
    ((((BitVec.setWidth 32 (IntOp.cmpi .eq a w)).toInt : ℝ)) : EReal) = if a = w then 1 else 0 := by
  by_cases h : a = w
  · simp [h, IntOp.cmpi]
  · have e : (a == w) = false := by simpa using h
    simp [h, IntOp.cmpi, e]

/-- The one-hot rows of the symbols. -/
theorem oneHotE_apply (o : IVec S64x1 32) (b : Fin 64) (k : Fin 2048) :
    oneHotE (F := Ideal) o (ix2 b k) = if BitVec.ofNat 32 k.val = o (ix2 b 0) then (1 : EReal) else 0 := by
  refine Eq.trans ?_ (onehot_val (BitVec.ofNat 32 k.val) (o (ix2 b 0)))
  have h1 : iota .tc S64x2048 32 [1] iota_S64x2048_d1_w32 (ix2 b k) = BitVec.ofNat 32 k.val := by pointwise
  have h2 : broadcastTo S64x2048 o broadcasts_S64x1_S64x2048 (ix2 b k) = o (ix2 b 0) := by
    pointwise
    refine congrArg o (funext fun a => ?_)
    match a with
    | ⟨0, _⟩ => rfl
    | ⟨1, _⟩ => rfl
  rw [← h1, ← h2]
  rfl

/-- The one-hot rows of the states. -/
theorem oneHotS_apply (st : IVec S64x1 32) (b : Fin 64) (k : Fin 512) :
    oneHotS (F := Ideal) st (ix2 b k) = if word k = st (ix2 b 0) then (1 : EReal) else 0 := by
  refine Eq.trans ?_ (onehot_val (word k) (st (ix2 b 0)))
  have h1 : iota .tc S64x512 32 [1] iota_S64x512_d1_w32 (ix2 b k) = word k := by pointwise
  have h2 : broadcastTo S64x512 st broadcasts_S64x1_S64x512 (ix2 b k) = st (ix2 b 0) := by
    pointwise
    refine congrArg st (funext fun a => ?_)
    match a with
    | ⟨0, _⟩ => rfl
    | ⟨1, _⟩ => rfl
  rw [← h1, ← h2]
  rfl

/-- One row of the symbols' product: a sum over the symbols. -/
theorem dotE_apply (l : FVec Ideal S64x2048 .bf16) (r : FVec Ideal S2048x512 .bf16) (b : Fin 64) (s : Fin 512) :
    matmul dot_S64x2048_S2048x512_S64x512_1_0_0_1_n_n none l (shapeCast S2048x512 r shapeCasts_S2048x512_S2048x512) (constant S64x512 .f32 0x00000000#32) (ix2 b s)
      = ∑ k : Fin 2048, l (ix2 b k) * r (ix2 k s) := by
  refine (Ideal.matmul_constant_zero_apply dot_S64x2048_S2048x512_S64x512_1_0_0_1_n_n none l (shapeCast S2048x512 r shapeCasts_S2048x512_S2048x512) _).trans ?_
  rw [shapeCast_self]
  let E := contrEquiv1 dot_S64x2048_S2048x512_S64x512_1_0_0_1_n_n 2048 rfl rfl
  rw [← Equiv.sum_comp E.symm]
  refine Finset.sum_congr rfl fun k _ => ?_
  congr 1
  · refine congrArg l (funext fun a => ?_)
    match a with
    | ⟨0, _⟩ => exact Fin.ext rfl
    | ⟨1, _⟩ => exact Fin.ext rfl
  · refine congrArg r (funext fun a => ?_)
    match a with
    | ⟨0, _⟩ => exact Fin.ext rfl
    | ⟨1, _⟩ => exact Fin.ext rfl

/-- One row of the states' product: a sum over the states. -/
theorem dotS_apply (l : FVec Ideal S64x512 .bf16) (r : FVec Ideal S512x512 .bf16) (b : Fin 64) (s : Fin 512) :
    matmul dot_S64x512_S512x512_S64x512_1_0_0_1_n_n none l (shapeCast S512x512 r shapeCasts_S512x512_S512x512) (constant S64x512 .f32 0x00000000#32) (ix2 b s)
      = ∑ k : Fin 512, l (ix2 b k) * r (ix2 k s) := by
  refine (Ideal.matmul_constant_zero_apply dot_S64x512_S512x512_S64x512_1_0_0_1_n_n none l (shapeCast S512x512 r shapeCasts_S512x512_S512x512) _).trans ?_
  rw [shapeCast_self]
  let E := contrEquiv1 dot_S64x512_S512x512_S64x512_1_0_0_1_n_n 512 rfl rfl
  rw [← Equiv.sum_comp E.symm]
  refine Finset.sum_congr rfl fun k _ => ?_
  congr 1
  · refine congrArg l (funext fun a => ?_)
    match a with
    | ⟨0, _⟩ => exact Fin.ext rfl
    | ⟨1, _⟩ => exact Fin.ext rfl
  · refine congrArg r (funext fun a => ?_)
    match a with
    | ⟨0, _⟩ => exact Fin.ext rfl
    | ⟨1, _⟩ => exact Fin.ext rfl

/-- A sum with one term picked. -/
theorem sum_pick {n : Nat} (p : Fin n) (P : Fin n → Prop) [DecidablePred P] (hP : ∀ k, P k ↔ k = p) (r : Fin n → EReal) :
    ∑ k : Fin n, (if P k then (1 : EReal) else 0) * r k = r p := by
  rw [Finset.sum_eq_single p]
  · rw [if_pos ((hP p).2 rfl), one_mul]
  · intro k _ hk
    rw [if_neg fun h => hk ((hP k).1 h), zero_mul]
  · exact fun h => absurd (Finset.mem_univ p) h

/-- A symbol's word is equal to another only at its own number. -/
theorem sym_iff (w : BitVec 32) (hw : w.toNat < 2048) (k : Fin 2048) : BitVec.ofNat 32 k.val = w ↔ k = ⟨w.toNat, hw⟩ := by
  constructor
  · rintro rfl
    refine Fin.ext ?_
    have := k.isLt
    simp only [BitVec.toNat_ofNat]
    omega
  · rintro rfl
    simp

/-- The emission scores of a sequence's symbol, its table in three parts of which the last two are zero. -/
theorem emitOf_apply (o : IVec S1x64 32) (hi mid lo : FVec Ideal S2048x512 .bf16) (hm : ∀ y, mid y = (0 : EReal)) (hl : ∀ y, lo y = (0 : EReal))
    (b : Fin 64) (s : Fin 512) (hw : (o (ix2 0 b)).toNat < 2048) :
    emitOf o hi mid lo (ix2 b s) = hi (ix2 ⟨(o (ix2 0 b)).toNat, hw⟩ s) := by
  have e : emitOf o hi mid lo (ix2 b s)
      = (matmul dot_S64x2048_S2048x512_S64x512_1_0_0_1_n_n none (oneHotE (transpose S64x1 [1, 0] o transposes_S1x64_p1_0_S64x1)) (shapeCast S2048x512 hi shapeCasts_S2048x512_S2048x512) (constant S64x512 .f32 0x00000000#32) (ix2 b s)
        + matmul dot_S64x2048_S2048x512_S64x512_1_0_0_1_n_n none (oneHotE (transpose S64x1 [1, 0] o transposes_S1x64_p1_0_S64x1)) (shapeCast S2048x512 mid shapeCasts_S2048x512_S2048x512) (constant S64x512 .f32 0x00000000#32) (ix2 b s))
        + matmul dot_S64x2048_S2048x512_S64x512_1_0_0_1_n_n none (oneHotE (transpose S64x1 [1, 0] o transposes_S1x64_p1_0_S64x1)) (shapeCast S2048x512 lo shapeCasts_S2048x512_S2048x512) (constant S64x512 .f32 0x00000000#32) (ix2 b s) := rfl
  rw [e, dotE_apply, dotE_apply, dotE_apply]
  have ht : transpose S64x1 [1, 0] o transposes_S1x64_p1_0_S64x1 (ix2 b 0) = o (ix2 0 b) := transpose_ix2_apply o _ _ _
  simp only [hm, hl, mul_zero, Finset.sum_const_zero, add_zero, oneHotE_apply, ht]
  exact sum_pick ⟨(o (ix2 0 b)).toNat, hw⟩ _ (sym_iff _ hw) fun k => hi (ix2 k s)

/-- The row of a state in a table in three parts of which the last two are zero. -/
theorem gatherOf_apply (st : IVec S64x1 32) (hi mid lo : FVec Ideal S512x512 .bf16) (hm : ∀ y, mid y = (0 : EReal)) (hl : ∀ y, lo y = (0 : EReal))
    (b : Fin 64) (s : Fin 512) (p : Fin 512) (hp : st (ix2 b 0) = word p) :
    gatherOf st hi mid lo (ix2 b s) = hi (ix2 p s) := by
  have e : gatherOf st hi mid lo (ix2 b s)
      = (matmul dot_S64x512_S512x512_S64x512_1_0_0_1_n_n none (oneHotS st) (shapeCast S512x512 hi shapeCasts_S512x512_S512x512) (constant S64x512 .f32 0x00000000#32) (ix2 b s)
        + matmul dot_S64x512_S512x512_S64x512_1_0_0_1_n_n none (oneHotS st) (shapeCast S512x512 mid shapeCasts_S512x512_S512x512) (constant S64x512 .f32 0x00000000#32) (ix2 b s))
        + matmul dot_S64x512_S512x512_S64x512_1_0_0_1_n_n none (oneHotS st) (shapeCast S512x512 lo shapeCasts_S512x512_S512x512) (constant S64x512 .f32 0x00000000#32) (ix2 b s) := rfl
  rw [e, dotS_apply, dotS_apply, dotS_apply]
  simp only [hm, hl, mul_zero, Finset.sum_const_zero, add_zero, oneHotS_apply, hp]
  exact sum_pick p _ (fun k => ⟨word_inj, fun h => h ▸ rfl⟩) fun k => hi (ix2 k s)

end Cert.KernelIdeal.Hand

end
-- ==== Proof.Ideal.Value.lean ====
/-
  The two calls' sequences, over the extended reals: the scores and the states of the decoding.
-/
module

public import proofs.«01_k».proof.Proof.Ideal.Gather
public import proofs.«01_k».proof.Proof.Ideal.Blocks

@[expose] public section

noncomputable section

namespace Cert.KernelIdeal.Hand

open Idealize.ShloMosaic hiding ix1 ix2 ix3 eq_ix2
open Idealize.ShloMosaic.ValueIdx Cert.KernelIdeal.Gen Cert.Spec

/-! ## One step of the forward call -/

/-- The score of arriving in a state from state `i`. -/
theorem cand_apply (v : FVec Ideal S64x512 .f32) (t : FVec Ideal S512x512 .f32) (i : Nat) (hi : i < 512) (b : Fin 64) (s : Fin 512) :
    cand v t i hi (ix2 b s) = (v (ix2 b ⟨i, hi⟩) + t (ix2 ⟨i, hi⟩ s) : EReal) := by
  have e : cand v t i hi (ix2 b s) = (broadcastTo S64x512 (extractStridedSlice S64x1 ![0, i] v (slices_col i hi)) broadcasts_S64x1_S64x512 (ix2 b s)
    + broadcastTo S64x512 (extractStridedSlice S1x512 ![i, 0] t (slices_row i hi)) broadcasts_S1x512_S64x512 (ix2 b s) : EReal) := rfl
  rw [e]
  congr 1
  · refine congrArg v (funext fun a => ?_)
    match a with
    | ⟨0, _⟩ => exact Fin.ext (Nat.zero_add _)
    | ⟨1, _⟩ => exact Fin.ext (Nat.add_zero _)
  · refine congrArg t (funext fun a => ?_)
    match a with
    | ⟨0, _⟩ => exact Fin.ext (Nat.add_zero _)
    | ⟨1, _⟩ => exact Fin.ext (Nat.zero_add _)

/-- The running maximum is no smaller than what it has seen, and is one of them. -/
theorem accTo_spec (v : FVec Ideal S64x512 .f32) (t : FVec Ideal S512x512 .f32) (b : Fin 64) (s : Fin 512) (n : Nat) (hn : n < 512) :
    (∀ k : Fin 512, k.val ≤ n → (v (ix2 b k) + t (ix2 k s) : EReal) ≤ accTo v t n hn (ix2 b s))
      ∧ ∃ k : Fin 512, (accTo v t n hn (ix2 b s) : EReal) ≤ v (ix2 b k) + t (ix2 k s) := by
  induction n with
  | zero =>
    have e : accTo v t 0 hn (ix2 b s) = (v (ix2 b ⟨0, hn⟩) + t (ix2 ⟨0, hn⟩ s) : EReal) := cand_apply v t 0 hn b s
    rw [e]
    refine ⟨fun k hk => ?_, ⟨0, hn⟩, le_refl _⟩
    rw [show k = ⟨0, hn⟩ from Fin.ext (by simpa using hk)]
  | succ n ih =>
    obtain ⟨h1, k0, h2⟩ := ih (Nat.lt_of_succ_lt hn)
    have e : accTo v t (n + 1) hn (ix2 b s)
        = max (accTo v t n (Nat.lt_of_succ_lt hn) (ix2 b s) : EReal) (v (ix2 b ⟨n + 1, hn⟩) + t (ix2 ⟨n + 1, hn⟩ s)) :=
      congrArg (max (accTo v t n (Nat.lt_of_succ_lt hn) (ix2 b s) : EReal)) (cand_apply v t (n + 1) hn b s)
    rw [e]
    refine ⟨fun k hk => ?_, ?_⟩
    · rcases Nat.lt_or_ge k.val (n + 1) with h | h
      · exact le_max_of_le_left (h1 k (Nat.lt_succ_iff.1 h))
      · rw [show k = ⟨n + 1, hn⟩ from Fin.ext (by show k.val = n + 1; omega)]
        exact le_max_right _ _
    · rcases le_total (accTo v t n (Nat.lt_of_succ_lt hn) (ix2 b s) : EReal) (v (ix2 b ⟨n + 1, hn⟩) + t (ix2 ⟨n + 1, hn⟩ s)) with h | h
      · exact ⟨_, (max_eq_right h).le⟩
      · exact ⟨k0, (max_eq_left h).le.trans h2⟩

/-- Over all the states the running maximum is the best score. -/
theorem accTo_top (v : FVec Ideal S64x512 .f32) (t : FVec Ideal S512x512 .f32) (b : Fin 64) (s : Fin 512) (hn : 511 < 512) :
    accTo v t 511 hn (ix2 b s) = top fun k => (v (ix2 b k) + t (ix2 k s) : EReal) := by
  obtain ⟨h1, h2⟩ := accTo_spec v t b s 511 hn
  exact top_eq (fun k => h1 k (by have := k.isLt; omega)) h2

theorem stepOf_apply (v : FVec Ideal S64x512 .f32) (t : FVec Ideal S512x512 .f32) (e : FVec Ideal S64x512 .f32) (b : Fin 64) (s : Fin 512) :
    stepOf v t e (ix2 b s) = (top (fun k => (v (ix2 b k) + t (ix2 k s) : EReal)) + e (ix2 b s) : EReal) := by
  unfold stepOf
  rw [shapeCast_self]
  exact congrArg (· + (e (ix2 b s) : EReal)) (accTo_top v t b s _)

theorem startOf_apply (s : FVec Ideal S1x512 .f32) (e : FVec Ideal S64x512 .f32) (b : Fin 64) (i : Fin 512) :
    startOf s e (ix2 b i) = (s (ix2 0 i) + e (ix2 b i) : EReal) := by
  unfold startOf
  rw [shapeCast_self, shapeCast_self]
  refine congrArg (· + (e (ix2 b i) : EReal)) (congrArg s (funext fun a => ?_))
  match a with
  | ⟨0, _⟩ => rfl
  | ⟨1, _⟩ => rfl

/-! ## The sequences -/

section

variable (obs : Fin 64 → Fin 512 → BitVec 32) (sp : Fin 512 → EReal) (tr : Fin 512 → Fin 512 → EReal) (em : Fin 512 → Fin 2048 → EReal)
variable (hobs : ∀ b t, (obs b t).toNat < 2048)

section
variable (o : IVec S512x1x64 32) (s : FVec Ideal S1x512 .f32) (t : FVec Ideal S512x512 .f32) (hi mid lo : FVec Ideal S2048x512 .bf16)
variable (ho : ∀ k b, o (ix3 k 0 b) = obs b k) (hs : ∀ i, s (ix2 0 i) = sp i) (ht : ∀ i j, t (ix2 i j) = tr i j)
variable (hh : ∀ k i, hi (ix2 k i) = em i k) (hm : ∀ y, mid y = (0 : EReal)) (hl : ∀ y, lo y = (0 : EReal))

include hobs ho hh hm hl in
theorem emit_eq (k : Nat) (hk : k < 512) (b : Fin 64) (i : Fin 512) :
    emitOf (symAt o k hk) hi mid lo (ix2 b i) = emis obs em b k i := by
  have e : symAt o k hk (ix2 0 b) = obs b ⟨k, hk⟩ := ho _ _
  rw [emitOf_apply _ hi mid lo hm hl b i (by rw [e]; exact hobs _ _), hh]
  unfold emis
  rw [dif_pos hk, symOf_of_lt (hobs _ _)]
  exact congrArg (em i) (Fin.ext (congrArg BitVec.toNat e))

include hobs ho hs ht hh hm hl in
/-- The forward call's rows are the scores. -/
theorem alpha_eq (k : Nat) (hk : k < 512) (b : Fin 64) (i : Fin 512) :
    alpha o s t hi mid lo k hk (ix2 b i) = score sp tr (emis obs em b) k i := by
  induction k generalizing i with
  | zero =>
    unfold alpha
    rw [startOf_apply, hs, emit_eq obs em hobs o hi mid lo ho hh hm hl]
    rfl
  | succ k ih =>
    unfold alpha
    rw [stepOf_apply, emit_eq obs em hobs o hi mid lo ho hh hm hl]
    simp only [ih (Nat.lt_of_succ_lt hk), ht]
    rfl

end

section
variable (A : FVec Ideal S512x64x512 .f32) (hi mid lo : FVec Ideal S512x512 .bf16) (e : Fin 64 → Nat → Fin 512 → EReal)
variable (hA : ∀ k : Fin 512, ∀ b i, A (ix3 k b i) = score sp tr (e b) k.val i)
variable (hh : ∀ k i, hi (ix2 k i) = tr i k) (hm : ∀ y, mid y = (0 : EReal)) (hl : ∀ y, lo y = (0 : EReal))

theorem rowOf_apply (v : FVec Ideal S1x64x512 .f32) (b : Fin 64) (i : Fin 512) : rowOf v (ix2 b i) = v (ix3 0 b i) :=
  shapeCast_1ab_ab_apply v _ b i

include hA hh hm hl in
/-- The backward call's states are the path's. -/
theorem sigma_eq (j : Nat) (b : Fin 64) : sigma A hi mid lo j (ix2 b 0) = word (walk sp tr (e b) j) := by
  induction j with
  | zero =>
    unfold sigma lastOf
    rw [shapeCast_self, bestOf_apply]
    refine congrArg word (congrArg best (funext fun i => ?_))
    rw [rowOf_apply]
    exact hA ⟨511, last_lt⟩ b i
  | succ j ih =>
    unfold sigma backOf
    rw [shapeCast_self, bestOf_apply]
    refine congrArg word (congrArg best (funext fun i => ?_))
    show (rowOf (rowAt A (511 - (j + 1)) (back_lt _)) (ix2 b i) + gatherOf (sigma A hi mid lo j) hi mid lo (ix2 b i) : EReal) = _
    rw [rowOf_apply, gatherOf_apply _ hi mid lo hm hl b i _ ih, hh]
    exact congrArg (· + tr i (walk sp tr (e b) j)) (hA ⟨511 - (j + 1), back_lt _⟩ b i)

end

end

end Cert.KernelIdeal.Hand

end
-- ==== Proof.Ideal.Result.lean ====
/-
  The kernel's result, over the extended reals: the path.

  The host's operations lay the arguments out: the symbols by time step, the emission table and the transitions transposed and
  each in three parts. Of real numbers the first part is all, and the other two are zero.
-/
module

public import proofs.«01_k».proof.Proof.Ideal.Value
public import proofs.«01_k».proof.Proof.Ideal.Run
public import Idealize.ShloMosaic.Lib.StableHlo.RunRead

@[expose] public section

noncomputable section

namespace Cert.KernelIdeal.Hand

open Idealize.ShloMosaic hiding ix1 ix2 ix3 eq_ix2
open Idealize.ShloMosaic.TcCoe Idealize.ShloMosaic.ValueIdx Cert.KernelIdeal.Gen Cert.Spec

variable (m : (ℓ : Loc nD τ sig) → Buf (Elt Ideal) ℓ) (c : Dev nD)

/-- The arguments. -/
abbrev obsArg : IVec S64x512 32 := m ((c : Thread nD τ).loc main_arg0)
abbrev startArg : FVec Ideal S512 .f32 := m ((c : Thread nD τ).loc main_arg1)
abbrev transArg : FVec Ideal S512x512 .f32 := m ((c : Thread nD τ).loc main_arg2)
abbrev emisArg : FVec Ideal S512x2048 .f32 := m ((c : Thread nD τ).loc main_arg3)

/-- The emission table transposed. -/
abbrev emisT : FVec Ideal S2048x512 .f32 := transpose S2048x512 [1, 0] (emisArg m c) transposes_S512x2048_S2048x512_1_0
/-- The transitions transposed. -/
abbrev transT : FVec Ideal S512x512 .f32 := transpose S512x512 [1, 0] (transArg m c) transposes_S512x512_S512x512_1_0

theorem bufs1_v1 : (bufs1 m c main_v1 : IVec S512x1x64 32)
    = shapeCast S512x1x64 (transpose S512x64 [1, 0] (obsArg m c) transposes_S64x512_S512x64_1_0) shapeCasts_S512x64_S512x1x64 := by
  unfold bufs1 V1 hostOps0
  after_reads_simp
  rfl

theorem bufs1_v2 : (bufs1 m c main_v2 : FVec Ideal S1x512 .f32) = shapeCast S1x512 (startArg m c) shapeCasts_S512_S1x512 := by
  unfold bufs1 V1 hostOps0
  after_reads_simp
  rfl

theorem bufs1_arg2 : (bufs1 m c main_arg2 : FVec Ideal S512x512 .f32) = transArg m c := by
  unfold bufs1 V1 hostOps0
  after_reads_simp

theorem bufs1_v11 : (bufs1 m c main_v11 : FVec Ideal S2048x512 .bf16) = emisT m c := by
  unfold bufs1 V1 hostOps0
  after_reads_simp
  rfl

theorem bufs1_v12 : (bufs1 m c main_v12 : FVec Ideal S2048x512 .bf16) = fun y => (emisT m c y - emisT m c y : EReal) := by
  unfold bufs1 V1 hostOps0
  after_reads_simp
  rfl

theorem bufs1_v13 : (bufs1 m c main_v13 : FVec Ideal S2048x512 .bf16)
    = fun y => ((emisT m c y - emisT m c y) - (emisT m c y - emisT m c y) : EReal) := by
  unfold bufs1 V1 hostOps0
  after_reads_simp
  rfl

theorem bufs1_v20 : (bufs1 m c main_v20 : FVec Ideal S512x512 .bf16) = transT m c := by
  unfold bufs1 V1 hostOps0
  after_reads_simp
  rfl

theorem bufs1_v21 : (bufs1 m c main_v21 : FVec Ideal S512x512 .bf16) = fun y => (transT m c y - transT m c y : EReal) := by
  unfold bufs1 V1 hostOps0
  after_reads_simp
  rfl

theorem bufs1_v22 : (bufs1 m c main_v22 : FVec Ideal S512x512 .bf16)
    = fun y => ((transT m c y - transT m c y) - (transT m c y - transT m c y) : EReal) := by
  unfold bufs1 V1 hostOps0
  after_reads_simp
  rfl

/-- The result, laid out per sequence. -/
theorem result_v26 : (result m c : IVec S64x512 32) = transpose S64x512 [1, 0]
    (shapeCast S512x64 (pathArr (bufs2 m) c) shapeCasts_S512x1x64_S512x64) transposes_S512x64_S64x512_1_0 := by
  have h : (result m c : IVec S64x512 32) = transpose S64x512 [1, 0]
      (shapeCast S512x64 (V3 m (outs m) c main_v24 : IVec S512x1x64 32) shapeCasts_S512x1x64_S512x64) transposes_S512x64_S64x512_1_0 := by
    unfold result V4 hostOps2
    after_reads_simp
    rfl
  rw [h, V3_v24]

theorem bufs2_v23 : (bufs2 m c main_v23 : FVec Ideal S512x64x512 .f32) = scoresArr (bufs1 m) c :=
  Function.update_self _ _ _

/-- What the forward call leaves alone. -/
theorem bufs2_of (b : Ref sig .tc) (h : b ≠ main_v23) : bufs2 m c b = bufs1 m c b :=
  Function.update_of_ne (StableHlo.devRef_ne_of_ne h) _ _

/-- The symbols by step. -/
theorem symbols_apply (k : Fin 512) (b : Fin 64) : (bufs1 m c main_v1 : IVec S512x1x64 32) (ix3 k 0 b) = obsArg m c (ix2 b k) := by
  rw [bufs1_v1]
  refine (shapeCast_apply _ shapeCasts_S512x64_S512x1x64 (ix3 k 0 b) (ix2 k b) ?_).trans (transpose_ix2_apply _ _ _ _)
  rw [Shape.rowMajor_val_three, Shape.rowMajor_val_two]
  show k.val * 64 + b.val = (k.val * 1 + 0) * 64 + b.val
  omega

variable (hobs : ∀ b t, (obsArg m c (ix2 b t)).toNat < 2048)
variable (htr : ∀ y, transArg m c y - transArg m c y = (0 : EReal)) (hem : ∀ y, emisArg m c y - emisArg m c y = (0 : EReal))

include hem in
theorem emis_mid (y : S2048x512.Idx) : (bufs1 m c main_v12 : FVec Ideal S2048x512 .bf16) y = (0 : EReal) := by
  rw [bufs1_v12]
  exact hem _

include hem in
theorem emis_low (y : S2048x512.Idx) : (bufs1 m c main_v13 : FVec Ideal S2048x512 .bf16) y = (0 : EReal) := by
  have h : (emisT m c y - emisT m c y : EReal) = 0 := hem _
  rw [bufs1_v13]
  show ((emisT m c y - emisT m c y) - (emisT m c y - emisT m c y) : EReal) = 0
  rw [h, sub_zero]

include htr in
theorem trans_mid (y : S512x512.Idx) : (bufs1 m c main_v21 : FVec Ideal S512x512 .bf16) y = (0 : EReal) := by
  rw [bufs1_v21]
  exact htr _

include htr in
theorem trans_low (y : S512x512.Idx) : (bufs1 m c main_v22 : FVec Ideal S512x512 .bf16) y = (0 : EReal) := by
  have h : (transT m c y - transT m c y : EReal) = 0 := htr _
  rw [bufs1_v22]
  show ((transT m c y - transT m c y) - (transT m c y - transT m c y) : EReal) = 0
  rw [h, sub_zero]

include hobs hem in
/-- The forward call's scores. -/
theorem scores_eq (k : Fin 512) (b : Fin 64) (i : Fin 512) : scoresArr (bufs1 m) c (ix3 k b i)
    = score (fun s => startArg m c (ix1 s)) (fun i j => transArg m c (ix2 i j))
        (emis (fun b t => obsArg m c (ix2 b t)) (fun i k => emisArg m c (ix2 i k)) b) k.val i :=
  alpha_eq (fun b t => obsArg m c (ix2 b t)) (fun s => startArg m c (ix1 s)) (fun i j => transArg m c (ix2 i j)) (fun i k => emisArg m c (ix2 i k))
    hobs _ _ _ _ _ _ (symbols_apply m c) (fun i => by rw [bufs1_v2]; exact shapeCast_a_1a_apply _ _ _ _) (fun i j => by rw [bufs1_arg2])
    (fun k i => by rw [bufs1_v11]; exact transpose_ix2_apply _ _ _ _) (emis_mid m c hem) (emis_low m c hem) k.val k.isLt b i

include hobs htr hem in
/-- The kernel's result is the path. -/
theorem result_eq : (result m c : IVec S64x512 32) = fun y => path (fun b t => obsArg m c (ix2 b t)) (fun s => startArg m c (ix1 s))
    (fun i j => transArg m c (ix2 i j)) (fun i k => emisArg m c (ix2 i k)) (y 0) (y 1) := by
  funext y
  obtain ⟨b, t, rfl⟩ : ∃ (b : Fin 64) (t : Fin 512), y = ix2 b t := ⟨y 0, y 1, eq_ix2 y⟩
  rw [result_v26]
  refine (transpose_ix2_apply _ _ _ _).trans ?_
  refine (shapeCast_apply _ shapeCasts_S512x1x64_S512x64 (ix2 t b) (ix3 t 0 b) ?_).trans ?_
  · rw [Shape.rowMajor_val_three, Shape.rowMajor_val_two]
    show (t.val * 1 + 0) * 64 + b.val = t.val * 64 + b.val
    omega
  · refine sigma_eq (fun s => startArg m c (ix1 s)) (fun i j => transArg m c (ix2 i j)) _ _ _ _
      (emis (fun b t => obsArg m c (ix2 b t)) (fun i k => emisArg m c (ix2 i k))) ?_ ?_ ?_ ?_ (511 - t.val) b
    · intro k b i
      rw [bufs2_v23]
      exact scores_eq m c hobs hem k b i
    · intro k i
      rw [bufs2_of m c _ (by decide), bufs1_v20]
      exact transpose_ix2_apply _ _ _ _
    · intro y
      rw [bufs2_of m c _ (by decide)]
      exact trans_mid m c htr y
    · intro y
      rw [bufs2_of m c _ (by decide)]
      exact trans_low m c htr y

end Cert.KernelIdeal.Hand

end
-- ==== Proof.Ref.Read.lean ====
/-
  What each of the reference's stretches leaves in the arrays read later, as one term of what it found.
-/
module

public import proofs.«01_k».proof.Proof.Ref.Keep
public import proofs.«01_k».proof.Proof.Gen.ReferenceIdeal
public import Idealize.ShloMosaic.PureOps.Ideal.Laws
public import Idealize.ShloMosaic.Lib.StableHlo.RunRead

@[expose] public section

noncomputable section

namespace Cert.ReferenceIdeal.Hand

open Idealize.ShloMosaic Cert.ReferenceIdeal
open Idealize.ShloMosaic.TcCoe
open Idealize.ShloMosaic.StableHlo (after)
open Facts₀ Facts

variable (V : Valuation τ sig (Elt Ideal))

/-! ## Before the first loop -/

/-- The symbols, the negative ones counted from the end. -/
def wrapTerm (i : IVec S64x512 32) : IVec S64x512x1 32 :=
  broadcastInDim S64x512x1 ![0, 1] bcast_S64x512_S64x512x1_0_1
    (select (cmpi .slt i (broadcastInDim S64x512 ![] bcast_S_S64x512 (constantI S_ 32 0#32)))
      (addi i (broadcastInDim S64x512 ![] bcast_S_S64x512 (constantI S_ 32 2048#32))) i)

/-- Which of them name a row. -/
def inTerm (w : IVec S64x512x1 32) : IVec S64x512x1 1 :=
  andi (cmpi .sge w (broadcastInDim S64x512x1 ![] bcast_S_S64x512x1 (constantI S_ 32 0#32)))
    (cmpi .sle w (broadcastInDim S64x512x1 ![0, 1, 2] bcast_S1x1x1_S64x512x1_0_1_2
      (broadcastInDim S1x1x1 ![2] bcast_S1_S1x1x1_2 (constantI S1 32 2047#32))))

/-- The table's rows at the symbols. -/
def takeTerm (x : FVec Ideal S2048x512 .f32) (i : IVec S64x512 32) : FVec Ideal S64x512x512 .f32 :=
  select (broadcastInDim S64x512x512 ![0, 1] bcast_S64x512_S64x512x512_0_1
      (Host.reduce IntOp.andi (inTerm (wrapTerm i)) (constantI S_ 1 1#1) reducesTo_S64x512x1_S64x512_d2 h_S_))
    (Host.gather gather_S2048x512_S64x512x1_S64x512x512_2_0_n_n_0_2_1512 x (wrapTerm i))
    (broadcastInDim S64x512x512 ![] bcast_S_S64x512x512 (constant S_ .f32 0x7FC00000#32))

theorem preA_v0 : (after preA V (Proc.devRef .tc main_v0) : FVec Ideal S2048x512 .f32)
    = transpose S2048x512 [1, 0] (V (Proc.devRef .tc main_arg3) : FVec Ideal S512x2048 .f32) transposes_S512x2048_S2048x512_1_0 := by
  unfold preA
  after_reads_simp

theorem takeOps_v1 : (after takeOps V (Proc.devRef .tc main_v1) : FVec Ideal S64x512x512 .f32) = takeTerm (V (Proc.devRef .tc main_v0)) (V (Proc.devRef .tc main_arg0)) := by
  unfold takeOps takeTerm inTerm wrapTerm
  after_reads_simp
  try rfl

/-- The first scores. -/
def firstTerm (p : FVec Ideal S512 .f32) (x : FVec Ideal S64x512x512 .f32) : FVec Ideal S64x512 .f32 :=
  addf (broadcastInDim S64x512 ![0, 1] bcast_S1x512_S64x512_0_1 (broadcastInDim S1x512 ![1] bcast_S512_S1x512_1 p))
    (shapeCast S64x512 (extractStridedSlice S64x1x512 ![0, 0, 0] x slices_S64x512x512_S64x1x512_0_0_0) shapeCasts_S64x1x512_S64x512)

/-- The emissions after the first step, by step. -/
def restTerm (x : FVec Ideal S64x512x512 .f32) : FVec Ideal S511x64x512 .f32 :=
  transpose S511x64x512 [1, 0, 2] (extractStridedSlice S64x511x512 ![0, 1, 0] x slices_S64x512x512_S64x511x512_0_1_0)
    transposes_S64x511x512_S511x64x512_1_0_2

theorem preB_rows : (after preB V (Proc.devRef .tc main_v10_0) : FVec Ideal S511x64x512 .f32) = restTerm (V (Proc.devRef .tc main_v1)) := by
  unfold preB restTerm
  after_reads_simp
  try rfl

theorem preB_trans : (after preB V (Proc.devRef .tc main_v10_1) : FVec Ideal S512x512 .f32) = V (Proc.devRef .tc main_arg2) := by
  unfold preB
  after_reads_simp
  try rfl

theorem preB_scores : (after preB V (Proc.devRef .tc main_v10_3) : FVec Ideal S64x512 .f32) = firstTerm (V (Proc.devRef .tc main_arg1)) (V (Proc.devRef .tc main_v1)) := by
  unfold preB firstTerm
  after_reads_simp
  try rfl

/-! ## The first loop -/

/-- The row of a step. -/
def rowTerm {α : Type} (x : S511x64x512.Idx → α) (i z z' : IVec S_ 32) : S64x512.Idx → α :=
  shapeCast S64x512 (Host.dynamicSlice S1x64x512 x (fun k => ((![i, z, z'] : Fin 3 → IVec S_ 32) k (Shape.Idx.first h_S_)).toInt)
    sliceFits_S511x64x512_S1x64x512) shapeCasts_S1x64x512_S64x512

theorem rowOps_v17 : (after rowOps V (Proc.devRef .tc main_while0b_v17) : FVec Ideal S64x512 .f32)
    = rowTerm (V (Proc.devRef .tc main_v10_0) : FVec Ideal S511x64x512 .f32) (V (Proc.devRef .tc main_v10_2)) (constantI S_ 32 0#32) (constantI S_ 32 0#32) := by
  unfold rowOps rowTerm
  after_reads_simp [StableHlo.unaryIndexed_result_read, StableHlo.binaryIndexed_result_read, StableHlo.indexContents_tref_cons, StableHlo.indexContents_tref_empty]
  rfl

/-- Every score plus every transition. -/
def sumTerm (v : FVec Ideal S64x512 .f32) (t : FVec Ideal S512x512 .f32) : FVec Ideal S64x512x512 .f32 :=
  addf (broadcastInDim S64x512x512 ![0, 1, 2] bcast_S64x512x1_S64x512x512_0_1_2 (broadcastInDim S64x512x1 ![0, 1] bcast_S64x512_S64x512x1_0_1 v))
    (broadcastInDim S64x512x512 ![0, 1, 2] bcast_S1x512x512_S64x512x512_0_1_2 (broadcastInDim S1x512x512 ![1, 2] bcast_S512x512_S1x512x512_1_2 t))

theorem sumOps_v22 : (after sumOps V (Proc.devRef .tc main_while0b_v22) : FVec Ideal S64x512x512 .f32) = sumTerm (V (Proc.devRef .tc main_v10_3)) (V (Proc.devRef .tc main_v10_1)) := by
  unfold sumOps sumTerm
  after_reads_simp
  try rfl

/-- Each state's best score and the first previous state that gives it. -/
def bestPair (x : FVec Ideal S64x512x512 .f32) (j : S64x512.Idx) : Ideal .f32 × BitVec 32 :=
  Host.argReduce reducer_argmax_f32_i32 x (iotaInDim S64x512x512 32 1) (constant S_ .f32 0xFF800000#32) (constantI S_ 32 0#32)
    reducesTo_S64x512x512_S64x512_d1 h_S_ j

/-- The best previous states. -/
def bestTerm (x : FVec Ideal S64x512x512 .f32) : IVec S64x512 32 := fun j => (bestPair x j).2

theorem bestOps_v23 : (after bestOps V (Proc.devRef .tc main_while0b_v23) : IVec S64x512 32) = bestTerm (V (Proc.devRef .tc main_while0b_v22)) := by
  unfold bestOps bestTerm bestPair
  after_reads_simp
  try rfl

/-- The next scores. -/
def nextTerm (x : FVec Ideal S64x512x512 .f32) (e : FVec Ideal S64x512 .f32) : FVec Ideal S64x512 .f32 :=
  addf (Host.reduce FloatOps.maximumf x (constant S_ .f32 0xFF800000#32) reducesTo_S64x512x512_S64x512_d1 h_S_) e

theorem maxOps_v25 : (after maxOps V (Proc.devRef .tc main_while0b_v25) : FVec Ideal S64x512 .f32)
    = nextTerm (V (Proc.devRef .tc main_while0b_v22)) (V (Proc.devRef .tc main_while0b_v17)) := by
  unfold maxOps nextTerm
  after_reads_simp
  try rfl

/-- The states kept so far, a step's added. -/
def keepTerm (x : IVec S511x64x512 32) (u : IVec S64x512 32) (i z z' : IVec S_ 32) : IVec S511x64x512 32 :=
  Host.dynamicUpdateSlice x (broadcastInDim S1x64x512 ![1, 2] bcast_S64x512_S1x64x512_1_2 u)
    (fun k => ((![i, z, z'] : Fin 3 → IVec S_ 32) k (Shape.Idx.first h_S_)).toInt) updateFits_S511x64x512_S1x64x512

theorem keepOps_v26 : (after keepOps V (Proc.devRef .tc main_while0b_v26) : IVec S511x64x512 32)
    = keepTerm (V (Proc.devRef .tc main_v10_4)) (V (Proc.devRef .tc main_while0b_v23)) (V (Proc.devRef .tc main_v10_2)) (constantI S_ 32 0#32) (constantI S_ 32 0#32) := by
  unfold keepOps keepTerm
  after_reads_simp [StableHlo.unaryIndexed_result_read, StableHlo.binaryIndexed_result_read, StableHlo.indexContents_tref_cons, StableHlo.indexContents_tref_empty]
  rfl

theorem nextOps_scores : (after nextOps V (Proc.devRef .tc main_v10_3) : FVec Ideal S64x512 .f32) = V (Proc.devRef .tc main_while0b_v25) := by
  unfold nextOps
  after_reads_simp
  try rfl

theorem nextOps_kept : (after nextOps V (Proc.devRef .tc main_v10_4) : IVec S511x64x512 32) = V (Proc.devRef .tc main_while0b_v26) := by
  unfold nextOps
  after_reads_simp
  try rfl

/-! ## Between the loops -/

/-- The best last states. -/
def lastTerm (x : FVec Ideal S64x512 .f32) : IVec S64 32 := fun j =>
  (Host.argReduce reducer_argmax_f32_i32 x (iotaInDim S64x512 32 1) (constant S_ .f32 0xFF800000#32) (constantI S_ 32 0#32)
    reducesTo_S64x512_S64_d1 h_S_ j).2

theorem lastOps_v11 : (after lastOps V (Proc.devRef .tc main_v11) : IVec S64 32) = lastTerm (V (Proc.devRef .tc main_v10_3)) := by
  unfold lastOps lastTerm
  after_reads_simp
  try rfl

theorem midOps_kept : (after midOps V (Proc.devRef .tc main_v13_0) : IVec S511x64x512 32) = V (Proc.devRef .tc main_v10_4) := by
  unfold midOps
  after_reads_simp
  try rfl

theorem midOps_state : (after midOps V (Proc.devRef .tc main_v13_2) : IVec S64 32) = V (Proc.devRef .tc main_v11) := by
  unfold midOps
  after_reads_simp
  try rfl

/-! ## The second loop -/

theorem countOps_v18 : (after countOps V (Proc.devRef .tc main_while1b_v18) : IVec S_ 32)
    = subi (subi (constantI S_ 32 511#32) (V (Proc.devRef .tc main_v13_1) : IVec S_ 32)) (constantI S_ 32 1#32) := by
  unfold countOps
  after_reads_simp
  try rfl

theorem ptrRowOps_v19 : (after ptrRowOps V (Proc.devRef .tc main_while1b_v19) : IVec S64x512 32)
    = rowTerm (V (Proc.devRef .tc main_v13_0) : IVec S511x64x512 32) (V (Proc.devRef .tc main_while1b_v18)) (constantI S_ 32 0#32) (constantI S_ 32 0#32) := by
  unfold ptrRowOps rowTerm
  after_reads_simp [StableHlo.unaryIndexed_result_read, StableHlo.binaryIndexed_result_read, StableHlo.indexContents_tref_cons, StableHlo.indexContents_tref_empty]
  rfl

theorem colOps_v20 : (after colOps V (Proc.devRef .tc main_while1b_v20) : IVec S64x1 32)
    = broadcastInDim S64x1 ![0] bcast_S64_S64x1_0 (V (Proc.devRef .tc main_v13_2) : IVec S64 32) := by
  unfold colOps
  after_reads_simp

/-- The states, the negative ones counted from the end. -/
def wrapTerm1 (i : IVec S64x1 32) : IVec S64x1x1 32 :=
  shapeCast S64x1x1 (select (cmpi .slt i (broadcastInDim S64x1 ![] bcast_S_S64x1 (constantI S_ 32 0#32)))
    (addi i (broadcastInDim S64x1 ![] bcast_S_S64x1 (constantI S_ 32 512#32))) i) shapeCasts_S64x1_S64x1x1

/-- Which of them name a state. -/
def inTerm1 (w : IVec S64x1x1 32) : IVec S64x1x1 1 :=
  andi (cmpi .sge w (broadcastInDim S64x1x1 ![] bcast_S_S64x1x1 (constantI S_ 32 0#32)))
    (cmpi .sle w (broadcastInDim S64x1x1 ![0, 1, 2] bcast_S1x1x1_S64x1x1_0_1_2
      (broadcastInDim S1x1x1 ![2] bcast_S1_S1x1x1_2 (constantI S1 32 511#32))))

/-- The row's entries at the states. -/
def alongTerm (x : IVec S64x512 32) (i : IVec S64x1 32) : IVec S64x1 32 :=
  select (Host.reduce IntOp.andi (inTerm1 (wrapTerm1 i)) (constantI S_ 1 1#1) reducesTo_S64x1x1_S64x1_d2 h_S_)
    (Host.gather gather_S64x512_S64x1x1_S64x1_n_1_0_0_1_2_11 x (wrapTerm1 i))
    (broadcastInDim S64x1 ![] bcast_S_S64x1 (constantI S_ 32 2147483648#32))

theorem alongOps_v21 : (after alongOps V (Proc.devRef .tc main_while1b_v21) : IVec S64x1 32)
    = alongTerm (V (Proc.devRef .tc main_while1b_v19)) (V (Proc.devRef .tc main_while1b_v20)) := by
  unfold alongOps alongTerm inTerm1 wrapTerm1
  after_reads_simp
  try rfl

theorem flatOps_v22 : (after flatOps V (Proc.devRef .tc main_while1b_v22) : IVec S64 32)
    = shapeCast S64 (V (Proc.devRef .tc main_while1b_v21) : IVec S64x1 32) shapeCasts_S64x1_S64 := by
  unfold flatOps
  after_reads_simp
  try rfl

/-- The path so far, a step's states added. -/
def storeTerm (x : IVec S511x64 32) (u : IVec S64 32) (i z : IVec S_ 32) : IVec S511x64 32 :=
  Host.dynamicUpdateSlice x (broadcastInDim S1x64 ![1] bcast_S64_S1x64_1 u)
    (fun k => ((![i, z] : Fin 2 → IVec S_ 32) k (Shape.Idx.first h_S_)).toInt) updateFits_S511x64_S1x64

theorem storeOps_v23 : (after storeOps V (Proc.devRef .tc main_while1b_v23) : IVec S511x64 32)
    = storeTerm (V (Proc.devRef .tc main_v13_3)) (V (Proc.devRef .tc main_while1b_v22)) (V (Proc.devRef .tc main_while1b_v18)) (constantI S_ 32 0#32) := by
  unfold storeOps storeTerm
  after_reads_simp [StableHlo.unaryIndexed_result_read, StableHlo.binaryIndexed_result_read, StableHlo.indexContents_tref_cons, StableHlo.indexContents_tref_empty]
  rfl

theorem nextOps1_state : (after nextOps1 V (Proc.devRef .tc main_v13_2) : IVec S64 32) = V (Proc.devRef .tc main_while1b_v22) := by
  unfold nextOps1
  after_reads_simp
  try rfl

theorem nextOps1_path : (after nextOps1 V (Proc.devRef .tc main_v13_3) : IVec S511x64 32) = V (Proc.devRef .tc main_while1b_v23) := by
  unfold nextOps1
  after_reads_simp
  try rfl

/-! ## After the second loop -/

/-- The path, its last states attached. -/
def endTerm (x : IVec S511x64 32) (u : IVec S64 32) : IVec S64x512 32 :=
  concatenate S64x512 1 [⟨S64x511, transpose S64x511 [1, 0] x transposes_S511x64_S64x511_1_0⟩,
    ⟨S64x1, broadcastInDim S64x1 ![0] bcast_S64_S64x1_0 u⟩] concatenates_S64x511_S64x1_S64x512_d1

theorem postOps_v16 : (after postOps V (Proc.devRef .tc main_v16) : IVec S64x512 32) = endTerm (V (Proc.devRef .tc main_v13_3)) (V (Proc.devRef .tc main_v11)) := by
  unfold postOps endTerm
  after_reads_simp
  try rfl

end Cert.ReferenceIdeal.Hand

end
-- ==== Proof.Ref.Turns.lean ====
/-
  What one turn of each of the reference's loops leaves in the arrays its next turn reads.
-/
module

public import proofs.«01_k».proof.Proof.Ref.Read
public import proofs.«01_k».proof.Proof.Ref.Run

@[expose] public section

noncomputable section

namespace Cert.ReferenceIdeal.Hand

open Idealize.ShloMosaic Cert.ReferenceIdeal
open Idealize.ShloMosaic.TcCoe
open Idealize.ShloMosaic.StableHlo (after afterL)
open Facts₀ Facts

variable (V : Valuation τ sig (Elt Ideal))

/-! ## The first loop -/

/-- Every score plus every transition, in a turn. -/
abbrev sums0 : FVec Ideal S64x512x512 .f32 := sumTerm (V (Proc.devRef .tc main_v10_3)) (V (Proc.devRef .tc main_v10_1))

theorem body0_rows : (afterL body0I V (Proc.devRef .tc main_v10_0) : FVec Ideal S511x64x512 .f32) = V (Proc.devRef .tc main_v10_0) := by
  simp only [StableHlo.afterL_cons, StableHlo.afterL_nil]
  rw [nextOps_keep _ (by decide), keepOps_keep _ (by decide), maxOps_keep _ (by decide), bestOps_keep _ (by decide), sumOps_keep _ (by decide), rowOps_keep _ (by decide)]

theorem body0_trans : (afterL body0I V (Proc.devRef .tc main_v10_1) : FVec Ideal S512x512 .f32) = V (Proc.devRef .tc main_v10_1) := by
  simp only [StableHlo.afterL_cons, StableHlo.afterL_nil]
  rw [nextOps_keep _ (by decide), keepOps_keep _ (by decide), maxOps_keep _ (by decide), bestOps_keep _ (by decide), sumOps_keep _ (by decide), rowOps_keep _ (by decide)]

theorem body0_scores : (afterL body0I V (Proc.devRef .tc main_v10_3) : FVec Ideal S64x512 .f32)
    = nextTerm (sums0 V) (rowTerm (V (Proc.devRef .tc main_v10_0) : FVec Ideal S511x64x512 .f32) (V (Proc.devRef .tc main_v10_2)) (constantI S_ 32 0#32) (constantI S_ 32 0#32)) := by
  simp only [StableHlo.afterL_cons, StableHlo.afterL_nil]
  rw [nextOps_scores, keepOps_keep _ (by decide), maxOps_v25, bestOps_keep (r := main_while0b_v22) _ (by decide), sumOps_v22,
    bestOps_keep (r := main_while0b_v17) _ (by decide), sumOps_keep (r := main_while0b_v17) _ (by decide), rowOps_v17,
    rowOps_keep (r := main_v10_3) _ (by decide), rowOps_keep (r := main_v10_1) _ (by decide)]

theorem body0_kept : (afterL body0I V (Proc.devRef .tc main_v10_4) : IVec S511x64x512 32)
    = keepTerm (V (Proc.devRef .tc main_v10_4)) (bestTerm (sums0 V)) (V (Proc.devRef .tc main_v10_2)) (constantI S_ 32 0#32) (constantI S_ 32 0#32) := by
  simp only [StableHlo.afterL_cons, StableHlo.afterL_nil]
  rw [nextOps_kept, keepOps_v26,
    maxOps_keep (r := main_v10_4) _ (by decide), bestOps_keep (r := main_v10_4) _ (by decide), sumOps_keep (r := main_v10_4) _ (by decide), rowOps_keep (r := main_v10_4) _ (by decide),
    maxOps_keep (r := main_v10_2) _ (by decide), bestOps_keep (r := main_v10_2) _ (by decide), sumOps_keep (r := main_v10_2) _ (by decide), rowOps_keep (r := main_v10_2) _ (by decide),
    maxOps_keep (r := main_while0b_v23) _ (by decide), bestOps_v23, sumOps_v22,
    rowOps_keep (r := main_v10_3) _ (by decide), rowOps_keep (r := main_v10_1) _ (by decide)]

/-! ## The second loop -/

/-- The step a turn walks back to. -/
abbrev step1 : IVec S_ 32 := subi (subi (constantI S_ 32 511#32) (V (Proc.devRef .tc main_v13_1) : IVec S_ 32)) (constantI S_ 32 1#32)

/-- The states a turn finds. -/
abbrev states1 : IVec S64 32 :=
  shapeCast S64 (alongTerm (rowTerm (V (Proc.devRef .tc main_v13_0) : IVec S511x64x512 32) (step1 V) (constantI S_ 32 0#32) (constantI S_ 32 0#32))
    (broadcastInDim S64x1 ![0] bcast_S64_S64x1_0 (V (Proc.devRef .tc main_v13_2) : IVec S64 32))) shapeCasts_S64x1_S64

theorem body1_kept : (afterL body1I V (Proc.devRef .tc main_v13_0) : IVec S511x64x512 32) = V (Proc.devRef .tc main_v13_0) := by
  simp only [StableHlo.afterL_cons, StableHlo.afterL_nil]
  rw [nextOps1_keep _ (by decide), storeOps_keep _ (by decide), flatOps_keep _ (by decide), alongOps_keep _ (by decide), colOps_keep _ (by decide), ptrRowOps_keep _ (by decide), countOps_keep _ (by decide)]

theorem body1_last : (afterL body1I V (Proc.devRef .tc main_v11) : IVec S64 32) = V (Proc.devRef .tc main_v11) := by
  simp only [StableHlo.afterL_cons, StableHlo.afterL_nil]
  rw [nextOps1_keep _ (by decide), storeOps_keep _ (by decide), flatOps_keep _ (by decide), alongOps_keep _ (by decide), colOps_keep _ (by decide), ptrRowOps_keep _ (by decide), countOps_keep _ (by decide)]

/-- What the loads and the lookup leave, before the store. -/
theorem found1 : (after flatOps (after alongOps (after colOps (after ptrRowOps (after countOps V)))) (Proc.devRef .tc main_while1b_v22) : IVec S64 32)
    = states1 V := by
  rw [flatOps_v22, alongOps_v21, colOps_v20, colOps_keep (r := main_while1b_v19) _ (by decide), ptrRowOps_v19, countOps_v18,
    ptrRowOps_keep (r := main_v13_2) _ (by decide), countOps_keep (r := main_v13_2) _ (by decide), countOps_keep (r := main_v13_0) _ (by decide)]

theorem body1_state : (afterL body1I V (Proc.devRef .tc main_v13_2) : IVec S64 32) = states1 V := by
  simp only [StableHlo.afterL_cons, StableHlo.afterL_nil]
  rw [nextOps1_state, storeOps_keep _ (by decide), found1]

theorem body1_path : (afterL body1I V (Proc.devRef .tc main_v13_3) : IVec S511x64 32)
    = storeTerm (V (Proc.devRef .tc main_v13_3)) (states1 V) (step1 V) (constantI S_ 32 0#32) := by
  simp only [StableHlo.afterL_cons, StableHlo.afterL_nil]
  rw [nextOps1_path, storeOps_v23, found1,
    flatOps_keep (r := main_v13_3) _ (by decide), alongOps_keep (r := main_v13_3) _ (by decide), colOps_keep (r := main_v13_3) _ (by decide), ptrRowOps_keep (r := main_v13_3) _ (by decide), countOps_keep (r := main_v13_3) _ (by decide),
    flatOps_keep (r := main_while1b_v18) _ (by decide), alongOps_keep (r := main_while1b_v18) _ (by decide), colOps_keep (r := main_while1b_v18) _ (by decide), ptrRowOps_keep (r := main_while1b_v18) _ (by decide), countOps_v18]

end Cert.ReferenceIdeal.Hand

end
-- ==== Proof.Ref.Lookup.lean ====
/-
  The reference's two lookups at indices in range: the table's row at a symbol, and a row's entry at a state.
-/
module

public import proofs.«01_k».proof.Proof.Ref.Read
public import proofs.«01_k».proof.Proof.Spec.Best
public import Idealize.ShloMosaic.Lib.ValueIdx
public import Idealize.ShloMosaic.Lib.ValueLayout
public import Idealize.ShloMosaic.Lib.ValueLayoutCasts
public import Idealize.ShloMosaic.Lib.DynamicIndex
public import Idealize.ShloMosaic.Lib.ReduceAll
public import Idealize.ShloMosaic.Lib.Pointwise
public import Idealize.ShloMosaic.Lib.StableHlo.Predicate

@[expose] public section

noncomputable section

namespace Cert.ReferenceIdeal.Hand

open Idealize.ShloMosaic hiding ix1 ix2 ix3 eq_ix2 eq_ix3
open Idealize.ShloMosaic.ValueIdx Cert.ReferenceIdeal Cert.Spec
open Facts₀ Facts

/-- Both tests hold of a word in range. -/
theorem in_range {w : BitVec 32} {n : Nat} (hn : n < 2 ^ 31) (hw : w.toNat ≤ n) :
    IntOp.andi (IntOp.cmpi .sge w 0#32) (IntOp.cmpi .sle w (BitVec.ofNat 32 n)) = 1#1 := by
  have e : (BitVec.ofNat 32 n).toNat = n := by simp only [BitVec.toNat_ofNat]; omega
  have h1 : IntOp.cmpi .sge w 0#32 = 1#1 := (StableHlo.Predicate.sge_iff_toNat (by omega) (by decide)).2 (Nat.zero_le _)
  have h2 : IntOp.cmpi .sle w (BitVec.ofNat 32 n) = 1#1 := (StableHlo.Predicate.sle_iff_toNat (by omega) (by omega)).2 (by omega)
  rw [h1, h2]
  rfl

/-- A small word's signed value. -/
theorem toInt_small {w : BitVec 32} (hw : w.toNat < 2 ^ 31) : w.toInt.toNat = w.toNat := by
  rw [StableHlo.Predicate.toInt_eq_toNat_of_lt hw, Int.toNat_natCast]

theorem nonneg_small {w : BitVec 32} (hw : w.toNat < 2 ^ 31) : 0 ≤ w.toInt := by
  rw [StableHlo.Predicate.toInt_eq_toNat_of_lt hw]; exact Int.natCast_nonneg _

/-- A select takes its first branch where its condition is 1. -/
theorem select_one {α : Type} {s : Shape} (c : IVec s 1) (x y : s.Idx → α) (j : s.Idx) (h : c j = 1#1) : select c x y j = x j := if_pos h

/-! ## The symbols' rows -/

theorem wrapTerm_apply (i : IVec S64x512 32) (b : Fin 64) (t : Fin 512) (u : Fin 1) (hi : (i (ix2 b t)).toNat < 2048) :
    wrapTerm i (ix3 b t u) = i (ix2 b t) := by
  have e : wrapTerm i (ix3 b t u) = (select (cmpi .slt i (constantI S64x512 32 0#32)) (addi i (constantI S64x512 32 2048#32)) i : IVec S64x512 32) (ix2 b t) := by
    unfold wrapTerm
    refine congrArg (select (cmpi .slt i (constantI S64x512 32 0#32)) (addi i (constantI S64x512 32 2048#32)) i) (funext fun a => ?_)
    match a with
    | ⟨0, _⟩ => rfl
    | ⟨1, _⟩ => rfl
  rw [e]
  exact select_slt_zero_of_nonneg i _ _ _ (nonneg_small (by omega))

theorem inTerm_apply (w : IVec S64x512x1 32) (y : S64x512x1.Idx) (h : (w y).toNat < 2048) : inTerm w y = 1#1 :=
  in_range (n := 2047) (by decide) (by omega)

theorem gather_take (x : FVec Ideal S2048x512 .f32) (w : IVec S64x512x1 32) (b : Fin 64) (t s : Fin 512) (h : (w (ix3 b t 0)).toNat < 2048) :
    Host.gather gather_S2048x512_S64x512x1_S64x512x512_2_0_n_n_0_2_1512 x w (ix3 b t s) = x (ix2 (symOf (w (ix3 b t 0))) s) := by
  unfold Host.gather
  refine congrArg x (funext fun a => Fin.ext ?_)
  match a with
  | ⟨0, _⟩ =>
    have e : gather_S2048x512_S64x512x1_S64x512x512_2_0_n_n_0_2_1512.siIdx (ix3 b t s) ⟨0, by decide⟩ = ix3 b t 0 := by
      funext a
      match a with
      | ⟨0, _⟩ => rfl
      | ⟨1, _⟩ => rfl
      | ⟨2, _⟩ => rfl
    show min (w (gather_S2048x512_S64x512x1_S64x512x512_2_0_n_n_0_2_1512.siIdx (ix3 b t s) ⟨0, by decide⟩)).toInt.toNat 2047 + 0 + 0 = (w (ix3 b t 0)).toNat % 2048
    rw [e, toInt_small (by omega)]
    omega
  | ⟨1, _⟩ =>
    show 0 + 0 + s.val = s.val
    omega

/-- The rows of the table at the symbols. -/
theorem takeTerm_apply (x : FVec Ideal S2048x512 .f32) (i : IVec S64x512 32) (hi : ∀ b t, (i (ix2 b t)).toNat < 2048) (b : Fin 64) (t s : Fin 512) :
    takeTerm x i (ix3 b t s) = x (ix2 (symOf (i (ix2 b t))) s) := by
  have hw : ∀ (b : Fin 64) (t : Fin 512) (u : Fin 1), wrapTerm i (ix3 b t u) = i (ix2 b t) := fun b t u => wrapTerm_apply i b t u (hi b t)
  have hr : ∀ j, Host.reduce IntOp.andi (inTerm (wrapTerm i)) (constantI S_ 1 1#1) reducesTo_S64x512x1_S64x512_d2 h_S_ j = 1#1 := fun j =>
    Host.reduce_andi_one _ _ _ _ j rfl fun y => by
      obtain ⟨b, t, u, rfl⟩ : ∃ (b : Fin 64) (t : Fin 512) (u : Fin 1), y = ix3 b t u := ⟨y 0, y 1, y 2, eq_ix3 y⟩
      exact inTerm_apply _ _ (by rw [hw]; exact hi b t)
  have e : takeTerm x i (ix3 b t s) = Host.gather gather_S2048x512_S64x512x1_S64x512x512_2_0_n_n_0_2_1512 x (wrapTerm i) (ix3 b t s) := by
    unfold takeTerm
    generalize Host.reduce IntOp.andi (inTerm (wrapTerm i)) (constantI S_ 1 1#1) reducesTo_S64x512x1_S64x512_d2 h_S_ = r at hr
    exact select_one _ _ _ _ (hr _)
  rw [e, gather_take x _ b t s (by rw [hw]; exact hi b t), hw]

/-! ## A row's entries at the states -/

theorem wrapTerm1_apply (i : IVec S64x1 32) (b : Fin 64) (u v : Fin 1) (hi : (i (ix2 b 0)).toNat < 512) : wrapTerm1 i (ix3 b u v) = i (ix2 b 0) := by
  have e : wrapTerm1 i (ix3 b u v) = (select (cmpi .slt i (constantI S64x1 32 0#32)) (addi i (constantI S64x1 32 512#32)) i : IVec S64x1 32) (ix2 b 0) := by
    unfold wrapTerm1
    refine shapeCast_apply _ shapeCasts_S64x1_S64x1x1 (ix3 b u v) (ix2 b 0) ?_
    rw [Shape.rowMajor_val_three, Shape.rowMajor_val_two]
    show b.val * 1 + 0 = (b.val * 1 + u.val) * 1 + v.val
    omega
  rw [e]
  exact select_slt_zero_of_nonneg i _ _ _ (nonneg_small (by omega))

theorem inTerm1_apply (w : IVec S64x1x1 32) (y : S64x1x1.Idx) (h : (w y).toNat < 512) : inTerm1 w y = 1#1 :=
  in_range (n := 511) (by decide) (by omega)

theorem gather_along (x : IVec S64x512 32) (w : IVec S64x1x1 32) (b : Fin 64) (i : Fin 512) (h : w (ix3 b 0 0) = word i) :
    Host.gather gather_S64x512_S64x1x1_S64x1_n_1_0_0_1_2_11 x w (ix2 b 0) = x (ix2 b i) := by
  unfold Host.gather
  refine congrArg x (funext fun a => Fin.ext ?_)
  match a with
  | ⟨0, _⟩ =>
    show 0 + b.val + 0 = b.val
    omega
  | ⟨1, _⟩ =>
    have e : gather_S64x512_S64x1x1_S64x1_n_1_0_0_1_2_11.siIdx (ix2 b 0) ⟨0, by decide⟩ = ix3 b 0 0 := by
      funext a
      match a with
      | ⟨0, _⟩ => rfl
      | ⟨1, _⟩ => rfl
      | ⟨2, _⟩ => rfl
    show min (w (gather_S64x512_S64x1x1_S64x1_n_1_0_0_1_2_11.siIdx (ix2 b 0) ⟨0, by decide⟩)).toInt.toNat 511 + 0 + 0 = i.val
    rw [e, h, word_toInt]
    have := i.isLt
    omega

/-- The row's entries at the states. -/
theorem alongTerm_apply (x : IVec S64x512 32) (i : IVec S64x1 32) (f : Fin 64 → Fin 512) (hi : ∀ b, i (ix2 b 0) = word (f b)) (b : Fin 64) :
    alongTerm x i (ix2 b 0) = x (ix2 b (f b)) := by
  have hn : ∀ b, (i (ix2 b 0)).toNat < 512 := fun b => by
    have := (f b).isLt
    rw [hi]; simp only [BitVec.toNat_ofNat]; omega
  have hw : ∀ (b : Fin 64) (u v : Fin 1), wrapTerm1 i (ix3 b u v) = i (ix2 b 0) := fun b u v => wrapTerm1_apply i b u v (hn b)
  have hr : ∀ j, Host.reduce IntOp.andi (inTerm1 (wrapTerm1 i)) (constantI S_ 1 1#1) reducesTo_S64x1x1_S64x1_d2 h_S_ j = 1#1 := fun j =>
    Host.reduce_andi_one _ _ _ _ j rfl fun y => by
      obtain ⟨b, u, v, rfl⟩ : ∃ (b : Fin 64) (u v : Fin 1), y = ix3 b u v := ⟨y 0, y 1, y 2, eq_ix3 y⟩
      exact inTerm1_apply _ _ (by rw [hw]; exact hn b)
  have e : alongTerm x i (ix2 b 0) = Host.gather gather_S64x512_S64x1x1_S64x1_n_1_0_0_1_2_11 x (wrapTerm1 i) (ix2 b 0) := by
    unfold alongTerm
    generalize Host.reduce IntOp.andi (inTerm1 (wrapTerm1 i)) (constantI S_ 1 1#1) reducesTo_S64x1x1_S64x1_d2 h_S_ = r at hr
    exact select_one _ _ _ _ (hr _)
  rw [e, gather_along x _ b (f b) (by rw [hw]; exact hi b)]

end Cert.ReferenceIdeal.Hand

end
-- ==== Proof.Ref.ArgMax.lean ====
/-
  The reference's argmax and max, over the extended reals: the first best state and the best score.
-/
module

public import proofs.«01_k».proof.ReferenceIdeal
public import proofs.«01_k».proof.Proof.Spec.Best

@[expose] public section

noncomputable section

namespace Cert.ReferenceIdeal.Hand

open Idealize.ShloMosaic Cert.ReferenceIdeal Cert.Spec

/-- `r` is at least as good as `q`: a greater value, or the same value and no later a position. -/
def Dom (r q : EReal × BitVec 32) : Prop := q.1 < r.1 ∨ (q.1 = r.1 ∧ r.2.toInt ≤ q.2.toInt)

theorem Dom.refl (q : EReal × BitVec 32) : Dom q q := .inr ⟨rfl, le_refl _⟩

theorem Dom.trans {a b c : EReal × BitVec 32} (h : Dom a b) (h' : Dom b c) : Dom a c := by
  unfold Dom at *
  rcases h with h | ⟨h, h2⟩
  · rcases h' with h' | ⟨h', h2'⟩
    · exact .inl (h'.trans h)
    · exact .inl (h' ▸ h)
  · rcases h' with h' | ⟨h', h2'⟩
    · exact .inl (h ▸ h')
    · exact .inr ⟨h'.trans h, h2.trans h2'⟩

/-- The reducer gives one of its two pairs, the better. -/
theorem reducer_spec (a b : EReal × BitVec 32) :
    (reducer_argmax_f32_i32 (F := Ideal) a b = a ∨ reducer_argmax_f32_i32 (F := Ideal) a b = b)
      ∧ Dom (reducer_argmax_f32_i32 (F := Ideal) a b) a ∧ Dom (reducer_argmax_f32_i32 (F := Ideal) a b) b := by
  obtain ⟨x, i⟩ := a
  obtain ⟨y, j⟩ := b
  have e : reducer_argmax_f32_i32 (F := Ideal) (x, i) (y, j)
      = if y < x then (x, i) else if x = y ∧ i.toInt < j.toInt then (y, i) else (y, j) := by
    unfold reducer_argmax_f32_i32
    simp only [Ideal.cmpf_def, Ideal.cmp, Scalar.select, IntOp.ori, IntOp.andi, IntOp.cmpi, BitVec.slt]
    rcases lt_trichotomy x y with h | h | h
    · have h1 : ¬ y < x := not_lt.2 h.le
      simp [h1, h.ne]
    · subst h
      by_cases hij : i.toInt < j.toInt
      · simp [hij]
      · simp [hij]
    · simp [h, h.ne']
  rw [e]
  split
  · rename_i h
    exact ⟨.inl rfl, Dom.refl _, .inl h⟩
  · rename_i h
    split
    · rename_i h'
      obtain ⟨rfl, h'⟩ := h'
      exact ⟨.inl rfl, Dom.refl _, .inr ⟨rfl, h'.le⟩⟩
    · rename_i h'
      refine ⟨.inr rfl, ?_, Dom.refl _⟩
      rcases lt_or_eq_of_le (not_lt.1 h) with h1 | h1
      · exact .inl h1
      · exact .inr ⟨h1, not_lt.1 fun h2 => h' ⟨h1, h2⟩⟩

/-- Folding the reducer over a list gives the best of its pairs and the first one. -/
theorem foldl_reducer (l : List (EReal × BitVec 32)) (p : EReal × BitVec 32) :
    l.foldl (reducer_argmax_f32_i32 (F := Ideal)) p ∈ p :: l
      ∧ ∀ q ∈ p :: l, Dom (l.foldl (reducer_argmax_f32_i32 (F := Ideal)) p) q := by
  induction l generalizing p with
  | nil => exact ⟨by simp, fun q hq => by rw [List.mem_singleton.1 hq]; exact Dom.refl _⟩
  | cons a l ih =>
    obtain ⟨h1, h2, h3⟩ := reducer_spec p a
    obtain ⟨i1, i2⟩ := ih (reducer_argmax_f32_i32 (F := Ideal) p a)
    have i3 := i2 _ (List.mem_cons_self ..)
    refine ⟨?_, fun q hq => ?_⟩
    · rw [List.foldl_cons]
      rcases List.mem_cons.1 i1 with i1 | i1
      · rw [i1]
        rcases h1 with h1 | h1
        · rw [h1]; exact List.mem_cons_self ..
        · rw [h1]; exact List.mem_cons_of_mem _ (List.mem_cons_self ..)
      · exact List.mem_cons_of_mem _ (List.mem_cons_of_mem _ i1)
    · rw [List.foldl_cons]
      rcases List.mem_cons.1 hq with rfl | hq
      · exact i3.trans h2
      · rcases List.mem_cons.1 hq with rfl | hq
        · exact i3.trans h3
        · exact i2 q (List.mem_cons_of_mem _ hq)

/-- An argmax over the states: the word of the first best one. -/
theorem argmax_eq {s t u : Shape} {axes : List (Fin s.rank)} (x : FVec Ideal s .f32) (y : IVec s 32) (ix : FVec Ideal u .f32)
    (iy : IVec u 32) (h : s.ReducesTo axes t) (hu : 0 < u.numel) (j : t.Idx) (L : Fin 512 → s.Idx) (f : Fin 512 → EReal)
    (hix : ix (Shape.Idx.first hu) = (⊥ : EReal)) (hiy : iy (Shape.Idx.first hu) = 0#32)
    (hL : ∀ i, h.drop i = j ↔ ∃ k, i = L k) (hx : ∀ k, x (L k) = f k) (hy : ∀ k, y (L k) = word k) :
    (Host.argReduce (reducer_argmax_f32_i32 (F := Ideal)) x y ix iy h hu j).2 = word (best f) := by
  rw [Ideal.argReduce_eq_reduce2, Host.reduce2_eq_foldl_fiber, hix, hiy]
  have hm : ∀ q, q ∈ Host.argReduceFiber x y h j ↔ ∃ k, q = (f k, word k) := by
    intro q
    unfold Host.argReduceFiber
    simp only [List.mem_map, List.mem_filter, List.mem_finRange, true_and, decide_eq_true_eq, hL]
    constructor
    · rintro ⟨n, ⟨k, hk⟩, rfl⟩
      exact ⟨k, by rw [hk, hx, hy]⟩
    · rintro ⟨k, rfl⟩
      exact ⟨s.rowMajor (L k), ⟨k, by simp⟩, by simp [hx, hy]⟩
  obtain ⟨h1, h2⟩ := foldl_reducer (Host.argReduceFiber x y h j) ((⊥ : EReal), 0#32)
  generalize (Host.argReduceFiber x y h j).foldl (reducer_argmax_f32_i32 (F := Ideal)) ((⊥ : EReal), 0#32) = r at h1 h2
  have h3 : ∀ k, Dom r (f k, word k) := fun k => h2 _ (List.mem_cons_of_mem _ ((hm _).2 ⟨k, rfl⟩))
  rcases List.mem_cons.1 h1 with h1 | h1
  · subst h1
    have hb : IsBest f 0 := by
      have hbot : ∀ k, f k = ⊥ := fun k => by
        rcases h3 k with h | ⟨h, -⟩
        · exact absurd h not_lt_bot
        · exact h
      exact ⟨fun k => by rw [hbot k]; exact bot_le, fun k _ => Fin.zero_le _⟩
    rw [← hb.eq]
    rfl
  · obtain ⟨k, rfl⟩ := (hm _).1 h1
    have hb : IsBest f k := by
      refine ⟨fun i => ?_, fun i hi => ?_⟩
      · rcases h3 i with h | ⟨h, -⟩
        · exact h.le
        · exact h.le
      · rcases h3 i with h | ⟨-, h⟩
        · exact absurd h (by rw [hi]; exact lt_irrefl _)
        · simp only [word_toInt] at h
          exact Fin.le_def.2 (by omega)
    rw [← hb.eq]

/-- A maximum over the states: the best score. -/
theorem max_eq {s t u : Shape} {axes : List (Fin s.rank)} (x : FVec Ideal s .f32) (ix : FVec Ideal u .f32)
    (h : s.ReducesTo axes t) (hu : 0 < u.numel) (j : t.Idx) (L : Fin 512 → s.Idx) (f : Fin 512 → EReal)
    (hix : ix (Shape.Idx.first hu) = (⊥ : EReal)) (hL : ∀ i, h.drop i = j ↔ ∃ k, i = L k) (hx : ∀ k, x (L k) = f k) :
    Host.reduce (FloatOps.maximumf (F := Ideal) (φ := .f32)) x ix h hu j = top f := by
  rw [Host.reduce_eq_fold, hix]
  exact fold_max_eq_top _ x L f (fun k => Finset.mem_filter.2 ⟨Finset.mem_univ _, (hL _).2 ⟨k, rfl⟩⟩)
    (fun i hi => (hL i).1 (Finset.mem_filter.1 hi).2) hx

end Cert.ReferenceIdeal.Hand

end
-- ==== Proof.Ref.Entries.lean ====
/-
  The entries of the reference's other terms.
-/
module

public import proofs.«01_k».proof.Proof.Ref.Lookup
public import proofs.«01_k».proof.Proof.Ref.ArgMax
public import Idealize.ShloMosaic.Lib.Pipeline.Value

@[expose] public section

noncomputable section

namespace Cert.ReferenceIdeal.Hand

open Idealize.ShloMosaic hiding ix1 ix2 ix3 eq_ix1 eq_ix2 eq_ix3
open Idealize.ShloMosaic.ValueIdx Cert.ReferenceIdeal Cert.Spec
open Facts₀ Facts

/-! ## Before the first loop -/

theorem firstTerm_apply (p : FVec Ideal S512 .f32) (x : FVec Ideal S64x512x512 .f32) (b : Fin 64) (s : Fin 512) :
    firstTerm p x (ix2 b s) = p (ix1 s) + x (ix3 b 0 s) := by
  unfold firstTerm
  refine congrArg₂ (fun u v : EReal => u + v) (congrArg p (funext fun a => ?_)) ?_
  · match a with
    | ⟨0, _⟩ => rfl
  · refine (shapeCast_apply _ shapeCasts_S64x1x512_S64x512 (ix2 b s) (ix3 b 0 s) ?_).trans (congrArg x (funext fun a => ?_))
    · rw [Shape.rowMajor_val_three, Shape.rowMajor_val_two]
      show (b.val * 1 + 0) * 512 + s.val = b.val * 512 + s.val
      omega
    · match a with
      | ⟨0, _⟩ => exact Fin.ext (Nat.zero_add _)
      | ⟨1, _⟩ => rfl
      | ⟨2, _⟩ => exact Fin.ext (Nat.zero_add _)

theorem restTerm_apply (x : FVec Ideal S64x512x512 .f32) (k : Fin 511) (b : Fin 64) (s : Fin 512) :
    restTerm x (ix3 k b s) = x (ix3 b ⟨k.val + 1, by omega⟩ s) := by
  unfold restTerm
  refine congrArg x (funext fun a => Fin.ext ?_)
  match a with
  | ⟨0, _⟩ => exact Nat.zero_add _
  | ⟨1, _⟩ => exact Nat.add_comm 1 k.val
  | ⟨2, _⟩ => exact Nat.zero_add _

/-! ## A step's row, and a step's row kept -/

theorem slices_row (k : Fin 511) : S511x64x512.Slices (![k.val, 0, 0] : Fin 3 → Nat) S1x64x512 :=
  ⟨rfl, fun a => match a with
    | ⟨0, _⟩ => by show k.val + 1 ≤ 511; omega
    | ⟨1, _⟩ => by show 0 + 64 ≤ 64; omega
    | ⟨2, _⟩ => by show 0 + 512 ≤ 512; omega⟩

theorem rowTerm_apply {α : Type} (x : S511x64x512.Idx → α) (i z z' : IVec S_ 32) (k : Fin 511) (hi : ∀ y, (i y).toInt = k.val)
    (hz : ∀ y, (z y).toInt = 0) (hz' : ∀ y, (z' y).toInt = 0) (b : Fin 64) (s : Fin 512) :
    rowTerm x i z z' (ix2 b s) = x (ix3 k b s) := by
  unfold rowTerm
  rw [Host.dynamicSlice_eq_extractStridedSlice S1x64x512 x _ (![k.val, 0, 0] : Fin 3 → Nat) _ (slices_row k) (fun a => match a with
    | ⟨0, _⟩ => hi _
    | ⟨1, _⟩ => hz _
    | ⟨2, _⟩ => hz' _)]
  refine (shapeCast_1ab_ab_apply _ _ b s).trans (congrArg x (funext fun a => Fin.ext ?_))
  match a with
  | ⟨0, _⟩ => exact Nat.add_zero _
  | ⟨1, _⟩ => exact Nat.zero_add _
  | ⟨2, _⟩ => exact Nat.zero_add _

theorem keepTerm_apply (x : IVec S511x64x512 32) (u : IVec S64x512 32) (i z z' : IVec S_ 32) (k : Fin 511) (hi : ∀ y, (i y).toInt = k.val)
    (hz : ∀ y, (z y).toInt = 0) (hz' : ∀ y, (z' y).toInt = 0) (j : Fin 511) (b : Fin 64) (s : Fin 512) :
    keepTerm x u i z z' (ix3 j b s) = if j = k then u (ix2 b s) else x (ix3 j b s) := by
  unfold keepTerm
  rw [Host.dynamicUpdateSlice_eq_updateSlice x _ _ _ (![k.val, 0, 0] : Fin 3 → Nat) (fun a => match a with
    | ⟨0, _⟩ => by
      show (min (max (i _).toInt 0) ((511 - 1 : Nat) : Int)).toNat = k.val
      rw [hi]; omega
    | ⟨1, _⟩ => by
      show (min (max (z _).toInt 0) ((64 - 64 : Nat) : Int)).toNat = 0
      rw [hz]; rfl
    | ⟨2, _⟩ => by
      show (min (max (z' _).toInt 0) ((512 - 512 : Nat) : Int)).toNat = 0
      rw [hz']; rfl) (slices_row k)]
  unfold updateSlice
  split
  · rename_i h
    have h0 : k.val ≤ j.val ∧ j.val < k.val + 1 := h 0
    rw [if_pos (Fin.ext (by omega))]
    refine congrArg u (funext fun a => ?_)
    match a with
    | ⟨0, _⟩ => rfl
    | ⟨1, _⟩ => rfl
  · rename_i h
    rw [if_neg]
    rintro rfl
    refine h fun a => ?_
    match a with
    | ⟨0, _⟩ => exact ⟨Nat.le_refl _, Nat.lt_succ_self _⟩
    | ⟨1, _⟩ => exact ⟨Nat.zero_le _, by show b.val < 0 + 64; omega⟩
    | ⟨2, _⟩ => exact ⟨Nat.zero_le _, by show s.val < 0 + 512; omega⟩

/-! ## The step -/

theorem sumTerm_apply (v : FVec Ideal S64x512 .f32) (t : FVec Ideal S512x512 .f32) (b : Fin 64) (i s : Fin 512) :
    sumTerm v t (ix3 b i s) = v (ix2 b i) + t (ix2 i s) := by
  unfold sumTerm
  refine congrArg₂ (fun u v : EReal => u + v) (congrArg v (funext fun a => ?_)) (congrArg t (funext fun a => ?_))
  · match a with
    | ⟨0, _⟩ => rfl
    | ⟨1, _⟩ => rfl
  · match a with
    | ⟨0, _⟩ => rfl
    | ⟨1, _⟩ => rfl

/-- The word of minus infinity. -/
theorem word_bot : Ideal.ofBits .f32 0xFF800000#32 = ⊥ := by simp [Ideal.ofBits, Ideal.ieee]

/-- The indices that reduce to a sequence's state are its pairs with every previous state. -/
theorem drop_pair (b : Fin 64) (s : Fin 512) (i : S64x512x512.Idx) :
    (reducesTo_S64x512x512_S64x512_d1.drop i = (ix2 b s : S64x512.Idx)) ↔ ∃ k : Fin 512, i = ix3 b k s := by
  constructor
  · intro h
    refine ⟨i 1, ?_⟩
    have h0 : (i 0).val = b.val := (reducesTo_S64x512x512_S64x512_d1.drop_apply_val_of_eq i 0 0).symm.trans (congrArg (fun j : S64x512.Idx => (j 0).val) h)
    have h2 : (i 2).val = s.val := (reducesTo_S64x512x512_S64x512_d1.drop_apply_val_of_eq i 1 2).symm.trans (congrArg (fun j : S64x512.Idx => (j 1).val) h)
    funext a
    match a with
    | ⟨0, _⟩ => exact Fin.ext h0
    | ⟨1, _⟩ => rfl
    | ⟨2, _⟩ => exact Fin.ext h2
  · rintro ⟨k, rfl⟩
    funext a
    match a with
    | ⟨0, _⟩ => exact Fin.ext (reducesTo_S64x512x512_S64x512_d1.drop_apply_val_of_eq (ix3 b k s : S64x512x512.Idx) 0 0)
    | ⟨1, _⟩ => exact Fin.ext (reducesTo_S64x512x512_S64x512_d1.drop_apply_val_of_eq (ix3 b k s : S64x512x512.Idx) 1 2)

/-! ## Between the loops -/

theorem drop_state (b : Fin 64) (i : S64x512.Idx) : (reducesTo_S64x512_S64_d1.drop i = (ix1 b : S64.Idx)) ↔ ∃ k : Fin 512, i = ix2 b k := by
  constructor
  · intro h
    refine ⟨i 1, ?_⟩
    have h0 : (i 0).val = b.val := (reducesTo_S64x512_S64_d1.drop_apply_val_of_eq i 0 0).symm.trans (congrArg (fun j : S64.Idx => (j 0).val) h)
    funext a
    match a with
    | ⟨0, _⟩ => exact Fin.ext h0
    | ⟨1, _⟩ => rfl
  · rintro ⟨k, rfl⟩
    funext a
    match a with
    | ⟨0, _⟩ => exact Fin.ext (reducesTo_S64x512_S64_d1.drop_apply_val_of_eq (ix2 b k : S64x512.Idx) 0 0)

theorem lastTerm_apply (x : FVec Ideal S64x512 .f32) (b : Fin 64) : lastTerm x (ix1 b) = word (best fun i => x (ix2 b i)) :=
  argmax_eq x (iotaInDim S64x512 32 1) _ _ reducesTo_S64x512_S64_d1 h_S_ (ix1 b) (fun i => ix2 b i) _ word_bot rfl
    (drop_state b) (fun _ => rfl) (fun _ => rfl)

/-! ## The second loop -/

theorem col_apply (x : IVec S64 32) (b : Fin 64) : (broadcastInDim S64x1 ![0] bcast_S64_S64x1_0 x : IVec S64x1 32) (ix2 b 0) = x (ix1 b) := by
  refine congrArg x (funext fun a => ?_)
  match a with
  | ⟨0, _⟩ => rfl

theorem flat_apply (x : IVec S64x1 32) (b : Fin 64) : shapeCast S64 x shapeCasts_S64x1_S64 (ix1 b) = x (ix2 b 0) := by
  refine shapeCast_apply x shapeCasts_S64x1_S64 (ix1 b) (ix2 b 0) ?_
  rw [Shape.rowMajor_val_two, Shape.rowMajor_val_one]
  show b.val * 1 + 0 = b.val
  omega

theorem slices_step (k : Fin 511) : S511x64.Slices (![k.val, 0] : Fin 2 → Nat) S1x64 :=
  ⟨rfl, fun a => match a with
    | ⟨0, _⟩ => by show k.val + 1 ≤ 511; omega
    | ⟨1, _⟩ => by show 0 + 64 ≤ 64; omega⟩

theorem storeTerm_apply (x : IVec S511x64 32) (u : IVec S64 32) (i z : IVec S_ 32) (k : Fin 511) (hi : ∀ y, (i y).toInt = k.val)
    (hz : ∀ y, (z y).toInt = 0) (j : Fin 511) (b : Fin 64) :
    storeTerm x u i z (ix2 j b) = if j = k then u (ix1 b) else x (ix2 j b) := by
  unfold storeTerm
  rw [Host.dynamicUpdateSlice_eq_updateSlice x _ _ _ (![k.val, 0] : Fin 2 → Nat) (fun a => match a with
    | ⟨0, _⟩ => by
      show (min (max (i _).toInt 0) ((511 - 1 : Nat) : Int)).toNat = k.val
      rw [hi]; omega
    | ⟨1, _⟩ => by
      show (min (max (z _).toInt 0) ((64 - 64 : Nat) : Int)).toNat = 0
      rw [hz]; rfl) (slices_step k)]
  unfold updateSlice
  split
  · rename_i h
    have h0 : k.val ≤ j.val ∧ j.val < k.val + 1 := h 0
    rw [if_pos (Fin.ext (by omega))]
    refine congrArg u (funext fun a => ?_)
    match a with
    | ⟨0, _⟩ => rfl
  · rename_i h
    rw [if_neg]
    rintro rfl
    refine h fun a => ?_
    match a with
    | ⟨0, _⟩ => exact ⟨Nat.le_refl _, Nat.lt_succ_self _⟩
    | ⟨1, _⟩ => exact ⟨Nat.zero_le _, by show b.val < 0 + 64; omega⟩

/-! ## After the second loop -/

theorem endTerm_early (x : IVec S511x64 32) (u : IVec S64 32) (b : Fin 64) (t : Fin 512) (ht : t.val < 511) :
    endTerm x u (ix2 b t) = x (ix2 ⟨t.val, ht⟩ b) := by
  unfold endTerm
  refine (concatenate_pair_apply_left 1 _ _ concatenates_S64x511_S64x1_S64x512_d1 (ix2 b t) rfl (ix2 b ⟨t.val, ht⟩) fun a => ?_).trans
    (transpose_ix2_apply _ _ _ _)
  match a with
  | ⟨0, _⟩ => rfl
  | ⟨1, _⟩ => rfl

theorem endTerm_last (x : IVec S511x64 32) (u : IVec S64 32) (b : Fin 64) (t : Fin 512) (ht : t.val = 511) :
    endTerm x u (ix2 b t) = u (ix1 b) := by
  unfold endTerm
  refine (concatenate_pair_apply_right 1 _ _ concatenates_S64x511_S64x1_S64x512_d1 (ix2 b t) rfl rfl (ix2 b 0) (fun a ha => ?_) ?_).trans
    (col_apply _ _)
  · match a with
    | ⟨0, _⟩ => rfl
    | ⟨1, _⟩ => exact absurd rfl ha
  · show 0 + 511 = t.val
    omega

end Cert.ReferenceIdeal.Hand

end
-- ==== Proof.Ref.Best.lean ====
/-
  The entries of the reference's best previous states and of its next scores.
-/
module

public import proofs.«01_k».proof.Proof.Ref.Entries

@[expose] public section

noncomputable section

namespace Cert.ReferenceIdeal.Hand

open Idealize.ShloMosaic hiding ix1 ix2 ix3 eq_ix1 eq_ix2 eq_ix3
open Idealize.ShloMosaic.ValueIdx Cert.ReferenceIdeal Cert.Spec
open Facts₀ Facts

theorem bestPair_apply (x : FVec Ideal S64x512x512 .f32) (b : Fin 64) (s : Fin 512) :
    bestPair x (ix2 b s) = Host.argReduce reducer_argmax_f32_i32 x (iotaInDim S64x512x512 32 1) (constant S_ .f32 0xFF800000#32)
      (constantI S_ 32 0#32) reducesTo_S64x512x512_S64x512_d1 h_S_ (ix2 b s) := rfl

theorem bestPair_snd (x : FVec Ideal S64x512x512 .f32) (b : Fin 64) (s : Fin 512) :
    (bestPair x (ix2 b s)).2 = word (best fun i => x (ix3 b i s)) := by
  rw [bestPair_apply, argmax_eq x (iotaInDim S64x512x512 32 1) _ _ _ _ (ix2 b s) (fun i => ix3 b i s) (fun i => x (ix3 b i s)) word_bot
    rfl (drop_pair b s) (fun _ => rfl) (fun _ => rfl)]

theorem snd_of {ι α β : Type} (B : ι → β) (g : ι → α × β) (h : B = fun j => (g j).2) (j : ι) : B j = (g j).2 := by
  subst h
  rfl

/-- The best previous states. -/
theorem bestTerm_apply (x : FVec Ideal S64x512x512 .f32) (b : Fin 64) (s : Fin 512) :
    bestTerm x (ix2 b s) = word (best fun i => x (ix3 b i s)) :=
  (snd_of (bestTerm x) (bestPair x) rfl (ix2 b s)).trans (bestPair_snd x b s)

/-- The next scores. -/
theorem nextTerm_apply (x : FVec Ideal S64x512x512 .f32) (e : FVec Ideal S64x512 .f32) (b : Fin 64) (s : Fin 512) :
    nextTerm x e (ix2 b s) = top (fun i => x (ix3 b i s)) + e (ix2 b s) := by
  unfold nextTerm
  rw [addf_apply, max_eq x _ _ _ (ix2 b s) (fun i => ix3 b i s) (fun i => x (ix3 b i s)) word_bot (drop_pair b s) (fun _ => rfl)]

end Cert.ReferenceIdeal.Hand

end
-- ==== Proof.Ref.Loops.lean ====
/-
  What the reference's loops leave: the first the best previous states and the last scores, the second the path.
-/
module

public import proofs.«01_k».proof.Proof.Ref.Turns
public import proofs.«01_k».proof.Proof.Ref.Best

@[expose] public section

noncomputable section

namespace Cert.ReferenceIdeal.Hand

open Idealize.ShloMosaic hiding ix1 ix2 ix3 eq_ix1 eq_ix2 eq_ix3
open Idealize.ShloMosaic.ValueIdx Cert.ReferenceIdeal Cert.Spec
open Idealize.ShloMosaic.TcCoe
open Idealize.ShloMosaic.StableHlo (after afterL atTrip)
open Facts₀ Facts

variable (m : (ℓ : Loc nD τ sig) → Buf (Elt Ideal) ℓ) (c : Dev nD)

/-! ## The arguments -/

/-- The observed symbols. -/
abbrev obsArg : IVec S64x512 32 := m ((c.tc : Thread nD τ).loc main_arg0)
/-- The scores of starting in each state. -/
abbrev startArg : FVec Ideal S512 .f32 := m ((c.tc : Thread nD τ).loc main_arg1)
/-- The scores of the transitions. -/
abbrev transArg : FVec Ideal S512x512 .f32 := m ((c.tc : Thread nD τ).loc main_arg2)
/-- The scores of the emissions. -/
abbrev emisArg : FVec Ideal S512x2048 .f32 := m ((c.tc : Thread nD τ).loc main_arg3)

/-- The symbols, by sequence and time. -/
abbrev obs (b : Fin 64) (t : Fin 512) : BitVec 32 := obsArg m c (ix2 b t)
/-- The starting scores, by state. -/
abbrev sp (s : Fin 512) : EReal := startArg m c (ix1 s)
/-- The transitions' scores, by the two states. -/
abbrev tr (i j : Fin 512) : EReal := transArg m c (ix2 i j)
/-- The emissions' scores, by state and symbol. -/
abbrev em (s : Fin 512) (k : Fin 2048) : EReal := emisArg m c (ix2 s k)

/-! ## Where the first loop begins -/

theorem W1_taken (hobs : ∀ b t, (obs m c b t).toNat < 2048) (b : Fin 64) (t s : Fin 512) :
    (after takeOps (after preA (StableHlo.launchContents m c)) (Proc.devRef .tc main_v1) : FVec Ideal S64x512x512 .f32) (ix3 b t s)
      = emis (obs m c) (em m c) b t.val s := by
  rw [takeOps_v1, preA_v0, preA_keep _ (by decide)]
  refine (takeTerm_apply _ (obsArg m c) hobs b t s).trans ?_
  unfold emis
  rw [dif_pos t.isLt]
  exact transpose_ix2_apply _ _ _ _

theorem W1_rows (hobs : ∀ b t, (obs m c b t).toNat < 2048) (k : Fin 511) (b : Fin 64) (s : Fin 512) :
    (W1 m c (Proc.devRef .tc main_v10_0) : FVec Ideal S511x64x512 .f32) (ix3 k b s) = emis (obs m c) (em m c) b (k.val + 1) s := by
  unfold W1
  simp only [StableHlo.afterL_cons, StableHlo.afterL_nil]
  rw [preB_rows, restTerm_apply, W1_taken m c hobs]

theorem W1_trans : (W1 m c (Proc.devRef .tc main_v10_1) : FVec Ideal S512x512 .f32) = transArg m c := by
  unfold W1
  simp only [StableHlo.afterL_cons, StableHlo.afterL_nil]
  rw [preB_trans, takeOps_keep _ (by decide), preA_keep _ (by decide)]

theorem W1_scores (hobs : ∀ b t, (obs m c b t).toNat < 2048) (b : Fin 64) (s : Fin 512) :
    (W1 m c (Proc.devRef .tc main_v10_3) : FVec Ideal S64x512 .f32) (ix2 b s) = score (sp m c) (tr m c) (emis (obs m c) (em m c) b) 0 s := by
  unfold W1
  simp only [StableHlo.afterL_cons, StableHlo.afterL_nil]
  rw [preB_scores, firstTerm_apply, W1_taken m c hobs, takeOps_keep _ (by decide), preA_keep _ (by decide)]
  rfl

/-! ## The first loop -/

/-- The arrays before the first loop's `k`-th turn. -/
def A0 (k : ℕ) : Valuation τ sig (Elt Ideal) := atTrip cond0 body0I (W1 m) k c

theorem A0_succ (k : ℕ) : A0 m c (k + 1) = afterL body0I (after cond0 (A0 m c k)) := StableHlo.atTrip_succ ..

theorem A0_counter (k : ℕ) : A0 m c k (Proc.devRef .tc main_v10_2) = counter k := count0 (W1 m) (fun c => start0 m c) c k

theorem W2_eq : W2 m c = after cond0 (A0 m c 511) := rfl

theorem A0_count (k : ℕ) (hk : k ≤ 511) (y : S_.Idx) :
    ((after cond0 (A0 m c k) (Proc.devRef .tc main_v10_2) : IVec S_ 32) y).toInt = k := by
  rw [cond0_keep _ (by decide), A0_counter]
  show (Scf.iv 0#32 1#32 k).toInt = k
  rw [Scf.toInt_iv Cert.ReferenceIdeal.Gen.main_while0_ok (trips_eq ▸ hk)]
  simp

theorem A0_rows (k : ℕ) : (A0 m c k (Proc.devRef .tc main_v10_0) : FVec Ideal S511x64x512 .f32) = W1 m c (Proc.devRef .tc main_v10_0) := by
  induction k with
  | zero => rfl
  | succ k ih => rw [A0_succ, body0_rows, cond0_keep _ (by decide), ih]

theorem A0_trans (k : ℕ) : (A0 m c k (Proc.devRef .tc main_v10_1) : FVec Ideal S512x512 .f32) = transArg m c := by
  induction k with
  | zero => exact W1_trans m c
  | succ k ih => rw [A0_succ, body0_trans, cond0_keep _ (by decide), ih]

/-- In a turn, every score plus every transition. -/
theorem A0_sums (k : ℕ) (b : Fin 64)
    (h : ∀ s, (A0 m c k (Proc.devRef .tc main_v10_3) : FVec Ideal S64x512 .f32) (ix2 b s) = score (sp m c) (tr m c) (emis (obs m c) (em m c) b) k s)
    (i s : Fin 512) :
    sums0 (after cond0 (A0 m c k)) (ix3 b i s) = score (sp m c) (tr m c) (emis (obs m c) (em m c) b) k i + tr m c i s := by
  rw [sums0, sumTerm_apply, cond0_keep _ (by decide), cond0_keep _ (by decide), A0_trans, h i]

theorem A0_scores (hobs : ∀ b t, (obs m c b t).toNat < 2048) (b : Fin 64) (k : ℕ) (hk : k ≤ 511) :
    ∀ s, (A0 m c k (Proc.devRef .tc main_v10_3) : FVec Ideal S64x512 .f32) (ix2 b s) = score (sp m c) (tr m c) (emis (obs m c) (em m c) b) k s := by
  induction k with
  | zero => exact fun s => W1_scores m c hobs b s
  | succ k ih =>
    intro s
    have ih := ih (Nat.le_of_succ_le hk)
    rw [A0_succ, body0_scores, nextTerm_apply]
    rw [rowTerm_apply _ _ _ _ ⟨k, hk⟩ (fun y => A0_count m c k (Nat.le_of_succ_le hk) y) (fun _ => rfl) (fun _ => rfl),
      cond0_keep _ (by decide), A0_rows, W1_rows m c hobs]
    exact congrArg (fun f => top f + emis (obs m c) (em m c) b (k + 1) s) (funext fun i => A0_sums m c k b ih i s)

theorem A0_kept (hobs : ∀ b t, (obs m c b t).toNat < 2048) (b : Fin 64) (k : ℕ) (hk : k ≤ 511) :
    ∀ (j : Fin 511), j.val < k → ∀ s, (A0 m c k (Proc.devRef .tc main_v10_4) : IVec S511x64x512 32) (ix3 j b s)
      = word (back (sp m c) (tr m c) (emis (obs m c) (em m c) b) j.val s) := by
  induction k with
  | zero => exact fun j hj => absurd hj (Nat.not_lt_zero _)
  | succ k ih =>
    intro j hj s
    rw [A0_succ, body0_kept,
      keepTerm_apply _ _ _ _ _ ⟨k, hk⟩ (fun y => A0_count m c k (Nat.le_of_succ_le hk) y) (fun _ => rfl) (fun _ => rfl)]
    split
    · rename_i e
      subst e
      rw [bestTerm_apply]
      exact congrArg (fun f => word (best f)) (funext fun i => A0_sums m c k b (A0_scores m c hobs b k (Nat.le_of_succ_le hk)) i s)
    · rename_i e
      rw [cond0_keep _ (by decide)]
      exact ih (Nat.le_of_succ_le hk) j (Nat.lt_of_le_of_ne (Nat.le_of_lt_succ hj) fun h => e (Fin.ext h)) s

/-! ## Between the loops -/

theorem W3_kept (hobs : ∀ b t, (obs m c b t).toNat < 2048) (j : Fin 511) (b : Fin 64) (s : Fin 512) :
    (W3 m c (Proc.devRef .tc main_v13_0) : IVec S511x64x512 32) (ix3 j b s)
      = word (back (sp m c) (tr m c) (emis (obs m c) (em m c) b) j.val s) := by
  unfold W3
  simp only [StableHlo.afterL_cons, StableHlo.afterL_nil]
  rw [midOps_kept, lastOps_keep _ (by decide)]
  rw [W2_eq, cond0_keep _ (by decide)]
  exact A0_kept m c hobs b 511 (Nat.le_refl _) j j.isLt s

theorem last_state (hobs : ∀ b t, (obs m c b t).toNat < 2048) (b : Fin 64) :
    (after lastOps (W2 m c) (Proc.devRef .tc main_v11) : IVec S64 32) (ix1 b)
      = word (walk (sp m c) (tr m c) (emis (obs m c) (em m c) b) 0) := by
  rw [lastOps_v11, lastTerm_apply]
  rw [W2_eq, cond0_keep _ (by decide)]
  exact congrArg (fun f => word (best f)) (funext fun s => A0_scores m c hobs b 511 (Nat.le_refl _) s)

theorem W3_last (hobs : ∀ b t, (obs m c b t).toNat < 2048) (b : Fin 64) :
    (W3 m c (Proc.devRef .tc main_v11) : IVec S64 32) (ix1 b) = word (walk (sp m c) (tr m c) (emis (obs m c) (em m c) b) 0) := by
  unfold W3
  simp only [StableHlo.afterL_cons, StableHlo.afterL_nil]
  rw [midOps_keep _ (by decide)]
  exact last_state m c hobs b

theorem W3_state (hobs : ∀ b t, (obs m c b t).toNat < 2048) (b : Fin 64) :
    (W3 m c (Proc.devRef .tc main_v13_2) : IVec S64 32) (ix1 b) = word (walk (sp m c) (tr m c) (emis (obs m c) (em m c) b) 0) := by
  unfold W3
  simp only [StableHlo.afterL_cons, StableHlo.afterL_nil]
  rw [midOps_state]
  exact last_state m c hobs b

/-! ## The second loop -/

/-- The arrays before the second loop's `k`-th turn. -/
def A1 (k : ℕ) : Valuation τ sig (Elt Ideal) := atTrip cond1 body1I (W3 m) k c

theorem A1_succ (k : ℕ) : A1 m c (k + 1) = afterL body1I (after cond1 (A1 m c k)) := StableHlo.atTrip_succ ..

theorem A1_counter (k : ℕ) : A1 m c k (Proc.devRef .tc main_v13_1) = counter k := count1 (W3 m) (fun c => start1 m c) c k

theorem W4_eq : W4 m c = after cond1 (A1 m c 511) := rfl

theorem A1_kept (k : ℕ) : (A1 m c k (Proc.devRef .tc main_v13_0) : IVec S511x64x512 32) = W3 m c (Proc.devRef .tc main_v13_0) := by
  induction k with
  | zero => rfl
  | succ k ih => rw [A1_succ, body1_kept, cond1_keep _ (by decide), ih]

theorem A1_last (k : ℕ) : (A1 m c k (Proc.devRef .tc main_v11) : IVec S64 32) = W3 m c (Proc.devRef .tc main_v11) := by
  induction k with
  | zero => rfl
  | succ k ih => rw [A1_succ, body1_last, cond1_keep _ (by decide), ih]

/-- The step the `k`-th turn walks back to, as a word. -/
theorem step_word (k : ℕ) (hk : k < 511) : ((511#32 - Scf.iv 0#32 1#32 k) - 1#32 : BitVec 32).toInt = (510 - k : ℕ) := by
  have e : ((511#32 - Scf.iv 0#32 1#32 k) - 1#32 : BitVec 32) = BitVec.ofNat 32 (510 - k) := by
    apply BitVec.eq_of_toNat_eq
    unfold Scf.iv
    simp only [BitVec.toNat_sub, BitVec.toNat_add, BitVec.toNat_mul, BitVec.toNat_ofNat]
    omega
  rw [e, BitVec.toInt_eq_toNat_of_lt] <;> simp only [BitVec.toNat_ofNat] <;> omega

theorem A1_step (k : ℕ) (hk : k < 511) (y : S_.Idx) : (step1 (after cond1 (A1 m c k)) y).toInt = (510 - k : ℕ) := by
  rw [step1, cond1_keep _ (by decide), A1_counter]
  exact step_word k hk

theorem A1_states (hobs : ∀ b t, (obs m c b t).toNat < 2048) (k : ℕ) (hk : k < 511)
    (h : ∀ b, (A1 m c k (Proc.devRef .tc main_v13_2) : IVec S64 32) (ix1 b) = word (walk (sp m c) (tr m c) (emis (obs m c) (em m c) b) k))
    (b : Fin 64) : states1 (after cond1 (A1 m c k)) (ix1 b) = word (walk (sp m c) (tr m c) (emis (obs m c) (em m c) b) (k + 1)) := by
  rw [states1, flat_apply, alongTerm_apply _ _ (fun b => walk (sp m c) (tr m c) (emis (obs m c) (em m c) b) k) (fun b => ?_),
    rowTerm_apply _ _ _ _ ⟨510 - k, by omega⟩ (fun y => A1_step m c k hk y) (fun _ => rfl) (fun _ => rfl),
    cond1_keep _ (by decide), A1_kept, W3_kept m c hobs]
  · show _ = word (back _ _ _ (511 - (k + 1)) _)
    rw [show 511 - (k + 1) = 510 - k by omega]
  · rw [col_apply, cond1_keep _ (by decide)]
    exact h b

theorem A1_state (hobs : ∀ b t, (obs m c b t).toNat < 2048) (k : ℕ) (hk : k ≤ 511) :
    ∀ b, (A1 m c k (Proc.devRef .tc main_v13_2) : IVec S64 32) (ix1 b) = word (walk (sp m c) (tr m c) (emis (obs m c) (em m c) b) k) := by
  induction k with
  | zero => exact fun b => W3_state m c hobs b
  | succ k ih =>
    intro b
    rw [A1_succ, body1_state]
    exact A1_states m c hobs k hk (ih (Nat.le_of_succ_le hk)) b

theorem A1_path (hobs : ∀ b t, (obs m c b t).toNat < 2048) (b : Fin 64) (k : ℕ) (hk : k ≤ 511) :
    ∀ t : Fin 511, 511 - k ≤ t.val → (A1 m c k (Proc.devRef .tc main_v13_3) : IVec S511x64 32) (ix2 t b)
      = word (walk (sp m c) (tr m c) (emis (obs m c) (em m c) b) (511 - t.val)) := by
  induction k with
  | zero => exact fun t ht => absurd t.isLt (by omega)
  | succ k ih =>
    intro t ht
    rw [A1_succ, body1_path,
      storeTerm_apply _ _ _ _ ⟨510 - k, by omega⟩ (fun y => A1_step m c k hk y) (fun _ => rfl)]
    split
    · rename_i e
      have e : 511 - t.val = k + 1 := by
        have : t.val = 510 - k := congrArg Fin.val e
        omega
      rw [A1_states m c hobs k hk (A1_state m c hobs k (Nat.le_of_succ_le hk)) b, e]
    · rename_i e
      rw [cond1_keep _ (by decide)]
      have : t.val ≠ 510 - k := fun h => e (Fin.ext h)
      exact ih (Nat.le_of_succ_le hk) t (by omega)

/-! ## The result -/

/-- The reference's result is the path. -/
theorem result_eq (hobs : ∀ b t, (obs m c b t).toNat < 2048) :
    (W5 m c (Proc.devRef .tc main_v16) : IVec S64x512 32) = fun y => path (obs m c) (sp m c) (tr m c) (em m c) (y 0) (y 1) := by
  funext y
  obtain ⟨b, t, rfl⟩ : ∃ (b : Fin 64) (t : Fin 512), y = ix2 b t := ⟨y 0, y 1, eq_ix2 y⟩
  show _ = word (walk (sp m c) (tr m c) (emis (obs m c) (em m c) b) (511 - t.val))
  unfold W5
  simp only [StableHlo.afterL_cons, StableHlo.afterL_nil]
  rw [postOps_v16, W4_eq]
  by_cases ht : t.val < 511
  · rw [endTerm_early _ _ b t ht, cond1_keep _ (by decide)]
    exact A1_path m c hobs b 511 (Nat.le_refl _) ⟨t.val, ht⟩ (by omega)
  · have e : t.val = 511 := by omega
    rw [endTerm_last _ _ b t e, cond1_keep (r := main_v11) _ (by decide), A1_last, W3_last m c hobs, e]

end Cert.ReferenceIdeal.Hand

end
-- ==== Proof.Spec.Pre.lean ====
/-
  The precondition, entry by entry: every symbol is below 2048, and no score of a transition or an emission is infinite.
-/
module

public import proofs.«01_k».proof.Pre_symbols_named_scores_finite
public import Idealize.ShloMosaic.PureOps.Ideal.Laws
public import Idealize.ShloMosaic.Lib.StableHlo.Predicate

@[expose] public section

noncomputable section

namespace Cert.Spec

open Idealize.ShloMosaic
open Cert.Pre_symbols_named_scores_finite (S64x512 S512 S512x512 S512x2048 S_)

/-- The side conditions of the precondition's broadcasts. -/
theorem preFacts : Cert.Pre_symbols_named_scores_finite.Facts := ⟨by decide, by decide, by decide⟩

/-- The word of infinity. -/
theorem word_top : Ideal.ofBits .f32 0x7F800000#32 = ⊤ := by simp [Ideal.ofBits, Ideal.ieee]

/-- A number whose magnitude is below infinity, less itself, is zero. -/
theorem sub_self_of_finite (x : EReal) (h : Ideal.cmp .olt (max x (-x)) (Ideal.ofBits .f32 0x7F800000#32) = 1#1) : x - x = 0 := by
  rw [word_top] at h
  have hlt : max x (-x) < ⊤ := by
    by_contra hn
    simp [Ideal.cmp, hn] at h
  have h1 : x ≠ ⊤ := fun e => absurd (lt_of_le_of_lt (le_max_left x (-x)) hlt) (by simp [e])
  have h2 : x ≠ ⊥ := fun e => absurd (lt_of_le_of_lt (le_max_right x (-x)) hlt) (by simp [e])
  exact EReal.sub_self h1 h2

/-- A word between 0 and 2047 as an integer is below 2048. -/
theorem lt_of_range (w : BitVec 32) (h : IntOp.andi (IntOp.cmpi .sge w 0#32) (IntOp.cmpi .slt w 2048#32) = 1#1) : w.toNat < 2048 := by
  have h' : (0#32).sle w = true ∧ w.slt 2048#32 = true := by
    revert h
    simp only [IntOp.andi, IntOp.cmpi]
    cases (0#32).sle w <;> cases w.slt 2048#32 <;> decide
  simp only [BitVec.sle, BitVec.slt, decide_eq_true_eq] at h'
  have h1 : (0 : Int) ≤ w.toInt := h'.1
  have h2 : w.toInt < (2048 : Int) := h'.2
  rw [BitVec.toInt_eq_toNat_cond] at h1 h2
  split at h1 <;> omega

section

variable [Cert.Pre_symbols_named_scores_finite.Facts]
variable (a : IVec S64x512 32) (p : FVec Ideal S512 .f32) (t : FVec Ideal S512x512 .f32) (e : FVec Ideal S512x2048 .f32)

theorem pre_symbols (h : (Cert.Pre_symbols_named_scores_finite.fn a p t e).1 = fun _ => 1#1) (y : S64x512.Idx) : (a y).toNat < 2048 :=
  lt_of_range _ (congrFun h y)

theorem pre_trans (h : (Cert.Pre_symbols_named_scores_finite.fn a p t e).2.1 = fun _ => 1#1) (y : S512x512.Idx) : (t y - t y : EReal) = 0 :=
  sub_self_of_finite _ (congrFun h y)

theorem pre_emis (h : (Cert.Pre_symbols_named_scores_finite.fn a p t e).2.2 = fun _ => 1#1) (y : S512x2048.Idx) : (e y - e y : EReal) = 0 :=
  sub_self_of_finite _ (congrFun h y)

end

end Cert.Spec

end
-- ==== Proof.lean ====
/-
  The claims, put together.
-/
module

public import proofs.«01_k».proof.Defs
public import proofs.«01_k».proof.Proof.Ideal.Transfer
public import proofs.«01_k».proof.Proof.Gen.KernelIdeal
public import proofs.«01_k».proof.Proof.Ref.Run
public import proofs.«01_k».proof.Proof.Ideal.Result
public import proofs.«01_k».proof.Proof.Ref.Loops
public import proofs.«01_k».proof.Proof.Spec.Pre

@[expose] public section

noncomputable section

namespace Cert.Proof

open Idealize.ShloMosaic Idealize.SL.Sem Cert.Kernel

/-- The kernel runs over the reals, and leaves its arguments and its semaphores as they were. -/
theorem frameKernelIdeal : quiescent_KernelIdeal (hKernelIdeal := Cert.KernelIdeal.Gen.facts) := fun m ρ _ =>
  θ_run_mono (Cert.KernelIdeal.Hand.run (F := Ideal) m ρ) fun _ h => ⟨fun c => (h.1 c).2, h.2⟩

/-- The reference runs over the reals, and leaves its arguments and its semaphores as they were. -/
theorem frameReferenceIdeal : quiescent_ReferenceIdeal (hReferenceIdeal := Cert.ReferenceIdeal.Gen.facts) := fun m ρ _ =>
  θ_run_mono (Cert.ReferenceIdeal.Hand.run (F := Ideal) m ρ) fun _ h => ⟨fun c => (h.1 c).2, h.2⟩

/-- The kernel's result and the reference's are the same path. -/
theorem results_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Pre_KernelIdeal_symbols_named_scores_finite (hPre_symbols_named_scores_finite := Cert.Spec.preFacts) m) (c : Dev Cert.KernelIdeal.nD)
    (h0 : Cert.ReferenceIdeal.Hand.obsArg m' c = Cert.KernelIdeal.Hand.obsArg m c)
    (h1 : Cert.ReferenceIdeal.Hand.startArg m' c = Cert.KernelIdeal.Hand.startArg m c)
    (h2 : Cert.ReferenceIdeal.Hand.transArg m' c = Cert.KernelIdeal.Hand.transArg m c)
    (h3 : Cert.ReferenceIdeal.Hand.emisArg m' c = Cert.KernelIdeal.Hand.emisArg m c) :
    (Cert.ReferenceIdeal.Hand.W5 m' c (Proc.devRef .tc Cert.ReferenceIdeal.main_v16) : IVec Cert.ReferenceIdeal.S64x512 32)
      = Cert.KernelIdeal.Hand.result m c := by
  letI := Cert.Spec.preFacts
  have hs := Cert.Spec.pre_symbols _ _ _ _ (hpre c).1
  rw [Cert.KernelIdeal.Hand.result_eq m c (fun b t => hs _) (Cert.Spec.pre_trans _ _ _ _ (hpre c).2.1) (Cert.Spec.pre_emis _ _ _ _ (hpre c).2.2)]
  rw [Cert.ReferenceIdeal.Hand.result_eq m' c (fun b t => by rw [Cert.ReferenceIdeal.Hand.obs, h0]; exact hs _)]
  unfold Cert.ReferenceIdeal.Hand.obs Cert.ReferenceIdeal.Hand.sp Cert.ReferenceIdeal.Hand.tr Cert.ReferenceIdeal.Hand.em
  rw [h0, h1, h2, h3]
  rfl

/-- From equal arguments of which the precondition holds, the kernel and the reference end with equal results over the reals. -/
theorem algebraic : algebraic_KernelIdeal_ReferenceIdeal_pre_symbols_named_scores_finite (hKernelIdeal := Cert.KernelIdeal.Gen.facts)
    (hReferenceIdeal := Cert.ReferenceIdeal.Gen.facts) (hPre_symbols_named_scores_finite := Cert.Spec.preFacts) := fun m g m' g' hpre hargs =>
  ⟨fun c => Cert.KernelIdeal.Hand.result m c,
    θ_run_mono (Cert.KernelIdeal.Hand.run (F := Ideal) m g) fun _ h c => h.1 c,
    θ_run_mono (Cert.ReferenceIdeal.Hand.run (F := Ideal) m' g') fun _ h c =>
      ⟨(h.1 c).1.trans (results_eq m m' hpre c (hargs c).1 (hargs c).2.1 (hargs c).2.2.1 (hargs c).2.2.2), (h.1 c).2⟩⟩

theorem claim : Cert.Claim :=
  ⟨Cert.Kernel.Gen.facts, Cert.KernelIdeal.Gen.facts, Cert.ReferenceIdeal.Gen.facts, Cert.Spec.preFacts,
    Cert.Kernel.Hand.frame, frameKernelIdeal, fun m ρ _ => frameKernelIdeal m ρ trivial,
    frameReferenceIdeal, fun m ρ _ => frameReferenceIdeal m ρ trivial, trivial, algebraic⟩

end Cert.Proof

end
